-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x1024 : Shape := ⟨2, ![256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bitsLt_bf16_f32 : FTy.bits .bf16 < FTy.bits .f32
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S256x1024 .bf16) (main_arg1 : FVec F S1024x1024 .bf16) (main_arg2 : FVec F S1x4096x32x128 .f32) (main_arg3 : FVec F S1x4096x32x128 .f32) (main_arg4 : FVec F S1024x1024 .bf16) : IVec S_ 1 :=
  let main_v0 : FVec F S256x1024 .f32 := (extf .f32 · bitsLt_bf16_f32) main_arg0
  let main_v1 : FVec F S256x1024 .f32 := Host.absf main_v0
  let main_cst : FVec F S_ .f32 := constant S_ .f32 0x7F800000#32
  let main_v2 : FVec F S256x1024 .f32 := broadcastInDim S256x1024 ![] bcast_S_S256x1024 main_cst
  let main_v3 : IVec S256x1024 1 := cmpf .olt main_v1 main_v2
  let main_c : IVec S_ 1 := constantI S_ 1 1#1
  let main_v4 : IVec S_ 1 := (fun x v => Host.reduce IntOp.andi x v reducesTo_S256x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x4096x32x128 .f32 := Host.absf main_arg2
  let main_cst_2 : FVec F S_ .f32 := constant S_ .f32 0x7F800000#32
  let main_v12 : FVec F S1x4096x32x128 .f32 := broadcastInDim S1x4096x32x128 ![] bcast_S_S1x4096x32x128 main_cst_2
  let main_v13 : IVec S1x4096x32x128 1 := cmpf .olt main_v11 main_v12
  let main_c_3 : IVec S_ 1 := constantI S_ 1 1#1
  let main_v14 : IVec S_ 1 := (fun x v => Host.reduce IntOp.andi x v reducesTo_S1x4096x32x128_S_d0_1_2_3 h_S_) main_v13 main_c_3
  let main_v15 : IVec S_ 1 := andi main_v10 main_v14
  main_v15
-- ==== Pre_finite_ReferenceIdeal.lean ====
abbrev S1024x1024 : Shape := ⟨2, ![1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1024x1024 .bf16) (main_arg1 : FVec F S1024x4096 .bf16) (main_arg2 : FVec F S1x4096x32x128 .f32) (main_arg3 : FVec F S1x4096x32x128 .f32) (main_arg4 : FVec F S4096x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x4096 .f32 := (extf .f32 · bitsLt_bf16_f32) main_arg1
  let main_v6 : FVec F S1024x4096 .f32 := Host.absf main_v5
  let main_cst_0 : FVec F S_ .f32 := constant S_ .f32 0x7F800000#32
  let main_v7 : FVec F S1024x4096 .f32 := broadcastInDim S1024x4096 ![] bcast_S_S1024x4096 main_cst_0
  let main_v8 : IVec S1024x4096 1 := cmpf .olt main_v6 main_v7
  let main_c_1 : IVec S_ 1 := constantI S_ 1 1#1
  let main_v9 : IVec S_ 1 := (fun x v => Host.reduce IntOp.andi x v reducesTo_S1024x4096_S_d0_1 h_S_) main_v8 main_c_1
  let main_v10 : IVec S_ 1 := andi main_v4 main_v9
  let main_v11 : FVec F S1x4096x32x128 .f32 := Host.absf main_arg2
  let main_cst_2 : FVec F S_ .f32 := constant S_ .f32 0x7F800000#32
  let main_v12 : FVec F S1x4096x32x128 .f32 := broadcastInDim S1x4096x32x128 ![] bcast_S_S1x4096x32x128 main_cst_2
  let main_v13 : IVec S1x4096x32x128 1 := cmpf .olt main_v11 main_v12
  let main_c_3 : IVec S_ 1 := constantI S_ 1 1#1
  let main_v14 : IVec S_ 1 := (fun x v => Host.reduce IntOp.andi x v reducesTo_S1x4096x32x128_S_d0_1_2_3 h_S_) main_v13 main_c_3
  let main_v15 : IVec S_ 1 := andi main_v10 main_v14
  main_v15
-- ==== Kernel.lean ====
abbrev S256x1024 : Shape := ⟨2, ![256, 1024]⟩
abbrev S1024x1024 : Shape := ⟨2, ![1024, 1024]⟩
abbrev S1x4096x32x128 : Shape := ⟨4, ![1, 4096, 32, 128]⟩
abbrev S8x4096x128 : Shape := ⟨3, ![8, 4096, 128]⟩
abbrev S3x128x1024 : Shape := ⟨3, ![3, 128, 1024]⟩
abbrev S4x128x1024 : Shape := ⟨3, ![4, 128, 1024]⟩
abbrev S2x8 : Shape := ⟨2, ![2, 8]⟩
abbrev S3 : Shape := ⟨1, ![3]⟩
abbrev S1x1 : Shape := ⟨2, ![1, 1]⟩
abbrev S_ : Shape := ⟨0, ![]⟩
abbrev S1x4096x128 : Shape := ⟨3, ![1, 4096, 128]⟩
abbrev S4096x128 : Shape := ⟨2, ![4096, 128]⟩
abbrev S1x4096x1x128 : Shape := ⟨4, ![1, 4096, 1, 128]⟩
abbrev S1 : Shape := ⟨1, ![1]⟩
abbrev S1x128x1024 : Shape := ⟨3, ![1, 128, 1024]⟩
abbrev S128x1024 : Shape := ⟨2, ![128, 1024]⟩
abbrev S128x384 : Shape := ⟨2, ![128, 384]⟩
abbrev S128x128 : Shape := ⟨2, ![128, 128]⟩
abbrev S128x512 : Shape := ⟨2, ![128, 512]⟩
abbrev S1x384x128 : Shape := ⟨3, ![1, 384, 128]⟩
abbrev S384x128 : Shape := ⟨2, ![384, 128]⟩
abbrev S1x128x128 : Shape := ⟨3, ![1, 128, 128]⟩
abbrev S512x128 : Shape := ⟨2, ![512, 128]⟩
abbrev S128 : Shape := ⟨1, ![128]⟩
abbrev S128x1 : Shape := ⟨2, ![128, 1]⟩
abbrev S32x128 : Shape := ⟨2, ![32, 128]⟩
abbrev S32x4096 : Shape := ⟨2, ![32, 4096]⟩
abbrev S32 : Shape := ⟨1, ![32]⟩
abbrev S32x1 : Shape := ⟨2, ![32, 1]⟩
abbrev S32x1024 : Shape := ⟨2, ![32, 1024]⟩
abbrev S1x32x1024 : Shape := ⟨3, ![1, 32, 1024]⟩

abbrev nBuf : Space → Nat
  | .hbm => 6
  | .vmem => 14
  | .smem => 0
  | _ => 0

abbrev bufTy : (tb : Table) → Fin (tcTables nBuf tb) → BufTy
  | .hbm, ⟨0, _⟩ => ⟨S256x1024, .bf16⟩
  | .hbm, ⟨1, _⟩ => ⟨S1024x1024, .bf16⟩
  | .hbm, ⟨2, _⟩ => ⟨S1x4096x32x128, .f32⟩
  | .hbm, ⟨3, _⟩ => ⟨S1x4096x32x128, .f32⟩
  | .hbm, ⟨4, _⟩ => ⟨S1024x1024, .bf16⟩
  | .hbm, ⟨5, _⟩ => ⟨S256x1024, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S8x4096x128, .f32⟩
  | .local _ .vmem, ⟨5, _⟩ => ⟨S8x4096x128, .f32⟩
  | .local _ .vmem, ⟨6, _⟩ => ⟨S3x128x1024, .bf16⟩
  | .local _ .vmem, ⟨7, _⟩ => ⟨S3x128x1024, .bf16⟩
  | .local _ .vmem, ⟨8, _⟩ => ⟨S4x128x1024, .f32⟩
  | .local _ .vmem, ⟨9, _⟩ => ⟨S4x128x1024, .f32⟩
  | .local _ .vmem, ⟨10, _⟩ => ⟨S3x128x1024, .bf16⟩
  | .local _ .vmem, ⟨11, _⟩ => ⟨S3x128x1024, .bf16⟩
  | .local _ .vmem, ⟨12, _⟩ => ⟨S3x128x1024, .bf16⟩
  | .local _ .vmem, ⟨13, _⟩ => ⟨S3x128x1024, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 2 → Bool
  | ⟨0, _⟩ => false
  | ⟨1, _⟩ => true
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 2 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32_14 : BitVec 32) : Fin 4 → Nat :=
  let c0_i32_40 : BitVec 32 := 0#32
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v26 : BitVec 32 := Scalar.muli v2 c8_i32
  let v27 : BitVec 32 := Scalar.addi v26 c0_i32_14
  let c0_i32_47 : BitVec 32 := 0#32
  ![0, 0, v27.toNat, 0]
def k0_dev1 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_169 : BitVec 32 := 1#32
  let v155 : BitVec 32 := Scalar.muli v14 c1_i32_169
  let v156 : BitVec 32 := Scalar.addi c0_i32_170 v155
  v156.toNat
def k0_dev2 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_172 : BitVec 32 := 1#32
  let v157 : BitVec 32 := Scalar.muli v25 c1_i32_172
  let v158 : BitVec 32 := Scalar.addi c0_i32_173 v157
  v158.toNat
def k0_dev3 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_178 : BitVec 32 := 1#32
  let v159 : BitVec 32 := Scalar.muli v25 c1_i32_178
  let v160 : BitVec 32 := Scalar.addi c0_i32_179 v159
  v160.toNat
def k0_dev4 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_187 : BitVec 32 := 1#32
  let v168 : BitVec 32 := Scalar.muli v14 c1_i32_187
  let v169 : BitVec 32 := Scalar.addi c0_i32_188 v168
  v169.toNat
def k0_mult1 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let c0_i32_324 : BitVec 32 := 0#32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  v286
def k0_off2 (d0 : Dev nD) (c0_i32_324 : BitVec 32) : Fin 3 → Nat :=
  let c0_330 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  let v287 : BitVec 32 := v286
  let v309 : Index := Scalar.indexCast v287
  let c0_331 : Index := 0#32
  ![0, v309.toNat, 0]
def k0_off3 (d0 : Dev nD) (c0_i32_324 : BitVec 32) : Fin 3 → Nat :=
  let c1 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  let v287 : BitVec 32 := v286
  let v336 : Index := Scalar.indexCast v287
  let c0_345 : Index := 0#32
  ![1, v336.toNat, 0]
def k0_off4 (d0 : Dev nD) (c0_i32_324 : BitVec 32) : Fin 3 → Nat :=
  let c2 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  let v287 : BitVec 32 := v286
  let v363 : Index := Scalar.indexCast v287
  let c0_359 : Index := 0#32
  ![2, v363.toNat, 0]
def k0_off5 (d0 : Dev nD) (c0_i32_324 : BitVec 32) : Fin 3 → Nat :=
  let c3 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  let v287 : BitVec 32 := v286
  let v390 : Index := Scalar.indexCast v287
  let c0_373 : Index := 0#32
  ![3, v390.toNat, 0]
def k0_off6 (d0 : Dev nD) (c0_i32_324 : BitVec 32) : Fin 3 → Nat :=
  let c4 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  let v287 : BitVec 32 := v286
  let v417 : Index := Scalar.indexCast v287
  let c0_387 : Index := 0#32
  ![4, v417.toNat, 0]
def k0_off7 (d0 : Dev nD) (c0_i32_324 : BitVec 32) : Fin 3 → Nat :=
  let c5 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  let v287 : BitVec 32 := v286
  let v444 : Index := Scalar.indexCast v287
  let c0_401 : Index := 0#32
  ![5, v444.toNat, 0]
def k0_off8 (d0 : Dev nD) (c0_i32_324 : BitVec 32) : Fin 3 → Nat :=
  let c6 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  let v287 : BitVec 32 := v286
  let v471 : Index := Scalar.indexCast v287
  let c0_415 : Index := 0#32
  ![6, v471.toNat, 0]
def k0_off9 (d0 : Dev nD) (c0_i32_324 : BitVec 32) : Fin 3 → Nat :=
  let c7 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v283 : BitVec 32 := Scalar.muli v2 c256_i32
  let v284 : BitVec 32 := Scalar.addi v283 c0_i32_324
  let c128_i32_325 : BitVec 32 := 128#32
  let v285 : BitVec 32 := Scalar.subi v284 c128_i32_325
  let c0_i32_326 : BitVec 32 := 0#32
  let v286 : BitVec 32 := Scalar.maxsi v285 c0_i32_326
  let v287 : BitVec 32 := v286
  let v498 : Index := Scalar.indexCast v287
  let c0_429 : Index := 0#32
  ![7, v498.toNat, 0]
def k0_mult2 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_456 : BitVec 32 := 256#32
  let v545 : BitVec 32 := Scalar.muli v2 c256_i32_456
  let c128_i32_457 : BitVec 32 := 128#32
  let v546 : BitVec 32 := Scalar.addi v545 c128_i32_457
  let c128_i32_458 : BitVec 32 := 128#32
  let v547 : BitVec 32 := Scalar.subi v546 c128_i32_458
  let c0_i32_459 : BitVec 32 := 0#32
  let v548 : BitVec 32 := Scalar.maxsi v547 c0_i32_459
  v548
def k0_dev5 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_611 : BitVec 32 := 1#32
  let v806 : BitVec 32 := Scalar.muli v25 c1_i32_611
  let v807 : BitVec 32 := Scalar.addi c0_i32_612 v806
  v807.toNat
def k0_dev6 (d0 : Dev nD) : Nat :=
  let c0_i32_639 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_638 : BitVec 32 := 1#32
  let v828 : BitVec 32 := Scalar.muli v14 c1_i32_638
  let v829 : BitVec 32 := Scalar.addi c0_i32_639 v828
  v829.toNat
def k0_mult3 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_644 : BitVec 32 := 3#32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let c0_i32_659 : BitVec 32 := 0#32
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  v862
def k0_off10 (d0 : Dev nD) (c3_i32_644 : BitVec 32) (c0_i32_659 : BitVec 32) : Fin 3 → Nat :=
  let c0_666 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  let v863 : BitVec 32 := v862
  let v885 : Index := Scalar.indexCast v863
  let c0_667 : Index := 0#32
  ![0, v885.toNat, 0]
def k0_off11 (d0 : Dev nD) (c3_i32_644 : BitVec 32) (c0_i32_659 : BitVec 32) : Fin 3 → Nat :=
  let c1_681 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  let v863 : BitVec 32 := v862
  let v912 : Index := Scalar.indexCast v863
  let c0_682 : Index := 0#32
  ![1, v912.toNat, 0]
def k0_off12 (d0 : Dev nD) (c3_i32_644 : BitVec 32) (c0_i32_659 : BitVec 32) : Fin 3 → Nat :=
  let c2_696 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  let v863 : BitVec 32 := v862
  let v939 : Index := Scalar.indexCast v863
  let c0_697 : Index := 0#32
  ![2, v939.toNat, 0]
def k0_off13 (d0 : Dev nD) (c3_i32_644 : BitVec 32) (c0_i32_659 : BitVec 32) : Fin 3 → Nat :=
  let c3_711 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  let v863 : BitVec 32 := v862
  let v966 : Index := Scalar.indexCast v863
  let c0_712 : Index := 0#32
  ![3, v966.toNat, 0]
def k0_off14 (d0 : Dev nD) (c3_i32_644 : BitVec 32) (c0_i32_659 : BitVec 32) : Fin 3 → Nat :=
  let c4_726 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  let v863 : BitVec 32 := v862
  let v993 : Index := Scalar.indexCast v863
  let c0_727 : Index := 0#32
  ![4, v993.toNat, 0]
def k0_off15 (d0 : Dev nD) (c3_i32_644 : BitVec 32) (c0_i32_659 : BitVec 32) : Fin 3 → Nat :=
  let c5_741 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  let v863 : BitVec 32 := v862
  let v1020 : Index := Scalar.indexCast v863
  let c0_742 : Index := 0#32
  ![5, v1020.toNat, 0]
def k0_off16 (d0 : Dev nD) (c3_i32_644 : BitVec 32) (c0_i32_659 : BitVec 32) : Fin 3 → Nat :=
  let c6_756 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  let v863 : BitVec 32 := v862
  let v1047 : Index := Scalar.indexCast v863
  let c0_757 : Index := 0#32
  ![6, v1047.toNat, 0]
def k0_off17 (d0 : Dev nD) (c3_i32_644 : BitVec 32) (c0_i32_659 : BitVec 32) : Fin 3 → Nat :=
  let c7_771 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v838 : BitVec 32 := Scalar.addi v2 c3_i32_644
  let c4_i32_645 : BitVec 32 := 4#32
  let c0_i32_646 : BitVec 32 := 0#32
  let v839 : BitVec 1 := Scalar.cmpi .eq c4_i32_645 c0_i32_646
  let c1_i32_647 : BitVec 32 := 1#32
  let v840 : BitVec 32 := Scalar.select v839 c1_i32_647 c4_i32_645
  let v841 : BitVec 32 := Scalar.remsi v838 v840
  let c0_i32_649 : BitVec 32 := 0#32
  let v843 : BitVec 1 := Scalar.cmpi .slt v841 c0_i32_649
  let c0_i32_650 : BitVec 32 := 0#32
  let v844 : BitVec 1 := Scalar.cmpi .slt v840 c0_i32_650
  let v845 : BitVec 1 := Scalar.xori v843 v844
  let c0_i32_648 : BitVec 32 := 0#32
  let v842 : BitVec 1 := Scalar.cmpi .ne v841 c0_i32_648
  let v846 : BitVec 1 := Scalar.andi v845 v842
  let v847 : BitVec 32 := Scalar.addi v841 v840
  let v848 : BitVec 32 := Scalar.select v846 v847 v841
  let c256_i32_658 : BitVec 32 := 256#32
  let v859 : BitVec 32 := Scalar.muli v848 c256_i32_658
  let v860 : BitVec 32 := Scalar.addi v859 c0_i32_659
  let c128_i32_660 : BitVec 32 := 128#32
  let v861 : BitVec 32 := Scalar.subi v860 c128_i32_660
  let c0_i32_661 : BitVec 32 := 0#32
  let v862 : BitVec 32 := Scalar.maxsi v861 c0_i32_661
  let v863 : BitVec 32 := v862
  let v1074 : Index := Scalar.indexCast v863
  let c0_772 : Index := 0#32
  ![7, v1074.toNat, 0]
def k0_dev7 (d0 : Dev nD) : Nat :=
  let c0_i32_805 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_804 : BitVec 32 := 1#32
  let v1117 : BitVec 32 := Scalar.muli v25 c1_i32_804
  let v1118 : BitVec 32 := Scalar.addi c0_i32_805 v1117
  v1118.toNat
def k0_mult4 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_810 : BitVec 32 := 1#32
  let v1127 : BitVec 32 := Scalar.addi v2 c1_i32_810
  let c4_i32_811 : BitVec 32 := 4#32
  let c0_i32_812 : BitVec 32 := 0#32
  let v1128 : BitVec 1 := Scalar.cmpi .eq c4_i32_811 c0_i32_812
  let c1_i32_813 : BitVec 32 := 1#32
  let v1129 : BitVec 32 := Scalar.select v1128 c1_i32_813 c4_i32_811
  let v1130 : BitVec 32 := Scalar.remsi v1127 v1129
  let c0_i32_815 : BitVec 32 := 0#32
  let v1132 : BitVec 1 := Scalar.cmpi .slt v1130 c0_i32_815
  let c0_i32_816 : BitVec 32 := 0#32
  let v1133 : BitVec 1 := Scalar.cmpi .slt v1129 c0_i32_816
  let v1134 : BitVec 1 := Scalar.xori v1132 v1133
  let c0_i32_814 : BitVec 32 := 0#32
  let v1131 : BitVec 1 := Scalar.cmpi .ne v1130 c0_i32_814
  let v1135 : BitVec 1 := Scalar.andi v1134 v1131
  let v1136 : BitVec 32 := Scalar.addi v1130 v1129
  let v1137 : BitVec 32 := Scalar.select v1135 v1136 v1130
  let c256_i32_824 : BitVec 32 := 256#32
  let v1148 : BitVec 32 := Scalar.muli v1137 c256_i32_824
  let c128_i32_825 : BitVec 32 := 128#32
  let v1149 : BitVec 32 := Scalar.addi v1148 c128_i32_825
  let c128_i32_826 : BitVec 32 := 128#32
  let v1150 : BitVec 32 := Scalar.subi v1149 c128_i32_826
  let c0_i32_827 : BitVec 32 := 0#32
  let v1151 : BitVec 32 := Scalar.maxsi v1150 c0_i32_827
  v1151
def k0_dev8 (d0 : Dev nD) : Nat :=
  let c0_i32_969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_968 : BitVec 32 := 1#32
  let v1403 : BitVec 32 := Scalar.muli v14 c1_i32_968
  let v1404 : BitVec 32 := Scalar.addi c0_i32_969 v1403
  v1404.toNat
def k0_dev9 (d0 : Dev nD) : Nat :=
  let c0_i32_998 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_997 : BitVec 32 := 1#32
  let v1427 : BitVec 32 := Scalar.muli v25 c1_i32_997
  let v1428 : BitVec 32 := Scalar.addi c0_i32_998 v1427
  v1428.toNat
def k0_dev10 (d0 : Dev nD) : Nat :=
  let c0_i32_1027 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1026 : BitVec 32 := 1#32
  let v1451 : BitVec 32 := Scalar.muli v14 c1_i32_1026
  let v1452 : BitVec 32 := Scalar.addi c0_i32_1027 v1451
  v1452.toNat
def k0_mult5 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1032 : BitVec 32 := 2#32
  let v1461 : BitVec 32 := Scalar.addi v2 c2_i32_1032
  let c4_i32_1033 : BitVec 32 := 4#32
  let c0_i32_1034 : BitVec 32 := 0#32
  let v1462 : BitVec 1 := Scalar.cmpi .eq c4_i32_1033 c0_i32_1034
  let c1_i32_1035 : BitVec 32 := 1#32
  let v1463 : BitVec 32 := Scalar.select v1462 c1_i32_1035 c4_i32_1033
  let v1464 : BitVec 32 := Scalar.remsi v1461 v1463
  let c0_i32_1037 : BitVec 32 := 0#32
  let v1466 : BitVec 1 := Scalar.cmpi .slt v1464 c0_i32_1037
  let c0_i32_1038 : BitVec 32 := 0#32
  let v1467 : BitVec 1 := Scalar.cmpi .slt v1463 c0_i32_1038
  let v1468 : BitVec 1 := Scalar.xori v1466 v1467
  let c0_i32_1036 : BitVec 32 := 0#32
  let v1465 : BitVec 1 := Scalar.cmpi .ne v1464 c0_i32_1036
  let v1469 : BitVec 1 := Scalar.andi v1468 v1465
  let v1470 : BitVec 32 := Scalar.addi v1464 v1463
  let v1471 : BitVec 32 := Scalar.select v1469 v1470 v1464
  let c256_i32_1046 : BitVec 32 := 256#32
  let v1482 : BitVec 32 := Scalar.muli v1471 c256_i32_1046
  let c0_i32_1047 : BitVec 32 := 0#32
  let v1483 : BitVec 32 := Scalar.addi v1482 c0_i32_1047
  let c128_i32_1048 : BitVec 32 := 128#32
  let v1484 : BitVec 32 := Scalar.subi v1483 c128_i32_1048
  let c0_i32_1049 : BitVec 32 := 0#32
  let v1485 : BitVec 32 := Scalar.maxsi v1484 c0_i32_1049
  v1485
def k0_dev11 (d0 : Dev nD) : Nat :=
  let c0_i32_1221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1220 : BitVec 32 := 1#32
  let v1763 : BitVec 32 := Scalar.muli v25 c1_i32_1220
  let v1764 : BitVec 32 := Scalar.addi c0_i32_1221 v1763
  v1764.toNat
def k0_mult6 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1226 : BitVec 32 := 2#32
  let v1773 : BitVec 32 := Scalar.addi v2 c2_i32_1226
  let c4_i32_1227 : BitVec 32 := 4#32
  let c0_i32_1228 : BitVec 32 := 0#32
  let v1774 : BitVec 1 := Scalar.cmpi .eq c4_i32_1227 c0_i32_1228
  let c1_i32_1229 : BitVec 32 := 1#32
  let v1775 : BitVec 32 := Scalar.select v1774 c1_i32_1229 c4_i32_1227
  let v1776 : BitVec 32 := Scalar.remsi v1773 v1775
  let c0_i32_1231 : BitVec 32 := 0#32
  let v1778 : BitVec 1 := Scalar.cmpi .slt v1776 c0_i32_1231
  let c0_i32_1232 : BitVec 32 := 0#32
  let v1779 : BitVec 1 := Scalar.cmpi .slt v1775 c0_i32_1232
  let v1780 : BitVec 1 := Scalar.xori v1778 v1779
  let c0_i32_1230 : BitVec 32 := 0#32
  let v1777 : BitVec 1 := Scalar.cmpi .ne v1776 c0_i32_1230
  let v1781 : BitVec 1 := Scalar.andi v1780 v1777
  let v1782 : BitVec 32 := Scalar.addi v1776 v1775
  let v1783 : BitVec 32 := Scalar.select v1781 v1782 v1776
  let c256_i32_1240 : BitVec 32 := 256#32
  let v1794 : BitVec 32 := Scalar.muli v1783 c256_i32_1240
  let c128_i32_1241 : BitVec 32 := 128#32
  let v1795 : BitVec 32 := Scalar.addi v1794 c128_i32_1241
  let c128_i32_1242 : BitVec 32 := 128#32
  let v1796 : BitVec 32 := Scalar.subi v1795 c128_i32_1242
  let c0_i32_1243 : BitVec 32 := 0#32
  let v1797 : BitVec 32 := Scalar.maxsi v1796 c0_i32_1243
  v1797
def k0_dev12 (d0 : Dev nD) : Nat :=
  let c0_i32_1413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1412 : BitVec 32 := 1#32
  let v2072 : BitVec 32 := Scalar.muli v14 c1_i32_1412
  let v2073 : BitVec 32 := Scalar.addi c0_i32_1413 v2072
  v2073.toNat
def k0_mult7 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1456 : BitVec 32 := 1#32
  let v2110 : BitVec 32 := Scalar.addi v2 c1_i32_1456
  let c4_i32_1457 : BitVec 32 := 4#32
  let c0_i32_1458 : BitVec 32 := 0#32
  let v2111 : BitVec 1 := Scalar.cmpi .eq c4_i32_1457 c0_i32_1458
  let c1_i32_1459 : BitVec 32 := 1#32
  let v2112 : BitVec 32 := Scalar.select v2111 c1_i32_1459 c4_i32_1457
  let v2113 : BitVec 32 := Scalar.remsi v2110 v2112
  let c0_i32_1461 : BitVec 32 := 0#32
  let v2115 : BitVec 1 := Scalar.cmpi .slt v2113 c0_i32_1461
  let c0_i32_1462 : BitVec 32 := 0#32
  let v2116 : BitVec 1 := Scalar.cmpi .slt v2112 c0_i32_1462
  let v2117 : BitVec 1 := Scalar.xori v2115 v2116
  let c0_i32_1460 : BitVec 32 := 0#32
  let v2114 : BitVec 1 := Scalar.cmpi .ne v2113 c0_i32_1460
  let v2118 : BitVec 1 := Scalar.andi v2117 v2114
  let v2119 : BitVec 32 := Scalar.addi v2113 v2112
  let v2120 : BitVec 32 := Scalar.select v2118 v2119 v2113
  let c256_i32_1470 : BitVec 32 := 256#32
  let v2131 : BitVec 32 := Scalar.muli v2120 c256_i32_1470
  let c0_i32_1471 : BitVec 32 := 0#32
  let v2132 : BitVec 32 := Scalar.addi v2131 c0_i32_1471
  let c128_i32_1472 : BitVec 32 := 128#32
  let v2133 : BitVec 32 := Scalar.subi v2132 c128_i32_1472
  let c0_i32_1473 : BitVec 32 := 0#32
  let v2134 : BitVec 32 := Scalar.maxsi v2133 c0_i32_1473
  v2134
def k0_dev13 (d0 : Dev nD) : Nat :=
  let c0_i32_1645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1644 : BitVec 32 := 1#32
  let v2412 : BitVec 32 := Scalar.muli v25 c1_i32_1644
  let v2413 : BitVec 32 := Scalar.addi c0_i32_1645 v2412
  v2413.toNat
def k0_mult8 (d0 : Dev nD) : BitVec 32 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1650 : BitVec 32 := 3#32
  let v2422 : BitVec 32 := Scalar.addi v2 c3_i32_1650
  let c4_i32_1651 : BitVec 32 := 4#32
  let c0_i32_1652 : BitVec 32 := 0#32
  let v2423 : BitVec 1 := Scalar.cmpi .eq c4_i32_1651 c0_i32_1652
  let c1_i32_1653 : BitVec 32 := 1#32
  let v2424 : BitVec 32 := Scalar.select v2423 c1_i32_1653 c4_i32_1651
  let v2425 : BitVec 32 := Scalar.remsi v2422 v2424
  let c0_i32_1655 : BitVec 32 := 0#32
  let v2427 : BitVec 1 := Scalar.cmpi .slt v2425 c0_i32_1655
  let c0_i32_1656 : BitVec 32 := 0#32
  let v2428 : BitVec 1 := Scalar.cmpi .slt v2424 c0_i32_1656
  let v2429 : BitVec 1 := Scalar.xori v2427 v2428
  let c0_i32_1654 : BitVec 32 := 0#32
  let v2426 : BitVec 1 := Scalar.cmpi .ne v2425 c0_i32_1654
  let v2430 : BitVec 1 := Scalar.andi v2429 v2426
  let v2431 : BitVec 32 := Scalar.addi v2425 v2424
  let v2432 : BitVec 32 := Scalar.select v2430 v2431 v2425
  let c256_i32_1664 : BitVec 32 := 256#32
  let v2443 : BitVec 32 := Scalar.muli v2432 c256_i32_1664
  let c128_i32_1665 : BitVec 32 := 128#32
  let v2444 : BitVec 32 := Scalar.addi v2443 c128_i32_1665
  let c128_i32_1666 : BitVec 32 := 128#32
  let v2445 : BitVec 32 := Scalar.subi v2444 c128_i32_1666
  let c0_i32_1667 : BitVec 32 := 0#32
  let v2446 : BitVec 32 := Scalar.maxsi v2445 c0_i32_1667
  v2446
def k0_dev14 (d0 : Dev nD) : Nat :=
  let c0_i32_1837 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1836 : BitVec 32 := 1#32
  let v2721 : BitVec 32 := Scalar.muli v14 c1_i32_1836
  let v2722 : BitVec 32 := Scalar.addi c0_i32_1837 v2721
  v2722.toNat
def k0_dev15 (d0 : Dev nD) : Nat :=
  let c0_i32_1898_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1897_r0 : BitVec 32 := 1#32
  let v2774_r0 : BitVec 32 := Scalar.muli v14 c1_i32_1897_r0
  let v2775_r0 : BitVec 32 := Scalar.addi c0_i32_1898_r0 v2774_r0
  v2775_r0.toNat
def k0_dev16 (d0 : Dev nD) : Nat :=
  let c0_i32_1901_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1900_r0 : BitVec 32 := 1#32
  let v2776_r0 : BitVec 32 := Scalar.muli v25 c1_i32_1900_r0
  let v2777_r0 : BitVec 32 := Scalar.addi c0_i32_1901_r0 v2776_r0
  v2777_r0.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x32x128 : Shape := ⟨4, ![1, 1024, 32, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S_ : Shape := ⟨0, ![]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 70
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x4096, .bf16⟩
  | .hbm, ⟨2, _⟩ => ⟨S1x4096x32x128, .f32⟩
  | .hbm, ⟨3, _⟩ => ⟨S1x4096x32x128, .f32⟩
  | .hbm, ⟨4, _⟩ => ⟨S4096x1024, .bf16⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S1024x4096, .f32⟩
  | .hbm, ⟨9, _⟩ => ⟨S1x1024x32x128, .f32⟩
  | .hbm, ⟨10, _⟩ => ⟨S1024, .i32⟩
  | .hbm, ⟨11, _⟩ => ⟨S1024x1, .i32⟩
  | .hbm, ⟨12, _⟩ => ⟨S4096, .i32⟩
  | .hbm, ⟨13, _⟩ => ⟨S1x4096, .i32⟩
  | .hbm, ⟨14, _⟩ => ⟨S1024x4096, .i32⟩
  | .hbm, ⟨15, _⟩ => ⟨S1024x4096, .i32⟩
  | .hbm, ⟨16, _⟩ => ⟨S1024x4096, .i32⟩
  | .hbm, ⟨17, _⟩ => ⟨S1024x4096, .i32⟩
  | .hbm, ⟨18, _⟩ => ⟨S_, .i32⟩
  | .hbm, ⟨19, _⟩ => ⟨S1024x4096, .i32⟩
  | .hbm, ⟨20, _⟩ => ⟨S1024x4096, .i1⟩
  | .hbm, ⟨21, _⟩ => ⟨S_, .i32⟩
  | .hbm, ⟨22, _⟩ => ⟨S1x4096, .i32⟩
  | .hbm, ⟨23, _⟩ => ⟨S1x4096, .i1⟩
  | .hbm, ⟨24, _⟩ => ⟨S_, .i32⟩
  | .hbm, ⟨25, _⟩ => ⟨S1024x1, .i32⟩
  | .hbm, ⟨26, _⟩ => ⟨S1024x1, .i1⟩
  | .hbm, ⟨27, _⟩ => ⟨S1024x4096, .i1⟩
  | .hbm, ⟨28, _⟩ => ⟨S1024x4096, .i1⟩
  | .hbm, ⟨29, _⟩ => ⟨S1024x4096, .i1⟩
  | .hbm, ⟨30, _⟩ => ⟨S1024x4096, .i1⟩
  | .hbm, ⟨31, _⟩ => ⟨S1x32x1024x4096, .f32⟩
  | .hbm, ⟨32, _⟩ => ⟨S_, .f32⟩
  | .hbm, ⟨33, _⟩ => ⟨S1x32x1024x4096, .f32⟩
  | .hbm, ⟨34, _⟩ => ⟨S1x32x1024x4096, .f32⟩
  | .hbm, ⟨35, _⟩ => ⟨S1x1x1024x4096, .i1⟩
  | .hbm, ⟨36, _⟩ => ⟨S_, .f32⟩
  | .hbm, ⟨37, _⟩ => ⟨S_, .f32⟩
  | .hbm, ⟨38, _⟩ => ⟨S1x32x1024x4096, .i1⟩
  | .hbm, ⟨39, _⟩ => ⟨S1x32x1024x4096, .f32⟩
  | .hbm, ⟨40, _⟩ => ⟨S1x32x1024x4096, .f32⟩
  | .hbm, ⟨41, _⟩ => ⟨S_, .f32⟩
  | .hbm, ⟨42, _⟩ => ⟨S1x32x1024, .f32⟩
  | .hbm, ⟨43, _⟩ => ⟨S1x32x1024x1, .f32⟩
  | .hbm, ⟨44, _⟩ => ⟨S1x32x1024x4096, .f32⟩
  | .hbm, ⟨45, _⟩ => ⟨S1x32x1024x4096, .f32⟩
  | .hbm, ⟨46, _⟩ => ⟨S1x32x1024x4096, .f32⟩
  | .hbm, ⟨47, _⟩ => ⟨S_, .i1⟩
  | .hbm, ⟨48, _⟩ => ⟨S1024, .i1⟩
  | .hbm, ⟨49, _⟩ => ⟨S1x1x1024x1, .i1⟩
  | .hbm, ⟨50, _⟩ => ⟨S_, .f32⟩
  | .hbm, ⟨51, _⟩ => ⟨S1x32x1024, .f32⟩
  | .hbm, ⟨52, _⟩ => ⟨S1x32x1024x1, .f32⟩
  | .hbm, ⟨53, _⟩ => ⟨S_, .f32⟩
  | .hbm, ⟨54, _⟩ => ⟨S_, .f32⟩
  | .hbm, ⟨55, _⟩ => ⟨S1x32x1024x1, .i1⟩
  | .hbm, ⟨56, _⟩ => ⟨S1x32x1024x1, .f32⟩
  | .hbm, ⟨57, _⟩ => ⟨S1x32x1024x1, .f32⟩
  | .hbm, ⟨58, _⟩ => ⟨S1x32x1024x4096, .f32⟩
  | .hbm, ⟨59, _⟩ => ⟨S1x32x1024x4096, .f32⟩
  | .hbm, ⟨60, _⟩ => ⟨S1x1x1024x1, .i1⟩
  | .hbm, ⟨61, _⟩ => ⟨S_, .f32⟩
  | .hbm, ⟨62, _⟩ => ⟨S_, .f32⟩
  | .hbm, ⟨63, _⟩ => ⟨S1x32x1024x4096, .i1⟩
  | .hbm, ⟨64, _⟩ => ⟨S1x32x1024x4096, .f32⟩
  | .hbm, ⟨65, _⟩ => ⟨S1x32x1024x4096, .f32⟩
  | .hbm, ⟨66, _⟩ => ⟨S1x32x128x1024, .f32⟩
  | .hbm, ⟨67, _⟩ => ⟨S1x1024x32x128, .f32⟩
  | .hbm, ⟨68, _⟩ => ⟨S1024x4096, .f32⟩
  | .hbm, ⟨69, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.KI.Block.lean ====
module

public import proofs.«01_k».proof.Proof.Gen.KernelIdeal

/-! One block of the attention, as pure functions: the queries of a half block of rows, the mask of its
window, one head's output over the window, one head's output over every key, and what a device adds to
the output of the half block. -/

@[expose] public section

noncomputable section

namespace Cert.KernelIdeal.Ring

open Cert.KernelIdeal Cert.KernelIdeal.Gen
open Idealize.ShloMosaic

variable {F : FTy → Type} [FloatOps F] [Named F]

/-- The score of a key that the mask hides. -/
def negC : F .f32 := Named.named κ "mask" 0xCE6E6B28#32

/-- The queries of a half block of rows: the rows times the scaled columns of the weights. -/
def qmOf (x : FVec F S128x1024 .bf16) (wq : Vec F S1024x1024 .bf16) : FVec F S128x1024 .bf16 :=
  truncf .bf16 (matmul dot_S128x1024_S1024x1024_S128x1024_1_0_0_1_n_n none x
    (truncf .bf16 (mulf (extf .f32 (shapeCast S1024x1024 wq shapeCasts_S1024x1024_S1024x1024) bitsLt_bf16_f32)
      (broadcast S1024x1024 (Scalar.ofBits .f32 0x3DB504F3#32))) bitsLt_bf16_f32)
    (constant S128x1024 .f32 0x00000000#32)) bitsLt_bf16_f32

/-- The first row of the half block at `r` of the block `q`. -/
def baseW (q r : BitVec 32) : BitVec 32 := Scalar.addi (Scalar.muli q 256#32) r

/-- The first key of the window of that half block. -/
def startW (q r : BitVec 32) : BitVec 32 := Scalar.maxsi (Scalar.subi (baseW q r) 128#32) 0#32

/-- The keys that the rows of a half block see, among the 384 keys of the window and the first 128 keys. -/
def maskOf (base start : BitVec 32) : IVec S128x512 1 :=
  concatenate S128x512 1
    [⟨S128x384, ori
        (cmpi .sle (absi (subi (addi (broadcast S128x384 base) (iota .tc S128x384 32 [0] iota_S128x384_d0_w32))
          (addi (broadcast S128x384 start) (iota .tc S128x384 32 [1] iota_S128x384_d1_w32)))) (broadcast S128x384 128#32))
        (cmpi .slt (addi (broadcast S128x384 start) (iota .tc S128x384 32 [1] iota_S128x384_d1_w32)) (broadcast S128x384 32#32))⟩,
     ⟨S128x128, andi (cmpi .slt (iota .tc S128x128 32 [1] iota_S128x128_d1_w32) (broadcast S128x128 32#32))
        (broadcast S128x128 (Scalar.cmpi .sgt start 0#32))⟩]
    concatenates_S128x384_S128x128_S128x512_d1

theorem slicesQ : ∀ h : Fin 8, S128x1024.Slices ![0, 128 * h.val] S128x128 := by decide

theorem slicesQ32 : ∀ h : Fin 8, S128x1024.Slices ![0, 128 * h.val] S32x128 := by decide

/-- The 384 keys of the window and the first 128, as one array. -/
def catOf (w : Vec F S1x384x128 .f32) (g : Vec F S1x128x128 .f32) : FVec F S512x128 .bf16 :=
  truncf .bf16 (concatenate S512x128 0
    [⟨S384x128, shapeCast S384x128 w shapeCasts_S1x384x128_S384x128⟩,
     ⟨S128x128, shapeCast S128x128 g shapeCasts_S1x128x128_S128x128⟩] concatenates_S384x128_S128x128_S512x128_d0) bitsLt_bf16_f32

/-- The exponentials of one head's masked scores. -/
def expOf (qm : FVec F S128x1024 .bf16) (mask : IVec S128x512 1) (h : Fin 8) (kw : Vec F S1x384x128 .f32)
    (kg : Vec F S1x128x128 .f32) : FVec F S128x512 .f32 :=
  exp (select mask
    (matmul dot_S128x128_S512x128_S128x512_1_1_0_0_n_n none (extractStridedSlice S128x128 ![0, 128 * h.val] qm (slicesQ h))
      (catOf kw kg) (constant S128x512 .f32 0x00000000#32))
    (broadcast S128x512 negC))

/-- One head's output for a half block of rows over its window. -/
def headOut (qm : FVec F S128x1024 .bf16) (mask : IVec S128x512 1) (h : Fin 8) (kw : Vec F S1x384x128 .f32)
    (kg : Vec F S1x128x128 .f32) (vw : Vec F S1x384x128 .f32) (vg : Vec F S1x128x128 .f32) : FVec F S128x128 .f32 :=
  mulf
    (matmul dot_S128x512_S512x128_S128x128_1_0_0_1_n_n none (truncf .bf16 (expOf qm mask h kw kg) bitsLt_bf16_f32)
      (catOf vw vg) (constant S128x128 .f32 0x00000000#32))
    (broadcastTo S128x128
      (divf (broadcast S128x1 (Scalar.ofBits .f32 0x3F800000#32))
        (shapeCast S128x1 (multiReduction .add [1] S128 (expOf qm mask h kw kg) 0x00000000#32 reduces_S128x512_S128 (.inl rfl) rfl)
          shapeCasts_S128_S128x1)) broadcasts_S128x1_S128x128)

/-- The heads' outputs side by side, times the device's rows of the output weights. -/
def outOf (p : Fin 8 → FVec F S128x128 .f32) (wo : Vec F S1024x1024 .bf16) : FVec F S128x1024 .f32 :=
  matmul dot_S128x1024_S1024x1024_S128x1024_1_0_0_1_n_n none
    (truncf .bf16 (concatenate S128x1024 1
      [⟨S128x128, p 0⟩, ⟨S128x128, p 1⟩, ⟨S128x128, p 2⟩, ⟨S128x128, p 3⟩, ⟨S128x128, p 4⟩, ⟨S128x128, p 5⟩, ⟨S128x128, p 6⟩, ⟨S128x128, p 7⟩]
      concatenates_S128x128_S128x128_S128x128_S128x128_S128x128_S128x128_S128x128_S128x128_S128x1024_d1) bitsLt_bf16_f32)
    (shapeCast S1024x1024 wo shapeCasts_S1024x1024_S1024x1024) (constant S128x1024 .f32 0x00000000#32)

/-- The exponentials of one head's scores of the first 32 rows against every key. -/
def expAll (qm : FVec F S128x1024 .bf16) (h : Fin 8) (k : Vec F S1x4096x128 .f32) : FVec F S32x4096 .f32 :=
  exp (matmul dot_S32x128_S4096x128_S32x4096_1_1_0_0_n_n none
    (extf .f32 (extractStridedSlice S32x128 ![0, 128 * h.val] qm (slicesQ32 h)) bitsLt_bf16_f32)
    (shapeCast S4096x128 k shapeCasts_S1x4096x128_S4096x128) (constant S32x4096 .f32 0x00000000#32))

/-- One head's output for the first 32 rows over every key. -/
def headAll (qm : FVec F S128x1024 .bf16) (h : Fin 8) (k v : Vec F S1x4096x128 .f32) : FVec F S32x128 .f32 :=
  mulf
    (matmul dot_S32x4096_S4096x128_S32x128_1_0_0_1_n_n none
      (extf .f32 (truncf .bf16 (expAll qm h k) bitsLt_bf16_f32) bitsLt_bf16_f32)
      (shapeCast S4096x128 v shapeCasts_S1x4096x128_S4096x128) (constant S32x128 .f32 0x00000000#32))
    (broadcastTo S32x128
      (divf (broadcast S32x1 (Scalar.ofBits .f32 0x3F800000#32))
        (shapeCast S32x1 (multiReduction .add [1] S32 (expAll qm h k) 0x00000000#32 reduces_S32x4096_S32 (.inl rfl) rfl)
          shapeCasts_S32_S32x1)) broadcasts_S32x1_S32x128)

/-- The heads' outputs of the first 32 rows side by side, times the device's rows of the output weights. -/
def outAll (p : Fin 8 → FVec F S32x128 .f32) (wo : Vec F S1024x1024 .bf16) : FVec F S32x1024 .f32 :=
  matmul dot_S32x1024_S1024x1024_S32x1024_1_0_0_1_n_n none
    (truncf .bf16 (concatenate S32x1024 1
      [⟨S32x128, p 0⟩, ⟨S32x128, p 1⟩, ⟨S32x128, p 2⟩, ⟨S32x128, p 3⟩, ⟨S32x128, p 4⟩, ⟨S32x128, p 5⟩, ⟨S32x128, p 6⟩, ⟨S32x128, p 7⟩]
      concatenates_S32x128_S32x128_S32x128_S32x128_S32x128_S32x128_S32x128_S32x128_S32x1024_d1) bitsLt_bf16_f32)
    (shapeCast S1024x1024 wo shapeCasts_S1024x1024_S1024x1024) (constant S32x1024 .f32 0x00000000#32)

/-- A sum of a device's share and the shares that arrived. -/
def addR (p : FVec F S128x1024 .f32) (r : FVec F S128x1024 .bf16) : FVec F S128x1024 .f32 :=
  addf p (extf .f32 r bitsLt_bf16_f32)

/-- What is sent on of a sum. -/
def toS (p : FVec F S128x1024 .f32) : FVec F S128x1024 .bf16 := truncf .bf16 p bitsLt_bf16_f32

end Cert.KernelIdeal.Ring
-- ==== Proof.KI.Prog.lean ====
module

public import proofs.«01_k».proof.Proof.KI.Block

/-! The kernel's body as a sequence of named pieces: the local copies of the keys and values, the copies to
the neighbours and the waits for them, the computation of a half block, the sums. `body_eq` says that the
printed body is this sequence. -/

@[expose] public section

set_option synthInstance.maxSize 4096

noncomputable section

namespace Cert.KernelIdeal.Ring

open Cert.KernelIdeal Cert.KernelIdeal.Gen
open Idealize.ShloMosaic Idealize.SL.Sem

variable {F : FTy → Type} [FloatOps F] [Named F]

/-- Programs of a tensor core. -/
abbrev PG (F : FTy → Type) [FloatOps F] [Named F] (α : Type) := Prog (TpuEff nD τ sig (Elt F) Λ₀ .tc) α

/-! ### Places -/

theorem inb3 : ∀ h : Fin 3, ∀ a, (![h.val, 0, 0] : Fin 3 → ℕ) a + S1x128x1024.size a ≤ S3x128x1024.size a := by decide

theorem inb4 : ∀ h : Fin 4, ∀ a, (![h.val, 0, 0] : Fin 3 → ℕ) a + S1x128x1024.size a ≤ S4x128x1024.size a := by decide

theorem inb4r : ∀ h : Fin 4, ∀ a, (![h.val, 0, 0] : Fin 3 → ℕ) a + S1x32x1024.size a ≤ S4x128x1024.size a := by decide

theorem inb8 : ∀ h : Fin 8, ∀ a, (![h.val, 0, 0] : Fin 3 → ℕ) a + S1x4096x128.size a ≤ S8x4096x128.size a := by decide

theorem inb8g : ∀ h : Fin 8, ∀ a, (![h.val, 0, 0] : Fin 3 → ℕ) a + S1x128x128.size a ≤ S8x4096x128.size a := by decide

theorem inb28 : ∀ (i : Fin 2) (h : Fin 8), ∀ a, (![i.val, h.val] : Fin 2 → ℕ) a + S1x1.size a ≤ S2x8.size a := by decide

theorem inbS3 : ∀ h : Fin 3, ∀ a, (![h.val] : Fin 1 → ℕ) a + S1.size a ≤ S3.size a := by decide

theorem inb2 : ∀ b : Fin 2, ∀ a, (![128 * b.val, 0] : Fin 2 → ℕ) a + S128x1024.size a ≤ S256x1024.size a := by decide

/-- A slot of a buffer of three half blocks. -/
def rect3 (h : Fin 3) : Rect S3x128x1024 := Rect.unit (s := S3x128x1024) ![h.val, 0, 0] S1x128x1024.size (inb3 h)

/-- A slot of a buffer of four half blocks. -/
def rect4 (h : Fin 4) : Rect S4x128x1024 := Rect.unit (s := S4x128x1024) ![h.val, 0, 0] S1x128x1024.size (inb4 h)

/-- The upper or the lower half of a block of rows. -/
def rect2 (b : Fin 2) : Rect S256x1024 := Rect.unit (s := S256x1024) ![128 * b.val, 0] S128x1024.size (inb2 b)

/-- A slot of a buffer of three half blocks, as a half block. -/
abbrev slot3 (M : Memref sig .tc .vmem S3x128x1024 .bf16) (h : Fin 3) : Memref sig .tc .vmem S128x1024 .bf16 :=
  (M.slice (Rect.unit (s := S3x128x1024) ![h.val, 0, 0] S1x128x1024.size (inb3 h)) (fun _ => rfl)).squeeze S128x1024
    squeezes_S1x128x1024_S128x1024

/-- A slot of a buffer of four half blocks, as a half block. -/
abbrev slot4 (M : Memref sig .tc .vmem S4x128x1024 .f32) (h : Fin 4) : Memref sig .tc .vmem S128x1024 .f32 :=
  (M.slice (Rect.unit (s := S4x128x1024) ![h.val, 0, 0] S1x128x1024.size (inb4 h)) (fun _ => rfl)).squeeze S128x1024
    squeezes_S1x128x1024_S128x1024

/-- The upper or the lower half of the device's rows. -/
abbrev half2 (M : Memref sig .tc .vmem S256x1024 .bf16) (b : Fin 2) : Memref sig .tc .vmem S128x1024 .bf16 :=
  M.slice (Rect.unit (s := S256x1024) ![128 * b.val, 0] S128x1024.size (inb2 b)) (fun _ => rfl)

/-- The keys (or values) of one head in the device's buffer. -/
abbrev slab (M : Memref sig .tc .vmem S8x4096x128 .f32) (h : Fin 8) : Memref sig .tc .vmem S4096x128 .f32 :=
  (M.slice (Rect.unit (s := S8x4096x128) ![h.val, 0, 0] S1x4096x128.size (inb8 h)) (fun _ => rfl)).squeeze S4096x128
    squeezes_S1x4096x128_S4096x128

/-- The keys (or values) of one of the device's heads in the operand. -/
abbrev kvSrc (A : Memref sig .tc .hbm S1x4096x32x128 .f32) (d : Dev nD) (h : Fin 8) : Memref sig .tc .hbm S4096x128 .f32 :=
  (A.slice (Rect.unit (s := S1x4096x32x128) (k0_off1 d (BitVec.ofNat 32 h.val)) S1x4096x1x128.size (k0_off1_inb d h))
    (fun _ => rfl)).squeeze S4096x128 squeezes_S1x4096x1x128_S4096x128

/-- The semaphore of a slot. -/
abbrev sem3 (A : DmaSems sig S3) (h : Fin 3) : DmaSem sig :=
  ((A.slice (Rect.unit (s := S3) ![h.val] S1.size (inbS3 h))).squeeze S_ squeezes_S1_S_).sem

/-- The semaphore of the local copy of one head's keys (`i = 0`) or values. -/
abbrev kvSem (A : DmaSems sig S2x8) (i : Fin 2) (h : Fin 8) : DmaSem sig :=
  ((A.slice (Rect.unit (s := S2x8) ![i.val, h.val] S1x1.size (inb28 i h))).squeeze S_ squeezes_S1x1_S_).sem

theorem words3 : ∀ h : Fin 3, (Rect.unit (s := S3x128x1024) ![h.val, 0, 0] S1x128x1024.size (inb3 h)).WholeWords (EltTy.packing .bf16)
  | 0 => wordsbf16_S3x128x1024_S1x128x1024_0_0_0
  | 1 => wordsbf16_S3x128x1024_S1x128x1024_1_0_0
  | 2 => wordsbf16_S3x128x1024_S1x128x1024_2_0_0

theorem words2 : ∀ b : Fin 2, (Rect.unit (s := S256x1024) ![128 * b.val, 0] S128x1024.size (inb2 b)).WholeWords (EltTy.packing .bf16)
  | 0 => wordsbf16_S256x1024_S128x1024_0_0
  | 1 => wordsbf16_S256x1024_S128x1024_128_0

theorem packed3 : ∀ h : Fin 3, (Rect.unit (s := S3x128x1024) ![h.val, 0, 0] S1x128x1024.size (inb3 h)).PackedRows (EltTy.packing .bf16)
  | 0 => packedbf16_S3x128x1024_S1x128x1024_0_0_0
  | 1 => packedbf16_S3x128x1024_S1x128x1024_1_0_0
  | 2 => packedbf16_S3x128x1024_S1x128x1024_2_0_0

theorem exact3 {M : Memref sig .tc .vmem S3x128x1024 .bf16} (hM : M.IsWhole) (h : Fin 3) : (slot3 M h).view.WordExact :=
  (hM.wordExact_slice rfl _ (words3 h)).reshape _ _

theorem exact2 {M : Memref sig .tc .vmem S256x1024 .bf16} (hM : M.IsWhole) (b : Fin 2) : (half2 M b).view.WordExact :=
  hM.wordExact_slice rfl _ (words2 b)

/-! ### Words -/

/-- The device's index, as the kernel computes it. -/
def myW (d : Dev nD) : BitVec 32 := Scalar.remsi (Scalar.divsi (Dev.word d) 1#32) 4#32

/-- The block `k` after the device's, around the ring, as the kernel computes it. -/
def qW (d : Dev nD) (k : BitVec 32) : BitVec 32 :=
  let m : BitVec 32 := Scalar.select (Scalar.cmpi .eq 4#32 0#32) 1#32 4#32
  let r : BitVec 32 := Scalar.remsi (Scalar.addi (myW d) k) m
  Scalar.select (Scalar.andi (Scalar.xori (Scalar.cmpi .slt r 0#32) (Scalar.cmpi .slt m 0#32)) (Scalar.cmpi .ne r 0#32))
    (Scalar.addi r m) r

/-- Where the window of the device's own half block starts, for each head. -/
def offOwn (d : Dev nD) (r : BitVec 32) : Fin 8 → Fin 3 → ℕ
  | 0 => k0_off2 d r | 1 => k0_off3 d r | 2 => k0_off4 d r | 3 => k0_off5 d r
  | 4 => k0_off6 d r | 5 => k0_off7 d r | 6 => k0_off8 d r | 7 => k0_off9 d r

theorem offOwn_inb (d : Dev nD) (b : Fin 2) : ∀ h a, offOwn d (BitVec.ofNat 32 (128 * b.val)) h a + S1x384x128.size a ≤ S8x4096x128.size a
  | 0 => k0_off2_inb d b | 1 => k0_off3_inb d b | 2 => k0_off4_inb d b | 3 => k0_off5_inb d b
  | 4 => k0_off6_inb d b | 5 => k0_off7_inb d b | 6 => k0_off8_inb d b | 7 => k0_off9_inb d b

/-- Where the window of the half block of another device starts, for each head. -/
def offFar (d : Dev nD) (k r : BitVec 32) : Fin 8 → Fin 3 → ℕ
  | 0 => k0_off10 d k r | 1 => k0_off11 d k r | 2 => k0_off12 d k r | 3 => k0_off13 d k r
  | 4 => k0_off14 d k r | 5 => k0_off15 d k r | 6 => k0_off16 d k r | 7 => k0_off17 d k r

theorem offFar_inb (d : Dev nD) (k : Fin 3) (b : Fin 2) :
    ∀ h a, offFar d (BitVec.ofNat 32 (1 + k.val)) (BitVec.ofNat 32 (128 * b.val)) h a + S1x384x128.size a ≤ S8x4096x128.size a
  | 0 => k0_off10_inb d k b | 1 => k0_off11_inb d k b | 2 => k0_off12_inb d k b | 3 => k0_off13_inb d k b
  | 4 => k0_off14_inb d k b | 5 => k0_off15_inb d k b | 6 => k0_off16_inb d k b | 7 => k0_off17_inb d k b

/-! ### Pieces -/

/-- Starts the local copy of one head's keys or values. -/
def kvStart (A : Memref sig .tc .hbm S1x4096x32x128 .f32) (M : Memref sig .tc .vmem S8x4096x128 .f32) (D : DmaSems sig S2x8)
    (i : Fin 2) (d : Dev nD) (h : Fin 8) : PG F PUnit :=
  Prog.lift (.enqueueDma (kvSrc A d h) (.here (slab M h)) (.dma (kvSem D i h)) ((View.wordExact_bits rfl).reshape _ _)
    ((View.wordExact_bits rfl).reshape _ _) ⟨Or.inl rfl, trivial⟩)

/-- Waits for the local copy of one head's keys or values. -/
def kvWait (A : Memref sig .tc .hbm S1x4096x32x128 .f32) (M : Memref sig .tc .vmem S8x4096x128 .f32) (D : DmaSems sig S2x8)
    (i : Fin 2) (d : Dev nD) (h : Fin 8) : PG F PUnit :=
  Prog.lift (.waitDma2 (kvSem D i h) (kvSrc A d h) (slab M h) ((View.wordExact_bits rfl).reshape _ _)
    ((View.wordExact_bits rfl).reshape _ _))

/-- Starts the copy of a half block to the device `t`. -/
def send (t : Dev nD) (src dst : Memref sig .tc .vmem S128x1024 .bf16) (hs : src.view.WordExact) (hd : dst.view.WordExact)
    (ss rs : DmaSem sig) : PG F PUnit :=
  Prog.lift (.enqueueDma src (.remote (Dev.tc t) dst (.dma ss)) (.dma rs) hs hd ⟨⟨rfl, Or.inl rfl⟩, trivial⟩)

/-- Waits until a half block sent has left, then until one has arrived. -/
def sendRecv (src dst : Memref sig .tc .vmem S128x1024 .bf16) (hs : src.view.WordExact) (hd : dst.view.WordExact)
    (ss rs : DmaSem sig) : PG F PUnit := do
  Prog.lift (.waitDma2 ss dst src hd hs)
  Prog.lift (.waitDma2 rs src dst hs hd)

/-- One head of a half block: its window's keys and values and the first 128, and the output over them. -/
def headP (K V : Memref sig .tc .vmem S8x4096x128 .f32) (qm : FVec F S128x1024 .bf16) (mask : IVec S128x512 1)
    (off : Fin 8 → Fin 3 → ℕ) (hoff : ∀ h a, off h a + S1x384x128.size a ≤ S8x4096x128.size a) (h : Fin 8) :
    PG F (FVec F S128x128 .f32) := do
  let kw : Vec F S1x384x128 .f32 ← Prog.lift (.load K (Rect.unit (s := S8x4096x128) (off h) S1x384x128.size (hoff h)).toLoadRect (View.loadsAt_vmem h_S1x384x128))
  let kg : Vec F S1x128x128 .f32 ← Prog.lift (.load K (Rect.unit (s := S8x4096x128) ![h.val, 0, 0] S1x128x128.size (inb8g h)).toLoadRect (View.loadsAt_vmem h_S1x128x128))
  let vw : Vec F S1x384x128 .f32 ← Prog.lift (.load V (Rect.unit (s := S8x4096x128) (off h) S1x384x128.size (hoff h)).toLoadRect (View.loadsAt_vmem h_S1x384x128))
  let vg : Vec F S1x128x128 .f32 ← Prog.lift (.load V (Rect.unit (s := S8x4096x128) ![h.val, 0, 0] S1x128x128.size (inb8g h)).toLoadRect (View.loadsAt_vmem h_S1x128x128))
  pure (headOut qm mask h kw kg vw vg)

/-- A buffer of 1024 × 1024 weights, loaded. -/
def loadW (W : Memref sig .tc .vmem S1024x1024 .bf16) : PG F (Vec F S1024x1024 .bf16) :=
  Prog.lift (.load W (Rect.unit (s := S1024x1024) ![0, 0] S1024x1024.size inb_S1024x1024_S1024x1024_0_0).toLoadRect (View.loadsAt_vmem h_S1024x1024))

/-- A slot of a buffer of four half blocks, loaded. -/
def load4 (P : Memref sig .tc .vmem S4x128x1024 .f32) (s : Fin 4) : PG F (Vec F S1x128x1024 .f32) :=
  Prog.lift (.load P (Rect.unit (s := S4x128x1024) ![s.val, 0, 0] S1x128x1024.size (inb4 s)).toLoadRect (View.loadsAt_vmem h_S1x128x1024))

/-- A slot of a buffer of three half blocks, loaded. -/
def load3 (P : Memref sig .tc .vmem S3x128x1024 .bf16) (s : Fin 3) : PG F (Vec F S1x128x1024 .bf16) :=
  Prog.lift (.load P (Rect.unit (s := S3x128x1024) ![s.val, 0, 0] S1x128x1024.size (inb3 s)).toLoadRect (View.loadsAt_vmem h_S1x128x1024))

/-- Replaces a slot of a buffer of four half blocks. -/
def store4 (P : Memref sig .tc .vmem S4x128x1024 .f32) (s : Fin 4) (x : FVec F S128x1024 .f32) : PG F PUnit := do
  let _ ← load4 P s
  Prog.lift (.store P (Rect.unit (s := S4x128x1024) ![s.val, 0, 0] S1x128x1024.size (inb4 s))
    (shapeCast S1x128x1024 x shapeCasts_S128x1024_S1x128x1024) Finset.univ (View.stores_vmem_bits_univ h_S1x128x1024 rfl) (.inl rfl))

/-- The computation of a half block from its queries, into a slot. -/
def halfP (Wo : Memref sig .tc .vmem S1024x1024 .bf16) (K V : Memref sig .tc .vmem S8x4096x128 .f32) (qm : FVec F S128x1024 .bf16)
    (mask : IVec S128x512 1) (off : Fin 8 → Fin 3 → ℕ) (hoff : ∀ h a, off h a + S1x384x128.size a ≤ S8x4096x128.size a)
    (P : Memref sig .tc .vmem S4x128x1024 .f32) (s : Fin 4) : PG F PUnit := do
  let p0 ← headP K V qm mask off hoff 0
  let p1 ← headP K V qm mask off hoff 1
  let p2 ← headP K V qm mask off hoff 2
  let p3 ← headP K V qm mask off hoff 3
  let p4 ← headP K V qm mask off hoff 4
  let p5 ← headP K V qm mask off hoff 5
  let p6 ← headP K V qm mask off hoff 6
  let p7 ← headP K V qm mask off hoff 7
  let wo ← loadW Wo
  store4 P s (outOf (fun | 0 => p0 | 1 => p1 | 2 => p2 | 3 => p3 | 4 => p4 | 5 => p5 | 6 => p6 | 7 => p7) wo)

/-- One head of the first 32 rows over every key. -/
def headAllP (K V : Memref sig .tc .vmem S8x4096x128 .f32) (qm : FVec F S128x1024 .bf16) (h : Fin 8) : PG F (FVec F S32x128 .f32) := do
  let k : Vec F S1x4096x128 .f32 ← Prog.lift (.load K (Rect.unit (s := S8x4096x128) ![h.val, 0, 0] S1x4096x128.size (inb8 h)).toLoadRect (View.loadsAt_vmem h_S1x4096x128))
  let v : Vec F S1x4096x128 .f32 ← Prog.lift (.load V (Rect.unit (s := S8x4096x128) ![h.val, 0, 0] S1x4096x128.size (inb8 h)).toLoadRect (View.loadsAt_vmem h_S1x4096x128))
  pure (headAll qm h k v)

/-- The first 32 rows of a slot, computed over every key. -/
def fullP (Wo : Memref sig .tc .vmem S1024x1024 .bf16) (K V : Memref sig .tc .vmem S8x4096x128 .f32) (qm : FVec F S128x1024 .bf16)
    (P : Memref sig .tc .vmem S4x128x1024 .f32) (s : Fin 4) : PG F PUnit := do
  let p0 ← headAllP K V qm 0
  let p1 ← headAllP K V qm 1
  let p2 ← headAllP K V qm 2
  let p3 ← headAllP K V qm 3
  let p4 ← headAllP K V qm 4
  let p5 ← headAllP K V qm 5
  let p6 ← headAllP K V qm 6
  let p7 ← headAllP K V qm 7
  let wo ← loadW Wo
  let _ : Vec F S1x32x1024 .f32 ← Prog.lift (.load P (Rect.unit (s := S4x128x1024) ![s.val, 0, 0] S1x32x1024.size (inb4r s)).toLoadRect (View.loadsAt_vmem h_S1x32x1024))
  Prog.lift (.store P (Rect.unit (s := S4x128x1024) ![s.val, 0, 0] S1x32x1024.size (inb4r s))
    (shapeCast S1x32x1024 (outAll (fun | 0 => p0 | 1 => p1 | 2 => p2 | 3 => p3 | 4 => p4 | 5 => p5 | 6 => p6 | 7 => p7) wo) shapeCasts_S32x1024_S1x32x1024)
    Finset.univ (View.stores_vmem_bits_univ h_S1x32x1024 rfl) (.inl rfl))

/-- The same, only for the first block. -/
def fullIf (q : BitVec 32) (Wo : Memref sig .tc .vmem S1024x1024 .bf16) (K V : Memref sig .tc .vmem S8x4096x128 .f32)
    (qm : FVec F S128x1024 .bf16) (P : Memref sig .tc .vmem S4x128x1024 .f32) (s : Fin 4) : PG F PUnit :=
  if Scalar.cmpi .ne (Scalar.extui (Scalar.cmpi .eq q 0#32) : BitVec 32) 0#32 = 1#1 then fullP Wo K V qm P s else pure ⟨⟩

/-- Queries of a half of the device's own rows. -/
def qmOwn (X : Memref sig .tc .vmem S256x1024 .bf16) (b : Fin 2) (Wq : Memref sig .tc .vmem S1024x1024 .bf16) :
    PG F (FVec F S128x1024 .bf16) := do
  let x : Vec F S128x1024 .bf16 ← Prog.lift (.load X (Rect.unit (s := S256x1024) ![128 * b.val, 0] S128x1024.size (inb2 b)).toLoadRect (View.loadsAt_vmem h_S128x1024))
  let wq ← loadW Wq
  pure (qmOf (shapeCast S128x1024 x shapeCasts_S128x1024_S128x1024) wq)

/-- Queries of a half block that arrived. -/
def qmFar (X : Memref sig .tc .vmem S3x128x1024 .bf16) (h : Fin 3) (Wq : Memref sig .tc .vmem S1024x1024 .bf16) :
    PG F (FVec F S128x1024 .bf16) := do
  let x ← load3 X h
  let wq ← loadW Wq
  pure (qmOf (shapeCast S128x1024 x shapeCasts_S1x128x1024_S128x1024) wq)

/-- Adds to a slot the sum that arrived. -/
def accP (P : Memref sig .tc .vmem S4x128x1024 .f32) (s : Fin 4) (R : Memref sig .tc .vmem S3x128x1024 .bf16) (t : Fin 3) : PG F PUnit := do
  let p ← load4 P s
  let r ← load3 R t
  store4 P s (addR (shapeCast S128x1024 p shapeCasts_S1x128x1024_S128x1024) (shapeCast S128x1024 r shapeCasts_S1x128x1024_S128x1024))

/-- Copies a slot's sum to where it is sent from. -/
def stageP (P : Memref sig .tc .vmem S4x128x1024 .f32) (s : Fin 4) (S : Memref sig .tc .vmem S3x128x1024 .bf16) (hS : S.IsWhole)
    (t : Fin 3) : PG F PUnit := do
  let p ← load4 P s
  let _ ← load3 (F := F) S t
  Prog.lift (.store S (Rect.unit (s := S3x128x1024) ![t.val, 0, 0] S1x128x1024.size (inb3 t))
    (shapeCast S1x128x1024 (toS (shapeCast S128x1024 p shapeCasts_S1x128x1024_S128x1024)) shapeCasts_S128x1024_S1x128x1024) Finset.univ
    (View.stores_vmem h_S1x128x1024 (hS.storeExact_slice rfl _ (packed3 t)) (fun _ => rfl)) (.inl rfl))

/-- Writes a half of the device's rows of the result. -/
def outP (P : Memref sig .tc .vmem S4x128x1024 .f32) (R : Memref sig .tc .vmem S3x128x1024 .bf16)
    (O : Memref sig .tc .vmem S256x1024 .f32) (b : Fin 2) : PG F PUnit := do
  let p ← load4 P 0
  let r ← load3 R 2
  let _ : Vec F S128x1024 .f32 ← Prog.lift (.load O (Rect.unit (s := S256x1024) ![128 * b.val, 0] S128x1024.size (inb2 b)).toLoadRect (View.loadsAt_vmem h_S128x1024))
  Prog.lift (.store O (Rect.unit (s := S256x1024) ![128 * b.val, 0] S128x1024.size (inb2 b))
    (addR (shapeCast S128x1024 p shapeCasts_S1x128x1024_S128x1024) (shapeCast S128x1024 r shapeCasts_S1x128x1024_S128x1024))
    Finset.univ (View.stores_vmem_bits_univ h_S128x1024 rfl) (.inl rfl))

/-! ### The body -/

section Body

variable (X : Memref sig .tc .vmem S256x1024 .bf16) (hX : X.IsWhole) (Wq : Memref sig .tc .vmem S1024x1024 .bf16)
  (Ka Va : Memref sig .tc .hbm S1x4096x32x128 .f32) (Wo : Memref sig .tc .vmem S1024x1024 .bf16) (O : Memref sig .tc .vmem S256x1024 .f32)
  (K V : Memref sig .tc .vmem S8x4096x128 .f32)
  (xT : Memref sig .tc .vmem S3x128x1024 .bf16) (hxT : xT.IsWhole) (xB : Memref sig .tc .vmem S3x128x1024 .bf16) (hxB : xB.IsWhole)
  (pT pB : Memref sig .tc .vmem S4x128x1024 .f32)
  (sT : Memref sig .tc .vmem S3x128x1024 .bf16) (hsT : sT.IsWhole) (rT : Memref sig .tc .vmem S3x128x1024 .bf16) (hrT : rT.IsWhole)
  (sB : Memref sig .tc .vmem S3x128x1024 .bf16) (hsB : sB.IsWhole) (rB : Memref sig .tc .vmem S3x128x1024 .bf16) (hrB : rB.IsWhole)
  (D : DmaSems sig S2x8) (aTs aTr aBs aBr cTs cTr cBs cBr : DmaSems sig S3) (E : Sems sig S_)

/-- The local copies are started. -/
def kvStarts (d : Dev nD) : PG F PUnit := do
  kvStart Ka K D 0 d 0; kvStart Va V D 1 d 0; kvStart Ka K D 0 d 1; kvStart Va V D 1 d 1
  kvStart Ka K D 0 d 2; kvStart Va V D 1 d 2; kvStart Ka K D 0 d 3; kvStart Va V D 1 d 3
  kvStart Ka K D 0 d 4; kvStart Va V D 1 d 4; kvStart Ka K D 0 d 5; kvStart Va V D 1 d 5
  kvStart Ka K D 0 d 6; kvStart Va V D 1 d 6; kvStart Ka K D 0 d 7; kvStart Va V D 1 d 7

/-- The local copies are waited for. -/
def kvWaits (d : Dev nD) : PG F PUnit := do
  kvWait Ka K D 0 d 0; kvWait Va V D 1 d 0; kvWait Ka K D 0 d 1; kvWait Va V D 1 d 1
  kvWait Ka K D 0 d 2; kvWait Va V D 1 d 2; kvWait Ka K D 0 d 3; kvWait Va V D 1 d 3
  kvWait Ka K D 0 d 4; kvWait Va V D 1 d 4; kvWait Ka K D 0 d 5; kvWait Va V D 1 d 5
  kvWait Ka K D 0 d 6; kvWait Va V D 1 d 6; kvWait Ka K D 0 d 7; kvWait Va V D 1 d 7

/-- The neighbours' buffers are ready. -/
def barrierP (d : Dev nD) : PG F PUnit := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32

/-- The device's own upper half block. -/
def ownT (d : Dev nD) : PG F PUnit := do
  let qm ← qmOwn X 0 Wq
  halfP Wo K V qm (maskOf (baseW (myW d) 0#32) (startW (myW d) 0#32)) (offOwn d 0#32) (offOwn_inb d 0) pT 0
  fullIf (myW d) Wo K V qm pT 0

/-- The device's own lower half block. -/
def ownB (d : Dev nD) : PG F PUnit := do
  let qm ← qmOwn X 1 Wq
  halfP Wo K V qm (maskOf (baseW (myW d) 128#32) (startW (myW d) 128#32)) (offOwn d 128#32) (offOwn_inb d 1) pB 0

/-- The upper half block of the device `k + 1` after, that arrived in slot `h`. -/
def farT (d : Dev nD) (h : Fin 3) (k : Fin 3) (s : Fin 4) : PG F PUnit := do
  let qm ← qmFar xT h Wq
  halfP Wo K V qm (maskOf (baseW (qW d (BitVec.ofNat 32 (1 + k.val))) 0#32) (startW (qW d (BitVec.ofNat 32 (1 + k.val))) 0#32))
    (offFar d (BitVec.ofNat 32 (1 + k.val)) 0#32) (offFar_inb d k 0) pT s
  fullIf (qW d (BitVec.ofNat 32 (1 + k.val))) Wo K V qm pT s

/-- The lower half block of the device `k + 1` after, that arrived in slot `h`. -/
def farB (d : Dev nD) (h : Fin 3) (k : Fin 3) (s : Fin 4) : PG F PUnit := do
  let qm ← qmFar xB h Wq
  halfP Wo K V qm (maskOf (baseW (qW d (BitVec.ofNat 32 (1 + k.val))) 128#32) (startW (qW d (BitVec.ofNat 32 (1 + k.val))) 128#32))
    (offFar d (BitVec.ofNat 32 (1 + k.val)) 128#32) (offFar_inb d k 1) pB s

/-- The neighbours are done. -/
def closeP (d : Dev nD) : PG F PUnit := do
  semSignalWord (⟨k0_dev15 d, k0_dev15_lt d⟩ : Dev nD) E.sem 1#32
  semSignalWord (⟨k0_dev16 d, k0_dev16_lt d⟩ : Dev nD) E.sem 1#32
  semWaitWord E.sem 2#32

/-- The body of the kernel, on the device `d`. -/
def restP (d : Dev nD) : PG F PUnit := do
  kvStarts Ka Va K V D d
  barrierP d
  send ⟨k0_dev3 d, k0_dev3_lt d⟩ (half2 X 0) (slot3 xT 0) (exact2 hX 0) (exact3 hxT 0) (sem3 aTs 0) (sem3 aTr 0)
  send ⟨k0_dev4 d, k0_dev4_lt d⟩ (half2 X 1) (slot3 xB 0) (exact2 hX 1) (exact3 hxB 0) (sem3 aBs 0) (sem3 aBr 0)
  kvWaits Ka Va K V D d
  ownT X Wq Wo K V pT d
  ownB X Wq Wo K V pB d
  sendRecv (half2 X 0) (slot3 xT 0) (exact2 hX 0) (exact3 hxT 0) (sem3 aTs 0) (sem3 aTr 0)
  send ⟨k0_dev5 d, k0_dev5_lt d⟩ (slot3 xT 0) (slot3 xT 1) (exact3 hxT 0) (exact3 hxT 1) (sem3 aTs 1) (sem3 aTr 1)
  sendRecv (half2 X 1) (slot3 xB 0) (exact2 hX 1) (exact3 hxB 0) (sem3 aBs 0) (sem3 aBr 0)
  send ⟨k0_dev6 d, k0_dev6_lt d⟩ (slot3 xB 0) (slot3 xB 1) (exact3 hxB 0) (exact3 hxB 1) (sem3 aBs 1) (sem3 aBr 1)
  farT Wq Wo K V xT pT d 0 2 1
  stageP pT 1 sT hsT 0
  send ⟨k0_dev7 d, k0_dev7_lt d⟩ (slot3 sT 0) (slot3 rT 0) (exact3 hsT 0) (exact3 hrT 0) (sem3 cTs 0) (sem3 cTr 0)
  farB Wq Wo K V xB pB d 0 0 1
  stageP pB 1 sB hsB 0
  send ⟨k0_dev8 d, k0_dev8_lt d⟩ (slot3 sB 0) (slot3 rB 0) (exact3 hsB 0) (exact3 hrB 0) (sem3 cBs 0) (sem3 cBr 0)
  sendRecv (slot3 xT 0) (slot3 xT 1) (exact3 hxT 0) (exact3 hxT 1) (sem3 aTs 1) (sem3 aTr 1)
  send ⟨k0_dev9 d, k0_dev9_lt d⟩ (slot3 xT 1) (slot3 xT 2) (exact3 hxT 1) (exact3 hxT 2) (sem3 aTs 2) (sem3 aTr 2)
  sendRecv (slot3 xB 0) (slot3 xB 1) (exact3 hxB 0) (exact3 hxB 1) (sem3 aBs 1) (sem3 aBr 1)
  send ⟨k0_dev10 d, k0_dev10_lt d⟩ (slot3 xB 1) (slot3 xB 2) (exact3 hxB 1) (exact3 hxB 2) (sem3 aBs 2) (sem3 aBr 2)
  farT Wq Wo K V xT pT d 1 1 2
  sendRecv (slot3 sT 0) (slot3 rT 0) (exact3 hsT 0) (exact3 hrT 0) (sem3 cTs 0) (sem3 cTr 0)
  accP pT 2 rT 0
  stageP pT 2 sT hsT 1
  send ⟨k0_dev11 d, k0_dev11_lt d⟩ (slot3 sT 1) (slot3 rT 1) (exact3 hsT 1) (exact3 hrT 1) (sem3 cTs 1) (sem3 cTr 1)
  farB Wq Wo K V xB pB d 1 1 2
  sendRecv (slot3 sB 0) (slot3 rB 0) (exact3 hsB 0) (exact3 hrB 0) (sem3 cBs 0) (sem3 cBr 0)
  accP pB 2 rB 0
  stageP pB 2 sB hsB 1
  send ⟨k0_dev12 d, k0_dev12_lt d⟩ (slot3 sB 1) (slot3 rB 1) (exact3 hsB 1) (exact3 hrB 1) (sem3 cBs 1) (sem3 cBr 1)
  sendRecv (slot3 xT 1) (slot3 xT 2) (exact3 hxT 1) (exact3 hxT 2) (sem3 aTs 2) (sem3 aTr 2)
  sendRecv (slot3 xB 1) (slot3 xB 2) (exact3 hxB 1) (exact3 hxB 2) (sem3 aBs 2) (sem3 aBr 2)
  farT Wq Wo K V xT pT d 2 0 3
  sendRecv (slot3 sT 1) (slot3 rT 1) (exact3 hsT 1) (exact3 hrT 1) (sem3 cTs 1) (sem3 cTr 1)
  accP pT 3 rT 1
  stageP pT 3 sT hsT 2
  send ⟨k0_dev13 d, k0_dev13_lt d⟩ (slot3 sT 2) (slot3 rT 2) (exact3 hsT 2) (exact3 hrT 2) (sem3 cTs 2) (sem3 cTr 2)
  farB Wq Wo K V xB pB d 2 2 3
  sendRecv (slot3 sB 1) (slot3 rB 1) (exact3 hsB 1) (exact3 hrB 1) (sem3 cBs 1) (sem3 cBr 1)
  accP pB 3 rB 1
  stageP pB 3 sB hsB 2
  send ⟨k0_dev14 d, k0_dev14_lt d⟩ (slot3 sB 2) (slot3 rB 2) (exact3 hsB 2) (exact3 hrB 2) (sem3 cBs 2) (sem3 cBr 2)
  sendRecv (slot3 sT 2) (slot3 rT 2) (exact3 hsT 2) (exact3 hrT 2) (sem3 cTs 2) (sem3 cTr 2)
  outP pT rT O 0
  sendRecv (slot3 sB 2) (slot3 rB 2) (exact3 hsB 2) (exact3 hrB 2) (sem3 cBs 2) (sem3 cBr 2)
  outP pB rB O 1
  closeP E d

end Body

end Cert.KernelIdeal.Ring
-- ==== Proof.KI.Own.lean ====
module

public import proofs.«01_k».proof.Proof.KI.Prog
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

/-! Loads and stores of buffers that are owned at known contents. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost state of the cells: rounds whose duties are named by a `Bool`. -/
abbrev UB : Type := URounds (GSem nD τ sig) Bool

/-- The ghost state of the whole run. -/
abbrev UU : Type := UR sig nD τ × UB

local notation "𝕄" => MT nD τ sig Unit (Elt F) ℕ UU ℕ

/-- The kernel names no variants. -/
abbrev 𝒱₀ : Variants := Variants.none

/-- What must hold for a program of device `c` to end in `Q`. -/
abbrev wpb (c : Dev nD) {α : Type} (p : PG F α) (Q : α → sProp 𝕄) : sProp 𝕄 :=
  wp frame (wpE (defs₀ (F := F)) 𝒱₀ (c : Thread nD τ) none) Set.univ p Q

/-- A memref of device `c` owned at the share `q`, with what it reads. -/
abbrev own (c : Dev nD) {sp : Space} {sh : Shape} {e : EltTy} (M : Memref sig .tc sp sh e) (q : PosShare TreeShare)
    (X : sh.Idx → Elt F e) : sProp 𝕄 := owns (c : Thread nD τ) M q X

/-- A memref of device `c` owned, with whatever contents. -/
abbrev ownAny (c : Dev nD) {sp : Space} {sh : Shape} {e : EltTy} (M : Memref sig .tc sp sh e) : sProp 𝕄 :=
  iprop(∃ X : sh.Idx → Elt F e, own c M fullShare X)

section Generic

variable (c : Dev nD)

/-- Owning a memref with its axes of size one dropped is owning it. -/
theorem own_squeeze {sp : Space} {s s' : Shape} {e : EltTy} (N : Memref sig .tc sp s e) (hq : s.Squeezes s') (q : PosShare TreeShare)
    (hc : s.ShapeCasts s') (hc' : s'.ShapeCasts s) (X : s'.Idx → Elt F e) :
    (own c (N.squeeze s' hq) q X : sProp 𝕄) = own c N q (shapeCast s X hc') := by
  have hr : ∀ f : N.view.ty.Contents (Elt F), (N.squeeze s' hq).view.read (Elt F) f = shapeCast s' (N.view.read (Elt F) f) hc := fun _ => rfl
  have hs : (N.squeeze s' hq).view.set = N.view.set := View.set_reshape _ _
  have h₁ : (own c (N.squeeze s' hq) q X : sProp 𝕄) ⊢ own c N q (shapeCast s X hc') := by
    unfold own owns
    iintro ⟨%f, %hf, H⟩
    iexists f
    isplitr
    · ipureintro; rw [← hf, hr, shapeCast_shapeCast]
    · iapply (Entails.of_eq (congrArg (fun S => (N.view.loc (c : Thread nD τ) ↦[S]{q} f : sProp 𝕄)) hs)); iexact H
  have h₂ : (own c N q (shapeCast s X hc') : sProp 𝕄) ⊢ own c (N.squeeze s' hq) q X := by
    unfold own owns
    iintro ⟨%f, %hf, H⟩
    iexists f
    isplitr
    · ipureintro; rw [hr, hf, shapeCast_shapeCast]
    · iapply (Entails.of_eq (congrArg (fun S => (N.view.loc (c : Thread nD τ) ↦[S]{q} f : sProp 𝕄)) hs.symm)); iexact H
  exact BI.equiv_iff.mp ⟨h₁, h₂⟩

/-- A load of a rectangle of a memref that is owned. -/
theorem load_sub {s : Shape} {e : EltTy} (M : Memref sig .tc .vmem s e) (r : Rect s) (hl : M.view.LoadsAt r.toLoadRect)
    (q : PosShare TreeShare) (X : s.Idx → Elt F e) (Kt : (r.shape.Idx → Elt F e) → sProp 𝕄) :
    (own c M q X : sProp 𝕄)
      ⊢ iprop((own c M q X -∗ Kt (fun j => X (r.emb j))) -∗ wpb c (Prog.lift (.load M r.toLoadRect hl)) Kt) := by
  unfold own owns
  iintro ⟨%f, %hf, H⟩ Hk
  iapply (wp_load_rect 𝒱₀ (c : Thread nD τ) none Set.univ (m := M) (r := r) (hl := hl) (S := M.view.set) (q := q) (f := f)
    (k := fun x => Prog.ret x) (View.set_slice_subset _ _)) $$ H
  iintro H
  iapply (le_wp_ret frame _ Set.univ _ Kt)
  have e1 : (M.access r).read (Elt F) f = fun j => X (r.emb j) := by rw [← hf]; rfl
  rw [e1]
  iapply Hk
  iexists f
  isplitr; · ipureintro; exact hf
  iexact H

/-- The same, with a name for what is read. -/
theorem load_eq {s : Shape} {e : EltTy} (M : Memref sig .tc .vmem s e) {r : Rect s} {hl : M.view.LoadsAt r.toLoadRect}
    {q : PosShare TreeShare} {X : s.Idx → Elt F e} {Y : r.shape.Idx → Elt F e} (hY : (fun j => X (r.emb j)) = Y)
    {Kt : (r.shape.Idx → Elt F e) → sProp 𝕄} :
    (own c M q X : sProp 𝕄)
      ⊢ iprop((own c M q X -∗ Kt Y) -∗ wpb c (Prog.lift (.load M r.toLoadRect hl)) Kt) := by
  subst hY
  exact load_sub c M r hl q X Kt

/-- A load of exactly the rectangle that is owned. -/
theorem load_at {s : Shape} {e : EltTy} (M : Memref sig .tc .vmem s e) (r : Rect s) (hr : ∀ a, r.stride a = 1)
    (hl : M.view.LoadsAt r.toLoadRect) (q : PosShare TreeShare) (X : r.shape.Idx → Elt F e) (Kt : (r.shape.Idx → Elt F e) → sProp 𝕄) :
    (own c (M.slice r hr) q X : sProp 𝕄)
      ⊢ iprop((own c (M.slice r hr) q X -∗ Kt X) -∗ wpb c (Prog.lift (.load M r.toLoadRect hl)) Kt) := by
  unfold own owns
  iintro ⟨%f, %hf, H⟩ Hk
  iapply (wp_load_rect 𝒱₀ (c : Thread nD τ) none Set.univ (m := M) (r := r) (hl := hl) (S := (M.slice r hr).view.set) (q := q) (f := f)
    (k := fun x => Prog.ret x) (Finset.Subset.refl _)) $$ H
  iintro H
  iapply (le_wp_ret frame _ Set.univ _ Kt)
  have e1 : (M.access r).read (Elt F) f = X := hf
  rw [e1]
  iapply Hk
  iexists f
  isplitr; · ipureintro; exact hf
  iexact H

/-- A store to exactly the rectangle that is owned. -/
theorem store_at {s : Shape} {e : EltTy} (M : Memref sig .tc .vmem s e) (r : Rect s) (hr : ∀ a, r.stride a = 1)
    (w X : r.shape.Idx → Elt F e) (hx : (M.access r).Stores Finset.univ) (hm : Finset.univ = Finset.univ ∨ ∀ a, r.stride a = 1)
    (Kt : PUnit → sProp 𝕄) :
    (own c (M.slice r hr) fullShare X : sProp 𝕄)
      ⊢ iprop((own c (M.slice r hr) fullShare w -∗ Kt ⟨⟩) -∗ wpb c (Prog.lift (.store M r w Finset.univ hx hm)) Kt) := by
  unfold own owns
  iintro ⟨%f, %hf, H⟩ Hk
  iapply (wp_store 𝒱₀ (c : Thread nD τ) none Set.univ (m := M) (r := r) (w := w) (Mk := Finset.univ) (hx := hx) (hm := hm)
    (S := (M.slice r hr).view.set) (f := f) (k := fun x => Prog.ret x) (Finset.Subset.refl _)) $$ H
  iintro H
  iapply (le_wp_ret frame _ Set.univ _ Kt)
  iapply Hk
  iexists ((M.access r).write (Elt F) f w Finset.univ)
  isplitr; · ipureintro; exact View.read_write_univ _ _
  iexact H

/-- A store to exactly the rectangle that is owned with its axes of size one dropped. -/
theorem store_sq {s s' : Shape} {e : EltTy} (M : Memref sig .tc .vmem s e) (r : Rect s) (hr : ∀ a, r.stride a = 1)
    (hq : r.shape.Squeezes s') (hc : r.shape.ShapeCasts s') (hc' : s'.ShapeCasts r.shape) (X x : s'.Idx → Elt F e)
    (hx : (M.access r).Stores Finset.univ) (hm : Finset.univ = Finset.univ ∨ ∀ a, r.stride a = 1) (Kt : PUnit → sProp 𝕄) :
    (own c ((M.slice r hr).squeeze s' hq) fullShare X : sProp 𝕄)
      ⊢ iprop((own c ((M.slice r hr).squeeze s' hq) fullShare x -∗ Kt ⟨⟩)
        -∗ wpb c (Prog.lift (.store M r (shapeCast r.shape x hc') Finset.univ hx hm)) Kt) := by
  rw [own_squeeze c (M.slice r hr) hq fullShare hc hc' X, own_squeeze c (M.slice r hr) hq fullShare hc hc' x]
  exact store_at c M r hr _ _ hx hm Kt

end Generic

end Cert.KernelIdeal.Ring
-- ==== Proof.KI.Pieces.lean ====
module

public import proofs.«01_k».proof.Proof.KI.Own
public import Idealize.ShloMosaic.Lib.Pipeline.ValueKit.Geometry

/-! The pieces of the body which only compute: each takes what it reads and returns it, with the slot it writes
at its new contents. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ### Values -/

/-- The keys (or values) of one head's window. -/
def winOf (X : Vec F S8x4096x128 .f32) (off : Fin 8 → Fin 3 → ℕ) (hoff : ∀ h a, off h a + S1x384x128.size a ≤ S8x4096x128.size a)
    (h : Fin 8) : Vec F S1x384x128 .f32 :=
  fun j => X ((Rect.unit (s := S8x4096x128) (off h) S1x384x128.size (hoff h)).emb j)

/-- The first 128 keys (or values) of one head. -/
def firstOf (X : Vec F S8x4096x128 .f32) (h : Fin 8) : Vec F S1x128x128 .f32 :=
  fun j => X ((Rect.unit (s := S8x4096x128) ![h.val, 0, 0] S1x128x128.size (inb8g h)).emb j)

/-- Every key (or value) of one head. -/
def everyOf (X : Vec F S8x4096x128 .f32) (h : Fin 8) : Vec F S1x4096x128 .f32 :=
  fun j => X ((Rect.unit (s := S8x4096x128) ![h.val, 0, 0] S1x4096x128.size (inb8 h)).emb j)

/-- What a device adds to the output of a half block of rows, over its window. -/
def halfV (qm : FVec F S128x1024 .bf16) (mask : IVec S128x512 1) (off : Fin 8 → Fin 3 → ℕ)
    (hoff : ∀ h a, off h a + S1x384x128.size a ≤ S8x4096x128.size a) (k v : Vec F S8x4096x128 .f32) (wo : Vec F S1024x1024 .bf16) :
    FVec F S128x1024 .f32 :=
  outOf (fun h => headOut qm mask h (winOf k off hoff h) (firstOf k h) (winOf v off hoff h) (firstOf v h)) wo

/-- What a device adds to the output of the first 32 rows, over every key. -/
def fullV (qm : FVec F S128x1024 .bf16) (k v : Vec F S8x4096x128 .f32) (wo : Vec F S1024x1024 .bf16) : FVec F S32x1024 .f32 :=
  outAll (fun h => headAll qm h (everyOf k h) (everyOf v h)) wo

/-- The first 32 rows replaced. -/
def over32 (p : FVec F S128x1024 .f32) (t : FVec F S32x1024 .f32) : FVec F S128x1024 .f32 :=
  fun j => if h : (j 0).val < 32 then t (fun | 0 => ⟨(j 0).val, h⟩ | 1 => ⟨(j 1).val, (j 1).isLt⟩) else p j

/-- The first 32 rows replaced by what they are over every key, for the first block. -/
def fullIfV (q : BitVec 32) (qm : FVec F S128x1024 .bf16) (k v : Vec F S8x4096x128 .f32) (wo : Vec F S1024x1024 .bf16)
    (p : FVec F S128x1024 .f32) : FVec F S128x1024 .f32 :=
  if Scalar.cmpi .ne (Scalar.extui (Scalar.cmpi .eq q 0#32) : BitVec 32) 0#32 = 1#1 then over32 p (fullV qm k v wo) else p

/-! ### The pieces -/

section Pieces

variable (c : Dev nD)

/-- A slot of three, loaded. -/
theorem wp_load3 (M : Memref sig .tc .vmem S3x128x1024 .bf16) (h : Fin 3) (q : PosShare TreeShare) (X : FVec F S128x1024 .bf16)
    (Kt : Vec F S1x128x1024 .bf16 → sProp 𝕄) :
    (own c (slot3 M h) q X : sProp 𝕄)
      ⊢ iprop((own c (slot3 M h) q X -∗ Kt (shapeCast S1x128x1024 X shapeCasts_S128x1024_S1x128x1024)) -∗ wpb c (load3 M h) Kt) := by
  rw [own_squeeze c _ _ _ shapeCasts_S1x128x1024_S128x1024 shapeCasts_S128x1024_S1x128x1024]
  exact load_at c M (Rect.unit (s := S3x128x1024) ![h.val, 0, 0] S1x128x1024.size (inb3 h)) (fun _ => rfl) _ q _ Kt

/-- A slot of four, loaded. -/
theorem wp_load4 (M : Memref sig .tc .vmem S4x128x1024 .f32) (h : Fin 4) (q : PosShare TreeShare) (X : FVec F S128x1024 .f32)
    (Kt : Vec F S1x128x1024 .f32 → sProp 𝕄) :
    (own c (slot4 M h) q X : sProp 𝕄)
      ⊢ iprop((own c (slot4 M h) q X -∗ Kt (shapeCast S1x128x1024 X shapeCasts_S128x1024_S1x128x1024)) -∗ wpb c (load4 M h) Kt) := by
  rw [own_squeeze c _ _ _ shapeCasts_S1x128x1024_S128x1024 shapeCasts_S128x1024_S1x128x1024]
  exact load_at c M (Rect.unit (s := S4x128x1024) ![h.val, 0, 0] S1x128x1024.size (inb4 h)) (fun _ => rfl) _ q _ Kt

/-- A slot of four, replaced. -/
theorem wp_store4 (M : Memref sig .tc .vmem S4x128x1024 .f32) (h : Fin 4) (X x : FVec F S128x1024 .f32) (Kt : PUnit → sProp 𝕄) :
    (own c (slot4 M h) fullShare X : sProp 𝕄)
      ⊢ iprop((own c (slot4 M h) fullShare x -∗ Kt ⟨⟩) -∗ wpb c (store4 M h x) Kt) := by
  iintro H Hk
  unfold wpb store4
  rw [wp_bind]
  iapply (wp_load4 c M h fullShare X) $$ H
  iintro H
  iapply (store_sq c M (Rect.unit (s := S4x128x1024) ![h.val, 0, 0] S1x128x1024.size (inb4 h)) (fun _ => rfl)
    squeezes_S1x128x1024_S128x1024 shapeCasts_S1x128x1024_S128x1024 shapeCasts_S128x1024_S1x128x1024 X x) $$ H
  iexact Hk

theorem zero2 : (![0, 0] : Fin 2 → ℕ) = fun _ => 0 := funext fun a => by fin_cases a <;> rfl

/-- The weights, loaded. -/
theorem wp_loadW (W : Memref sig .tc .vmem S1024x1024 .bf16) (q : PosShare TreeShare) (X : Vec F S1024x1024 .bf16)
    (Kt : Vec F S1024x1024 .bf16 → sProp 𝕄) :
    (own c W q X : sProp 𝕄) ⊢ iprop((own c W q X -∗ Kt X) -∗ wpb c (loadW W) Kt) := by
  have e : (fun j => X ((Rect.unit (s := S1024x1024) ![0, 0] S1024x1024.size inb_S1024x1024_S1024x1024_0_0).emb j)) = X := by
    funext j
    refine congrArg X (funext fun a => Fin.ext ?_)
    rw [ValueKit.rect_emb_unit_val]
    fin_cases a <;> simp
  have h := load_sub c W (Rect.unit (s := S1024x1024) ![0, 0] S1024x1024.size inb_S1024x1024_S1024x1024_0_0)
    (View.loadsAt_vmem h_S1024x1024) q X Kt
  rw [e] at h
  exact h

/-- One head. -/
theorem wp_headP (K V : Memref sig .tc .vmem S8x4096x128 .f32) (qm : FVec F S128x1024 .bf16) (mask : IVec S128x512 1)
    (off : Fin 8 → Fin 3 → ℕ) (hoff : ∀ h a, off h a + S1x384x128.size a ≤ S8x4096x128.size a) (h : Fin 8) (k v : Vec F S8x4096x128 .f32)
    (Kt : FVec F S128x128 .f32 → sProp 𝕄) :
    iprop(own c K fullShare k ∗ own c V fullShare v)
      ⊢ iprop((own c K fullShare k ∗ own c V fullShare v
          -∗ Kt (headOut qm mask h (winOf k off hoff h) (firstOf k h) (winOf v off hoff h) (firstOf v h)))
        -∗ wpb c (headP K V qm mask off hoff h) Kt) := by
  iintro ⟨HK, HV⟩ Hk
  unfold wpb headP
  rw [wp_bind]
  iapply (load_eq c K (Y := winOf k off hoff h) rfl) $$ HK
  iintro HK
  rw [wp_bind]
  iapply (load_eq c K (Y := firstOf k h) rfl) $$ HK
  iintro HK
  rw [wp_bind]
  iapply (load_eq c V (Y := winOf v off hoff h) rfl) $$ HV
  iintro HV
  rw [wp_bind]
  iapply (load_eq c V (Y := firstOf v h) rfl) $$ HV
  iintro HV
  iapply (le_wp_ret frame _ Set.univ _ Kt)
  iapply Hk
  isplitl [HK]; · iexact HK
  iexact HV

/-- One head of the first 32 rows. -/
theorem wp_headAllP (K V : Memref sig .tc .vmem S8x4096x128 .f32) (qm : FVec F S128x1024 .bf16) (h : Fin 8) (k v : Vec F S8x4096x128 .f32)
    (Kt : FVec F S32x128 .f32 → sProp 𝕄) :
    iprop(own c K fullShare k ∗ own c V fullShare v)
      ⊢ iprop((own c K fullShare k ∗ own c V fullShare v -∗ Kt (headAll qm h (everyOf k h) (everyOf v h)))
        -∗ wpb c (headAllP K V qm h) Kt) := by
  iintro ⟨HK, HV⟩ Hk
  unfold wpb headAllP
  rw [wp_bind]
  iapply (load_eq c K (Y := everyOf k h) rfl) $$ HK
  iintro HK
  rw [wp_bind]
  iapply (load_eq c V (Y := everyOf v h) rfl) $$ HV
  iintro HV
  iapply (le_wp_ret frame _ Set.univ _ Kt)
  iapply Hk
  isplitl [HK]; · iexact HK
  iexact HV

theorem heads_eta {α : Type} (f : Fin 8 → α) :
    (fun x : Fin 8 => match x with | 0 => f 0 | 1 => f 1 | 2 => f 2 | 3 => f 3 | 4 => f 4 | 5 => f 5 | 6 => f 6 | 7 => f 7) = f :=
  funext fun h => by fin_cases h <;> rfl

/-- A half block over its window. -/
theorem wp_halfP (Wo : Memref sig .tc .vmem S1024x1024 .bf16) (K V : Memref sig .tc .vmem S8x4096x128 .f32) (qm : FVec F S128x1024 .bf16)
    (mask : IVec S128x512 1) (off : Fin 8 → Fin 3 → ℕ) (hoff : ∀ h a, off h a + S1x384x128.size a ≤ S8x4096x128.size a)
    (P : Memref sig .tc .vmem S4x128x1024 .f32) (s : Fin 4) (k v : Vec F S8x4096x128 .f32) (wo : Vec F S1024x1024 .bf16)
    (X : FVec F S128x1024 .f32) (Kt : PUnit → sProp 𝕄) :
    iprop((own c K fullShare k ∗ own c V fullShare v) ∗ own c Wo fullShare wo ∗ own c (slot4 P s) fullShare X)
      ⊢ iprop(((own c K fullShare k ∗ own c V fullShare v) ∗ own c Wo fullShare wo
          ∗ own c (slot4 P s) fullShare (halfV qm mask off hoff k v wo) -∗ Kt ⟨⟩)
        -∗ wpb c (halfP Wo K V qm mask off hoff P s) Kt) := by
  iintro ⟨H, HW, HP⟩ Hk
  unfold wpb halfP
  rw [wp_bind]; iapply (wp_headP c K V qm mask off hoff 0 k v) $$ H; iintro H
  rw [wp_bind]; iapply (wp_headP c K V qm mask off hoff 1 k v) $$ H; iintro H
  rw [wp_bind]; iapply (wp_headP c K V qm mask off hoff 2 k v) $$ H; iintro H
  rw [wp_bind]; iapply (wp_headP c K V qm mask off hoff 3 k v) $$ H; iintro H
  rw [wp_bind]; iapply (wp_headP c K V qm mask off hoff 4 k v) $$ H; iintro H
  rw [wp_bind]; iapply (wp_headP c K V qm mask off hoff 5 k v) $$ H; iintro H
  rw [wp_bind]; iapply (wp_headP c K V qm mask off hoff 6 k v) $$ H; iintro H
  rw [wp_bind]; iapply (wp_headP c K V qm mask off hoff 7 k v) $$ H; iintro H
  rw [wp_bind]; iapply (wp_loadW c Wo fullShare wo) $$ HW; iintro HW
  iapply (wp_store4 c P s X) $$ HP
  iintro HP
  iapply Hk
  isplitl [H]; · iexact H
  isplitl [HW]; · iexact HW
  iapply (Entails.of_eq (congrArg (fun p => (own c (slot4 P s) fullShare (outOf p wo) : sProp 𝕄))
    (heads_eta (fun h => headOut qm mask h (winOf k off hoff h) (firstOf k h) (winOf v off hoff h) (firstOf v h)))))
  iexact HP

theorem emb32 (s : Fin 4) (j : S128x1024.Idx) (h : (j 0).val < 32) :
    (rect4 s).emb (show S1x128x1024.Idx from Fin.cons ⟨0, Nat.one_pos⟩ j)
      = (Rect.unit (s := S4x128x1024) ![s.val, 0, 0] S1x32x1024.size (inb4r s)).emb
          (show S1x32x1024.Idx from Fin.cons ⟨0, Nat.one_pos⟩ (show S32x1024.Idx from fun | 0 => ⟨(j 0).val, h⟩ | 1 => ⟨(j 1).val, (j 1).isLt⟩)) := by
  refine funext fun a => Fin.ext ?_
  unfold rect4
  rw [ValueKit.rect_emb_unit_val, ValueKit.rect_emb_unit_val]
  fin_cases a <;> rfl

/-- What a slot reads when its first 32 rows have been stored. -/
theorem read_over32 (P : Memref sig .tc .vmem S4x128x1024 .f32) (s : Fin 4) (f : P.view.ty.Contents (Elt F)) (t : FVec F S32x1024 .f32)
    (X : FVec F S128x1024 .f32) (hf : (slot4 P s).view.read (Elt F) f = X) :
    (slot4 P s).view.read (Elt F) ((P.access (Rect.unit (s := S4x128x1024) ![s.val, 0, 0] S1x32x1024.size (inb4r s))).write (Elt F) f
      (shapeCast S1x32x1024 t shapeCasts_S32x1024_S1x32x1024) Finset.univ) = over32 X t := by
  have hread : ∀ g, (slot4 P s).view.read (Elt F) g
      = shapeCast (s := S1x128x1024) S128x1024 (fun j => P.view.read (Elt F) g ((rect4 s).emb j)) shapeCasts_S1x128x1024_S128x1024 := fun g => rfl
  rw [hread] at hf ⊢
  subst hf
  funext j
  rw [shapeCast_dropUnit_apply]
  unfold over32
  by_cases h : (j 0).val < 32
  · rw [dif_pos h]
    refine (congrArg (P.view.read (Elt F) _) (emb32 s j h)).trans ?_
    refine (View.read_slice_write_emb (v := P.view) _ f _ (Finset.mem_univ _)).trans ?_
    rw [shapeCast_addUnit_apply]
    refine congrArg t (funext fun a => ?_)
    fin_cases a <;> rfl
  · rw [dif_neg h, shapeCast_dropUnit_apply]
    refine View.read_slice_write_of_not_mem (v := P.view) _ f _ Finset.univ ?_
    intro hm
    obtain ⟨x, -, hx⟩ := Finset.mem_map.mp hm
    have h1 := congrArg (fun i => (i 1).val) hx
    have hx1 := (x 1).isLt
    dsimp only at h1
    unfold rect4 at h1
    rw [ValueKit.rect_emb_unit_val, ValueKit.rect_emb_unit_val] at h1
    apply h
    have e1 : (x 1).val = (j 0).val := by
      have h2 : (x 1).val = (Fin.cons (α := fun a => Fin (S1x128x1024.size a)) ⟨0, Nat.one_pos⟩ j 1).val := by simpa using h1
      exact h2
    rw [← e1]
    exact hx1

/-- The first 32 rows of a slot, replaced. -/
theorem wp_store32 (P : Memref sig .tc .vmem S4x128x1024 .f32) (s : Fin 4) (X : FVec F S128x1024 .f32) (t : FVec F S32x1024 .f32)
    (Kt : PUnit → sProp 𝕄) :
    (own c (slot4 P s) fullShare X : sProp 𝕄)
      ⊢ iprop((own c (slot4 P s) fullShare (over32 X t) -∗ Kt ⟨⟩)
        -∗ wpb c (do
            let _ : Vec F S1x32x1024 .f32 ← Prog.lift (.load P (Rect.unit (s := S4x128x1024) ![s.val, 0, 0] S1x32x1024.size (inb4r s)).toLoadRect (View.loadsAt_vmem h_S1x32x1024))
            Prog.lift (.store P (Rect.unit (s := S4x128x1024) ![s.val, 0, 0] S1x32x1024.size (inb4r s))
              (shapeCast S1x32x1024 t shapeCasts_S32x1024_S1x32x1024) Finset.univ (View.stores_vmem_bits_univ h_S1x32x1024 rfl) (.inl rfl))) Kt) := by
  have hsub : (P.access (Rect.unit (s := S4x128x1024) ![s.val, 0, 0] S1x32x1024.size (inb4r s))).set ⊆ (slot4 P s).view.set := by
    have e0 : (slot4 P s).view.set = (P.view.slice (rect4 s)).set := View.set_reshape _ _
    rw [e0]
    show (P.view.slice _).set ⊆ _
    rw [View.set_slice, View.set_slice]
    refine Finset.map_subset_map.mpr fun i hi => ?_
    unfold rect4
    rw [Rect.mem_set_unit] at hi ⊢
    intro a
    have := hi a
    fin_cases a
    · exact this
    · exact ⟨this.1, lt_of_lt_of_le this.2 (by show 0 + 32 ≤ 0 + 128; decide)⟩
    · exact this
  unfold own owns wpb
  iintro ⟨%f, %hf, HP⟩ Hk
  rw [wp_bind]
  iapply (wp_load_rect 𝒱₀ (c : Thread nD τ) none Set.univ (m := P)
    (r := Rect.unit (s := S4x128x1024) ![s.val, 0, 0] S1x32x1024.size (inb4r s)) (S := (slot4 P s).view.set) (q := fullShare) (f := f)
    (k := fun x => Prog.ret x) hsub) $$ HP
  iintro HP
  iapply (le_wp_ret frame _ Set.univ)
  iapply (wp_store 𝒱₀ (c : Thread nD τ) none Set.univ (m := P)
    (r := Rect.unit (s := S4x128x1024) ![s.val, 0, 0] S1x32x1024.size (inb4r s)) (Mk := Finset.univ) (S := (slot4 P s).view.set) (f := f)
    (k := fun x => Prog.ret x) hsub) $$ HP
  iintro HP
  iapply (le_wp_ret frame _ Set.univ)
  iapply Hk
  iexists ((P.access (Rect.unit (s := S4x128x1024) ![s.val, 0, 0] S1x32x1024.size (inb4r s))).write (Elt F) f
      (shapeCast S1x32x1024 t shapeCasts_S32x1024_S1x32x1024) Finset.univ)
  isplitr
  · ipureintro; exact read_over32 P s f t X hf
  · iexact HP

/-- The first 32 rows of a slot, computed over every key. -/
theorem wp_fullP (Wo : Memref sig .tc .vmem S1024x1024 .bf16) (K V : Memref sig .tc .vmem S8x4096x128 .f32) (qm : FVec F S128x1024 .bf16)
    (P : Memref sig .tc .vmem S4x128x1024 .f32) (s : Fin 4) (k v : Vec F S8x4096x128 .f32) (wo : Vec F S1024x1024 .bf16)
    (X : FVec F S128x1024 .f32) (Kt : PUnit → sProp 𝕄) :
    iprop((own c K fullShare k ∗ own c V fullShare v) ∗ own c Wo fullShare wo ∗ own c (slot4 P s) fullShare X)
      ⊢ iprop(((own c K fullShare k ∗ own c V fullShare v) ∗ own c Wo fullShare wo
          ∗ own c (slot4 P s) fullShare (over32 X (fullV qm k v wo)) -∗ Kt ⟨⟩)
        -∗ wpb c (fullP Wo K V qm P s) Kt) := by
  iintro ⟨H, HW, HP⟩ Hk
  unfold wpb fullP
  rw [wp_bind]; iapply (wp_headAllP c K V qm 0 k v) $$ H; iintro H
  rw [wp_bind]; iapply (wp_headAllP c K V qm 1 k v) $$ H; iintro H
  rw [wp_bind]; iapply (wp_headAllP c K V qm 2 k v) $$ H; iintro H
  rw [wp_bind]; iapply (wp_headAllP c K V qm 3 k v) $$ H; iintro H
  rw [wp_bind]; iapply (wp_headAllP c K V qm 4 k v) $$ H; iintro H
  rw [wp_bind]; iapply (wp_headAllP c K V qm 5 k v) $$ H; iintro H
  rw [wp_bind]; iapply (wp_headAllP c K V qm 6 k v) $$ H; iintro H
  rw [wp_bind]; iapply (wp_headAllP c K V qm 7 k v) $$ H; iintro H
  rw [wp_bind]; iapply (wp_loadW c Wo fullShare wo) $$ HW; iintro HW
  iapply (wp_store32 c P s X) $$ HP
  iintro HP
  iapply Hk
  isplitl [H]; · iexact H
  isplitl [HW]; · iexact HW
  iapply (Entails.of_eq (congrArg (fun p => (own c (slot4 P s) fullShare (over32 X (outAll p wo)) : sProp 𝕄))
    (heads_eta (fun h => headAll qm h (everyOf k h) (everyOf v h)))))
  iexact HP

/-- The same, only for the first block. -/
theorem wp_fullIf (q : BitVec 32) (Wo : Memref sig .tc .vmem S1024x1024 .bf16) (K V : Memref sig .tc .vmem S8x4096x128 .f32) (qm : FVec F S128x1024 .bf16)
    (P : Memref sig .tc .vmem S4x128x1024 .f32) (s : Fin 4) (k v : Vec F S8x4096x128 .f32) (wo : Vec F S1024x1024 .bf16)
    (X : FVec F S128x1024 .f32) (Kt : PUnit → sProp 𝕄) :
    iprop((own c K fullShare k ∗ own c V fullShare v) ∗ own c Wo fullShare wo ∗ own c (slot4 P s) fullShare X)
      ⊢ iprop(((own c K fullShare k ∗ own c V fullShare v) ∗ own c Wo fullShare wo
          ∗ own c (slot4 P s) fullShare (fullIfV q qm k v wo X) -∗ Kt ⟨⟩)
        -∗ wpb c (fullIf q Wo K V qm P s) Kt) := by
  unfold fullIf fullIfV
  by_cases h : Scalar.cmpi .ne (Scalar.extui (Scalar.cmpi .eq q 0#32) : BitVec 32) 0#32 = 1#1
  · rw [if_pos h, if_pos h]; exact wp_fullP c Wo K V qm P s k v wo X Kt
  · rw [if_neg h, if_neg h]
    iintro H Hk
    iapply (le_wp_ret frame _ Set.univ _ Kt)
    iapply Hk
    iexact H

/-- The queries of a half of the device's rows. -/
theorem wp_qmOwn (X : Memref sig .tc .vmem S256x1024 .bf16) (b : Fin 2) (Wq : Memref sig .tc .vmem S1024x1024 .bf16)
    (q : PosShare TreeShare) (x : FVec F S128x1024 .bf16) (wq : Vec F S1024x1024 .bf16) (Kt : FVec F S128x1024 .bf16 → sProp 𝕄) :
    iprop(own c (half2 X b) q x ∗ own c Wq fullShare wq)
      ⊢ iprop((own c (half2 X b) q x ∗ own c Wq fullShare wq -∗ Kt (qmOf x wq)) -∗ wpb c (qmOwn X b Wq) Kt) := by
  iintro ⟨HX, HW⟩ Hk
  unfold wpb qmOwn
  rw [wp_bind]
  iapply (load_at c X (Rect.unit (s := S256x1024) ![128 * b.val, 0] S128x1024.size (inb2 b)) (fun _ => rfl) _ q x) $$ HX
  iintro HX
  rw [wp_bind]
  iapply (wp_loadW c Wq fullShare wq) $$ HW
  iintro HW
  iapply (le_wp_ret frame _ Set.univ _ Kt)
  rw [shapeCast_self]
  iapply Hk
  isplitl [HX]; · iexact HX
  iexact HW

/-- The queries of a half block that arrived. -/
theorem wp_qmFar (X : Memref sig .tc .vmem S3x128x1024 .bf16) (h : Fin 3) (Wq : Memref sig .tc .vmem S1024x1024 .bf16)
    (q : PosShare TreeShare) (x : FVec F S128x1024 .bf16) (wq : Vec F S1024x1024 .bf16) (Kt : FVec F S128x1024 .bf16 → sProp 𝕄) :
    iprop(own c (slot3 X h) q x ∗ own c Wq fullShare wq)
      ⊢ iprop((own c (slot3 X h) q x ∗ own c Wq fullShare wq -∗ Kt (qmOf x wq)) -∗ wpb c (qmFar X h Wq) Kt) := by
  iintro ⟨HX, HW⟩ Hk
  unfold wpb qmFar
  rw [wp_bind]
  iapply (wp_load3 c X h q x) $$ HX
  iintro HX
  rw [wp_bind]
  iapply (wp_loadW c Wq fullShare wq) $$ HW
  iintro HW
  iapply (le_wp_ret frame _ Set.univ _ Kt)
  rw [shapeCast_shapeCast]
  iapply Hk
  isplitl [HX]; · iexact HX
  iexact HW

/-- A sum. -/
theorem wp_accP (P : Memref sig .tc .vmem S4x128x1024 .f32) (s : Fin 4) (R : Memref sig .tc .vmem S3x128x1024 .bf16) (t : Fin 3)
    (q : PosShare TreeShare) (x : FVec F S128x1024 .f32) (y : FVec F S128x1024 .bf16) (Kt : PUnit → sProp 𝕄) :
    iprop(own c (slot4 P s) fullShare x ∗ own c (slot3 R t) q y)
      ⊢ iprop((own c (slot4 P s) fullShare (addR x y) ∗ own c (slot3 R t) q y -∗ Kt ⟨⟩) -∗ wpb c (accP P s R t) Kt) := by
  iintro ⟨HP, HR⟩ Hk
  unfold wpb accP
  rw [wp_bind]
  iapply (wp_load4 c P s fullShare x) $$ HP
  iintro HP
  rw [wp_bind]
  iapply (wp_load3 c R t q y) $$ HR
  iintro HR
  rw [shapeCast_shapeCast, shapeCast_shapeCast]
  iapply (wp_store4 c P s x) $$ HP
  iintro HP
  iapply Hk
  isplitl [HP]; · iexact HP
  iexact HR

/-- A sum, put where it is sent from. -/
theorem wp_stageP (P : Memref sig .tc .vmem S4x128x1024 .f32) (s : Fin 4) (S : Memref sig .tc .vmem S3x128x1024 .bf16) (hS : S.IsWhole) (t : Fin 3)
    (x : FVec F S128x1024 .f32) (y : FVec F S128x1024 .bf16) (Kt : PUnit → sProp 𝕄) :
    iprop(own c (slot4 P s) fullShare x ∗ own c (slot3 S t) fullShare y)
      ⊢ iprop((own c (slot4 P s) fullShare x ∗ own c (slot3 S t) fullShare (toS x) -∗ Kt ⟨⟩) -∗ wpb c (stageP P s S hS t) Kt) := by
  iintro ⟨HP, HR⟩ Hk
  unfold wpb stageP
  rw [wp_bind]
  iapply (wp_load4 c P s fullShare x) $$ HP
  iintro HP
  rw [wp_bind]
  iapply (wp_load3 c S t fullShare y) $$ HR
  iintro HR
  rw [shapeCast_shapeCast]
  iapply (store_sq c S (Rect.unit (s := S3x128x1024) ![t.val, 0, 0] S1x128x1024.size (inb3 t)) (fun _ => rfl)
    squeezes_S1x128x1024_S128x1024 shapeCasts_S1x128x1024_S128x1024 shapeCasts_S128x1024_S1x128x1024 y (toS x)) $$ HR
  iintro HR
  iapply Hk
  isplitl [HP]; · iexact HP
  iexact HR

/-- A half of the result. -/
theorem wp_outP (P : Memref sig .tc .vmem S4x128x1024 .f32) (R : Memref sig .tc .vmem S3x128x1024 .bf16) (O : Memref sig .tc .vmem S256x1024 .f32)
    (b : Fin 2) (q : PosShare TreeShare) (x : FVec F S128x1024 .f32) (y : FVec F S128x1024 .bf16) (o : FVec F S128x1024 .f32) (Kt : PUnit → sProp 𝕄) :
    iprop(own c (slot4 P 0) fullShare x ∗ own c (slot3 R 2) q y
        ∗ own c (O.slice (Rect.unit (s := S256x1024) ![128 * b.val, 0] S128x1024.size (inb2 b)) (fun _ => rfl)) fullShare o)
      ⊢ iprop((own c (slot4 P 0) fullShare x ∗ own c (slot3 R 2) q y
          ∗ own c (O.slice (Rect.unit (s := S256x1024) ![128 * b.val, 0] S128x1024.size (inb2 b)) (fun _ => rfl)) fullShare (addR x y) -∗ Kt ⟨⟩)
        -∗ wpb c (outP P R O b) Kt) := by
  iintro ⟨HP, HR, HO⟩ Hk
  unfold wpb outP
  rw [wp_bind]
  iapply (wp_load4 c P 0 fullShare x) $$ HP
  iintro HP
  rw [wp_bind]
  iapply (wp_load3 c R 2 q y) $$ HR
  iintro HR
  rw [wp_bind]
  iapply (load_at c O (Rect.unit (s := S256x1024) ![128 * b.val, 0] S128x1024.size (inb2 b)) (fun _ => rfl) _ fullShare o) $$ HO
  iintro HO
  rw [shapeCast_shapeCast, shapeCast_shapeCast]
  iapply (store_at c O (Rect.unit (s := S256x1024) ![128 * b.val, 0] S128x1024.size (inb2 b)) (fun _ => rfl)) $$ HO
  iintro HO
  iapply Hk
  isplitl [HP]; · iexact HP
  isplitl [HR]; · iexact HR
  iexact HO

end Pieces

end Cert.KernelIdeal.Ring
-- ==== Proof.KI.Vals.lean ====
module

public import proofs.«01_k».proof.Proof.KI.Pieces

/-! The buffers, the copies between neighbours, and what every buffer holds. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The cells' ghost state, inside the whole. -/
abbrev ER : Emb UB (MT nD τ sig Unit (Elt F) ℕ UU ℕ) := embR

/-! ### The ring -/

/-- The device after, around the ring. -/
def nxt (c : Dev nD) : Dev nD := ⟨(c.val + 1) % 4, Nat.mod_lt _ (Nat.succ_pos 3)⟩

/-- The device before. -/
def prv (c : Dev nD) : Dev nD := ⟨(c.val + 3) % 4, Nat.mod_lt _ (Nat.succ_pos 3)⟩

theorem prv_nxt : ∀ c : Dev nD, prv (nxt c) = c := by decide

theorem nxt_prv : ∀ c : Dev nD, nxt (prv c) = c := by decide

/-- One step around the ring. -/
def turn : Dev nD ≃ Dev nD := ⟨nxt, prv, prv_nxt, nxt_prv⟩

/-! ### The buffers -/

abbrev xM : Memref sig .tc .vmem S256x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev oM : Memref sig .tc .vmem S256x1024 .f32 := Memref.whole cc0_stg3_0
abbrev kaM : Memref sig .tc .hbm S1x4096x32x128 .f32 := Memref.whole main_arg2
abbrev vaM : Memref sig .tc .hbm S1x4096x32x128 .f32 := Memref.whole main_arg3
abbrev kM : Memref sig .tc .vmem S8x4096x128 .f32 := Memref.whole cc0_scratch0
abbrev vM : Memref sig .tc .vmem S8x4096x128 .f32 := Memref.whole cc0_scratch1
abbrev xTM : Memref sig .tc .vmem S3x128x1024 .bf16 := Memref.whole cc0_scratch2
abbrev xBM : Memref sig .tc .vmem S3x128x1024 .bf16 := Memref.whole cc0_scratch3
abbrev pTM : Memref sig .tc .vmem S4x128x1024 .f32 := Memref.whole cc0_scratch4
abbrev pBM : Memref sig .tc .vmem S4x128x1024 .f32 := Memref.whole cc0_scratch5
abbrev sTM : Memref sig .tc .vmem S3x128x1024 .bf16 := Memref.whole cc0_scratch6
abbrev rTM : Memref sig .tc .vmem S3x128x1024 .bf16 := Memref.whole cc0_scratch7
abbrev sBM : Memref sig .tc .vmem S3x128x1024 .bf16 := Memref.whole cc0_scratch8
abbrev rBM : Memref sig .tc .vmem S3x128x1024 .bf16 := Memref.whole cc0_scratch9

/-! ### The copies between neighbours

Twelve, in the order in which a device starts them: those of the rows of `x`, which go three steps around the
ring, and those of the sums, which come back. The even ones go to the device after, with upper halves, the odd
ones to the device before, with lower halves. -/

/-- Where copy `j` goes. -/
def tgt : Fin 12 → Dev nD → Dev nD
  | 0 => nxt | 1 => prv | 2 => nxt | 3 => prv | 4 => nxt | 5 => prv | 6 => nxt | 7 => prv | 8 => nxt | 9 => prv | 10 => nxt | 11 => prv

/-- Where copy `j` comes from. -/
def frm : Fin 12 → Dev nD → Dev nD
  | 0 => prv | 1 => nxt | 2 => prv | 3 => nxt | 4 => prv | 5 => nxt | 6 => prv | 7 => nxt | 8 => prv | 9 => nxt | 10 => prv | 11 => nxt

theorem frm_tgt : ∀ (j : Fin 12) (c : Dev nD), frm j (tgt j c) = c := by decide

theorem tgt_frm : ∀ (j : Fin 12) (c : Dev nD), tgt j (frm j c) = c := by decide

/-- What copy `j` reads. -/
def srcM : Fin 12 → Memref sig .tc .vmem S128x1024 .bf16
  | 0 => half2 xM 0 | 1 => half2 xM 1 | 2 => slot3 xTM 0 | 3 => slot3 xBM 0 | 4 => slot3 sTM 0 | 5 => slot3 sBM 0
  | 6 => slot3 xTM 1 | 7 => slot3 xBM 1 | 8 => slot3 sTM 1 | 9 => slot3 sBM 1 | 10 => slot3 sTM 2 | 11 => slot3 sBM 2

/-- Where copy `j` lands. -/
def dstM : Fin 12 → Memref sig .tc .vmem S128x1024 .bf16
  | 0 => slot3 xTM 0 | 1 => slot3 xBM 0 | 2 => slot3 xTM 1 | 3 => slot3 xBM 1 | 4 => slot3 rTM 0 | 5 => slot3 rBM 0
  | 6 => slot3 xTM 2 | 7 => slot3 xBM 2 | 8 => slot3 rTM 1 | 9 => slot3 rBM 1 | 10 => slot3 rTM 2 | 11 => slot3 rBM 2

/-- The semaphore which tells that copy `j` has left. -/
def sndS : Fin 12 → DmaSem sig
  | 0 => sem3 cc0_scratch11 0 | 1 => sem3 cc0_scratch13 0 | 2 => sem3 cc0_scratch11 1 | 3 => sem3 cc0_scratch13 1
  | 4 => sem3 cc0_scratch15 0 | 5 => sem3 cc0_scratch17 0 | 6 => sem3 cc0_scratch11 2 | 7 => sem3 cc0_scratch13 2
  | 8 => sem3 cc0_scratch15 1 | 9 => sem3 cc0_scratch17 1 | 10 => sem3 cc0_scratch15 2 | 11 => sem3 cc0_scratch17 2

/-- The semaphore which tells that copy `j` has landed. -/
def rcvS : Fin 12 → DmaSem sig
  | 0 => sem3 cc0_scratch12 0 | 1 => sem3 cc0_scratch14 0 | 2 => sem3 cc0_scratch12 1 | 3 => sem3 cc0_scratch14 1
  | 4 => sem3 cc0_scratch16 0 | 5 => sem3 cc0_scratch18 0 | 6 => sem3 cc0_scratch12 2 | 7 => sem3 cc0_scratch14 2
  | 8 => sem3 cc0_scratch16 1 | 9 => sem3 cc0_scratch18 1 | 10 => sem3 cc0_scratch16 2 | 11 => sem3 cc0_scratch18 2

/-- What such a copy counts for on its semaphore. -/
abbrev N : ℕ := (slot3 xTM 0).view.dmaCredit

theorem credit_src : ∀ j : Fin 12, (srcM j).view.dmaCredit = N
  | 0 => rfl | 1 => rfl | 2 => rfl | 3 => rfl | 4 => rfl | 5 => rfl | 6 => rfl | 7 => rfl | 8 => rfl | 9 => rfl | 10 => rfl | 11 => rfl

theorem credit_dst : ∀ j : Fin 12, (dstM j).view.dmaCredit = N
  | 0 => rfl | 1 => rfl | 2 => rfl | 3 => rfl | 4 => rfl | 5 => rfl | 6 => rfl | 7 => rfl | 8 => rfl | 9 => rfl | 10 => rfl | 11 => rfl

/-- What the copy of a head's keys or values counts for on its semaphore. -/
abbrev NK : ℕ := (slab kM 0).view.dmaCredit

/-! ### Contents -/

variable (m : (ℓ : Loc nD τ sig) → Buf (Elt F) ℓ)

/-- The device's rows of `x`. -/
def xstg (c : Dev nD) : Vec F S256x1024 .bf16 := (win0_0.blk (0 : Fin 1)).view.read (Elt F) (m ((c : Thread nD τ).loc main_arg0))

/-- The device's columns of the query weights. -/
def wqV (c : Dev nD) : Vec F S1024x1024 .bf16 := (win0_1.blk (0 : Fin 1)).view.read (Elt F) (m ((c : Thread nD τ).loc main_arg1))

/-- The device's rows of the output weights. -/
def woV (c : Dev nD) : Vec F S1024x1024 .bf16 := (win0_2.blk (0 : Fin 1)).view.read (Elt F) (m ((c : Thread nD τ).loc main_arg4))

/-- The keys of every head. -/
def kaV (c : Dev nD) : Vec F S1x4096x32x128 .f32 := m ((c : Thread nD τ).loc main_arg2)

/-- The values of every head. -/
def vaV (c : Dev nD) : Vec F S1x4096x32x128 .f32 := m ((c : Thread nD τ).loc main_arg3)

/-- A half of a device's rows. -/
def xH (c : Dev nD) (b : Fin 2) : FVec F S128x1024 .bf16 := fun j => xstg m c ((rect2 b).emb j)

/-- The part of the operand that a head's keys (or values) fill. -/
abbrev rectKv (c : Dev nD) (h : Fin 8) : Rect S1x4096x32x128 :=
  Rect.unit (s := S1x4096x32x128) (k0_off1 c (BitVec.ofNat 32 h.val)) S1x4096x1x128.size (k0_off1_inb c h)

theorem castsKv : S1x4096x1x128.ShapeCasts S4096x128 := by decide
theorem castsKv' : S4096x128.ShapeCasts S1x4096x1x128 := by decide
theorem castsSlab : S4096x128.ShapeCasts S1x4096x128 := by decide
theorem castsSlab' : S1x4096x128.ShapeCasts S4096x128 := by decide

/-- The keys (or values) of head `h` of device `c`, out of every head's. -/
def kvOf (X : Vec F S1x4096x32x128 .f32) (c : Dev nD) (h : Fin 8) : Vec F S4096x128 .f32 :=
  shapeCast S4096x128 (fun j : S1x4096x1x128.Idx => X ((rectKv c h).emb j)) castsKv

/-- The keys (or values) of a device's heads, one after the other. -/
def stack (X : Fin 8 → Vec F S4096x128 .f32) : Vec F S8x4096x128 .f32 :=
  fun i => X (i 0) (fun | 0 => i 1 | 1 => i 2)

def kAll (c : Dev nD) : Vec F S8x4096x128 .f32 := stack (kvOf (kaV m c) c)
def vAll (c : Dev nD) : Vec F S8x4096x128 .f32 := stack (kvOf (vaV m c) c)

/-- What a device adds to the output of its own upper half block. -/
def ownTV (c : Dev nD) : FVec F S128x1024 .f32 :=
  fullIfV (myW c) (qmOf (xH m c 0) (wqV m c)) (kAll m c) (vAll m c) (woV m c)
    (halfV (qmOf (xH m c 0) (wqV m c)) (maskOf (baseW (myW c) 0#32) (startW (myW c) 0#32)) (offOwn c 0#32) (offOwn_inb c 0)
      (kAll m c) (vAll m c) (woV m c))

/-- What it adds to that of its own lower half block. -/
def ownBV (c : Dev nD) : FVec F S128x1024 .f32 :=
  halfV (qmOf (xH m c 1) (wqV m c)) (maskOf (baseW (myW c) 128#32) (startW (myW c) 128#32)) (offOwn c 128#32) (offOwn_inb c 1)
    (kAll m c) (vAll m c) (woV m c)

/-- What it adds to that of the upper half block `x` of the device `k + 1` after. -/
def farTV (c : Dev nD) (k : Fin 3) (x : FVec F S128x1024 .bf16) : FVec F S128x1024 .f32 :=
  fullIfV (qW c (BitVec.ofNat 32 (1 + k.val))) (qmOf x (wqV m c)) (kAll m c) (vAll m c) (woV m c)
    (halfV (qmOf x (wqV m c)) (maskOf (baseW (qW c (BitVec.ofNat 32 (1 + k.val))) 0#32) (startW (qW c (BitVec.ofNat 32 (1 + k.val))) 0#32))
      (offFar c (BitVec.ofNat 32 (1 + k.val)) 0#32) (offFar_inb c k 0) (kAll m c) (vAll m c) (woV m c))

/-- What it adds to that of the lower half block `x` of the device `k + 1` after. -/
def farBV (c : Dev nD) (k : Fin 3) (x : FVec F S128x1024 .bf16) : FVec F S128x1024 .f32 :=
  halfV (qmOf x (wqV m c)) (maskOf (baseW (qW c (BitVec.ofNat 32 (1 + k.val))) 128#32) (startW (qW c (BitVec.ofNat 32 (1 + k.val))) 128#32))
    (offFar c (BitVec.ofNat 32 (1 + k.val)) 128#32) (offFar_inb c k 1) (kAll m c) (vAll m c) (woV m c)

/-- What a device adds to the upper half blocks, in the order in which it has them. -/
def partT (c : Dev nD) : Fin 4 → FVec F S128x1024 .f32
  | 0 => ownTV m c | 1 => farTV m c 2 (xH m (prv c) 0) | 2 => farTV m c 1 (xH m (prv (prv c)) 0)
  | 3 => farTV m c 0 (xH m (prv (prv (prv c))) 0)

/-- What it adds to the lower half blocks. -/
def partB (c : Dev nD) : Fin 4 → FVec F S128x1024 .f32
  | 0 => ownBV m c | 1 => farBV m c 0 (xH m (nxt c) 1) | 2 => farBV m c 1 (xH m (nxt (nxt c)) 1)
  | 3 => farBV m c 2 (xH m (nxt (nxt (nxt c))) 1)

/-- The sums sent on, of the upper half blocks. -/
def sumT0 (c : Dev nD) : FVec F S128x1024 .bf16 := toS (partT m c 1)
def sumT1 (c : Dev nD) : FVec F S128x1024 .bf16 := toS (addR (partT m c 2) (sumT0 m (prv c)))
def sumT2 (c : Dev nD) : FVec F S128x1024 .bf16 := toS (addR (partT m c 3) (sumT1 m (prv c)))

/-- The sums sent on, of the lower half blocks. -/
def sumB0 (c : Dev nD) : FVec F S128x1024 .bf16 := toS (partB m c 1)
def sumB1 (c : Dev nD) : FVec F S128x1024 .bf16 := toS (addR (partB m c 2) (sumB0 m (nxt c)))
def sumB2 (c : Dev nD) : FVec F S128x1024 .bf16 := toS (addR (partB m c 3) (sumB1 m (nxt c)))

/-- The halves of a device's rows of the result. -/
def outH (c : Dev nD) : Fin 2 → FVec F S128x1024 .f32
  | 0 => addR (partT m c 0) (sumT2 m (prv c)) | 1 => addR (partB m c 0) (sumB2 m (nxt c))

theorem outRow_lt (n : ℕ) : n % 128 < 128 := Nat.mod_lt _ (by decide)

/-- A device's rows of the result. -/
def outV (c : Dev nD) : Vec F S256x1024 .f32 :=
  fun i => outH m c (if (i 0).val < 128 then 0 else 1) (fun | 0 => ⟨(i 0).val % 128, outRow_lt _⟩ | 1 => ⟨(i 1).val, (i 1).isLt⟩)

/-- What copy `j` reads on device `c`. -/
def srcX (c : Dev nD) : Fin 12 → FVec F S128x1024 .bf16
  | 0 => xH m c 0 | 1 => xH m c 1 | 2 => xH m (prv c) 0 | 3 => xH m (nxt c) 1 | 4 => sumT0 m c | 5 => sumB0 m c
  | 6 => xH m (prv (prv c)) 0 | 7 => xH m (nxt (nxt c)) 1 | 8 => sumT1 m c | 9 => sumB1 m c | 10 => sumT2 m c | 11 => sumB2 m c

/-- What copy `j` leaves on device `c`. -/
def landX (c : Dev nD) (j : Fin 12) : FVec F S128x1024 .bf16 := srcX m (frm j c) j

/-- The share at which a head's copy reads the operand is the left half of this. -/
def rq : ℕ → PosShare TreeShare
  | 0 => fullShare
  | h + 1 => (rq h).right

end Cert.KernelIdeal.Ring
-- ==== Proof.KI.Proto.lean ====
module

public import proofs.«01_k».proof.Proof.KI.Vals

/-! The semaphores of the kernel: what each hands over, what a device owes, and in which order it waits. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ### The semaphores -/

/-- A device's own semaphores: the one of the end; those of the copies that leave and of those that arrive; those of the
local copies of the keys and of the values. -/
abbrev OwnS : Type := Unit ⊕ ((Fin 12 ⊕ Fin 12) ⊕ (Fin 8 ⊕ Fin 8))

/-- Every semaphore that the kernel uses: the barrier's, and the device's own. -/
abbrev Cel : Type := Unit ⊕ OwnS

abbrev cBar : Cel := .inl ()
abbrev cFin : Cel := .inr (.inl ())
abbrev cSnd (j : Fin 12) : Cel := .inr (.inr (.inl (.inl j)))
abbrev cRcv (j : Fin 12) : Cel := .inr (.inr (.inl (.inr j)))
abbrev cKey (h : Fin 8) : Cel := .inr (.inr (.inr (.inl h)))
abbrev cVal (h : Fin 8) : Cel := .inr (.inr (.inr (.inr h)))

/-- The barrier's semaphore. -/
abbrev barS : Sem sig := (SemArray.scalar (sig.barrier 0 rfl) : Sems sig S_).sem

/-- The place of an own semaphore. -/
def osem : OwnS → SemLoc sig
  | .inl _ => .reg cc0_scoped0.sem
  | .inr (.inl (.inl j)) => .dma (sndS j)
  | .inr (.inl (.inr j)) => .dma (rcvS j)
  | .inr (.inr (.inl h)) => .dma (kvSem cc0_scratch10 0 h)
  | .inr (.inr (.inr h)) => .dma (kvSem cc0_scratch10 1 h)

/-- The place of a semaphore. -/
def csem : Cel → SemLoc sig
  | .inl _ => .reg barS
  | .inr o => osem o

/-- Which semaphore has a given number, among those of copies. -/
def celOf : ℕ → Option Cel
  | 4 => some (cKey 0)
  | 5 => some (cKey 1)
  | 6 => some (cKey 2)
  | 7 => some (cKey 3)
  | 8 => some (cKey 4)
  | 9 => some (cKey 5)
  | 10 => some (cKey 6)
  | 11 => some (cKey 7)
  | 12 => some (cVal 0)
  | 13 => some (cVal 1)
  | 14 => some (cVal 2)
  | 15 => some (cVal 3)
  | 16 => some (cVal 4)
  | 17 => some (cVal 5)
  | 18 => some (cVal 6)
  | 19 => some (cVal 7)
  | 20 => some (cSnd 0)
  | 26 => some (cSnd 1)
  | 21 => some (cSnd 2)
  | 27 => some (cSnd 3)
  | 32 => some (cSnd 4)
  | 38 => some (cSnd 5)
  | 22 => some (cSnd 6)
  | 28 => some (cSnd 7)
  | 33 => some (cSnd 8)
  | 39 => some (cSnd 9)
  | 34 => some (cSnd 10)
  | 40 => some (cSnd 11)
  | 23 => some (cRcv 0)
  | 29 => some (cRcv 1)
  | 24 => some (cRcv 2)
  | 30 => some (cRcv 3)
  | 35 => some (cRcv 4)
  | 41 => some (cRcv 5)
  | 25 => some (cRcv 6)
  | 31 => some (cRcv 7)
  | 36 => some (cRcv 8)
  | 42 => some (cRcv 9)
  | 37 => some (cRcv 10)
  | 43 => some (cRcv 11)
  | _ => none

/-- Which semaphore is at a place. -/
def ix : SemLoc sig → Option Cel
  | .reg s => if s = barS then some cBar else if s = cc0_scoped0.sem then some cFin else none
  | .dma q => celOf q.val

theorem ix_snd : ∀ j : Fin 12, ix (.dma (sndS j)) = some (cSnd j)
  | 0 => rfl | 1 => rfl | 2 => rfl | 3 => rfl | 4 => rfl | 5 => rfl | 6 => rfl | 7 => rfl | 8 => rfl | 9 => rfl | 10 => rfl | 11 => rfl

theorem ix_rcv : ∀ j : Fin 12, ix (.dma (rcvS j)) = some (cRcv j)
  | 0 => rfl | 1 => rfl | 2 => rfl | 3 => rfl | 4 => rfl | 5 => rfl | 6 => rfl | 7 => rfl | 8 => rfl | 9 => rfl | 10 => rfl | 11 => rfl

theorem ix_key : ∀ h : Fin 8, ix (.dma (kvSem cc0_scratch10 0 h)) = some (cKey h)
  | 0 => rfl | 1 => rfl | 2 => rfl | 3 => rfl | 4 => rfl | 5 => rfl | 6 => rfl | 7 => rfl

theorem ix_val : ∀ h : Fin 8, ix (.dma (kvSem cc0_scratch10 1 h)) = some (cVal h)
  | 0 => rfl | 1 => rfl | 2 => rfl | 3 => rfl | 4 => rfl | 5 => rfl | 6 => rfl | 7 => rfl

theorem ix_csem : ∀ k : Cel, ix (csem k) = some k
  | .inl () => rfl
  | .inr (.inl ()) => rfl
  | .inr (.inr (.inl (.inl j))) => ix_snd j
  | .inr (.inr (.inl (.inr j))) => ix_rcv j
  | .inr (.inr (.inr (.inl h))) => ix_key h
  | .inr (.inr (.inr (.inr h))) => ix_val h

theorem csem_injective : Function.Injective csem := fun k k' h => by
  have := congrArg ix h
  rw [ix_csem, ix_csem] at this
  exact Option.some.inj this

/-- A semaphore of a device. -/
abbrev kcell (ck : Dev nD × Cel) : GSem nD τ sig := ((ck.1 : Thread nD τ), csem ck.2)

theorem kcell_injective : Function.Injective (kcell : Dev nD × Cel → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ### What the signals hand over -/

/-- Where copy `j` lands on device `c`, with whatever contents. -/
def free (c : Dev nD) (j : Fin 12) : sProp 𝕄 := ownAny c (dstM j)

instance free_storable (c : Dev nD) (j : Fin 12) : BI.Storable (upEmb : UEmb _ 𝕄) (free (F := F) c j) := by
  unfold free ownAny own owns; infer_instance

/-- Where the copies from the device before land. -/
def upT (c : Dev nD) : sProp 𝕄 := iprop(free c 0 ∗ free c 2 ∗ free c 4 ∗ free c 6 ∗ free c 8 ∗ free c 10)

/-- Where the copies from the device after land. -/
def upB (c : Dev nD) : sProp 𝕄 := iprop(free c 1 ∗ free c 3 ∗ free c 5 ∗ free c 7 ∗ free c 9 ∗ free c 11)

/-- A head's keys (or values) after its local copy. -/
def kvPay (A : Memref sig .tc .hbm S1x4096x32x128 .f32) (M : Memref sig .tc .vmem S8x4096x128 .f32) (X : Vec F S1x4096x32x128 .f32)
    (c : Dev nD) (h : Fin 8) : sProp 𝕄 :=
  iprop(own c (slab M h) fullShare (kvOf X c h) ∗ own c (kvSrc A c h) (rq h.val).left (kvOf X c h))

/-- What a semaphore of device `c` hands to it. -/
def pay (c : Dev nD) : Cel → Bool → sProp 𝕄
  | .inl _, b => if b then upT (nxt c) else upB (prv c)
  | .inr (.inl _), _ => iprop(emp)
  | .inr (.inr (.inl (.inl j))), _ => own c (srcM j) fullShare.right (srcX m c j)
  | .inr (.inr (.inl (.inr j))), _ => own c (dstM j) fullShare (landX m c j)
  | .inr (.inr (.inr (.inl h))), _ => kvPay kaM kM (kaV m c) c h
  | .inr (.inr (.inr (.inr h))), _ => kvPay vaM vM (vaV m c) c h

/-- What one contribution to a semaphore counts. -/
def amt : Cel → ℕ
  | .inl _ => 1
  | .inr (.inl _) => 1
  | .inr (.inr (.inl _)) => N
  | .inr (.inr (.inr _)) => NK

/-- Who contributes: both neighbours, or one copy. -/
def dts : Cel → Finset Bool
  | .inl _ => Finset.univ
  | .inr (.inl _) => Finset.univ
  | .inr (.inr _) => {false}

theorem N_pos : 0 < N := View.dmaCredit_pos _ (by decide)
theorem NK_pos : 0 < NK := View.dmaCredit_pos _ (by decide)

theorem amt_pos : ∀ k : Cel, 0 < amt k
  | .inl _ => Nat.one_pos
  | .inr (.inl _) => Nat.one_pos
  | .inr (.inr (.inl _)) => N_pos
  | .inr (.inr (.inr _)) => NK_pos

/-- One round on every semaphore. -/
def ringRd : Rounds.Schedule (GSem nD τ sig) Bool 𝕄 where
  duties g r := if r = 0 ∧ g.1.2 = .tc then (match ix g.2 with | none => ∅ | some k => dts k) else ∅
  unitless _ := False
  amount g _ _ := match ix g.2 with | none => 1 | some k => amt k
  payload g _ d := match ix g.2 with | none => iprop(emp) | some k => pay m g.1.1 k d
  amount_pos g _ _ _ := by
    cases ix g.2 with
    | none => exact Nat.one_pos
    | some k => exact amt_pos k

instance kvPay_storable (A M X) (c : Dev nD) (h) : BI.Storable (upEmb : UEmb _ 𝕄) (kvPay (F := F) A M X c h) := by
  unfold kvPay own owns; infer_instance

instance pay_storable (c : Dev nD) (k : Cel) (d : Bool) : BI.Storable (upEmb : UEmb _ 𝕄) (pay (F := F) m c k d) := by
  rcases k with u | u | (j | j) | (h | h)
  · cases d
    · show BI.Storable upEmb (upB (F := F) (prv c)); unfold upB; infer_instance
    · show BI.Storable upEmb (upT (F := F) (nxt c)); unfold upT; infer_instance
  · unfold pay; infer_instance
  · unfold pay own owns; infer_instance
  · unfold pay own owns; infer_instance
  · unfold pay; infer_instance
  · unfold pay; infer_instance

instance ringRd_payload_storable (g : GSem nD τ sig) (r : ℕ) (d : Bool) :
    BI.Storable (upEmb : UEmb _ 𝕄) ((ringRd (F := F) m).payload g r d) := by
  show BI.Storable upEmb (match ix g.2 with | none => iprop(emp) | some k => pay m g.1.1 k d)
  cases ix g.2 with
  | none => infer_instance
  | some k => exact pay_storable m g.1.1 k d

section Sched

variable (c : Dev nD) (k : Cel)

theorem duties_k : (ringRd (F := F) m).duties (kcell (c, k)) 0 = dts k := by
  dsimp only [ringRd, kcell]; rw [if_pos ⟨rfl, rfl⟩, ix_csem]

theorem duties_later (g : GSem nD τ sig) : ∀ r, 1 ≤ r → (ringRd (F := F) m).duties g r = ∅ :=
  fun r hr => by dsimp only [ringRd]; rw [if_neg fun h => by omega]

theorem amount_k (d : Bool) : (ringRd (F := F) m).amount (kcell (c, k)) 0 d = amt k := by
  dsimp only [ringRd, kcell]; rw [ix_csem]

theorem payload_k (d : Bool) : (ringRd (F := F) m).payload (kcell (c, k)) 0 d = pay m c k d := by
  dsimp only [ringRd, kcell]; rw [ix_csem]

theorem expect_k : (ringRd (F := F) m).expect (kcell (c, k)) 0 = (dts k).card * amt k := by
  unfold Schedule.expect Schedule.amountOf
  rw [duties_k, Finset.sum_congr rfl fun d _ => amount_k m c k d, Finset.sum_const, smul_eq_mul]

theorem rest_one (h : dts k = {false}) :
    bigSep ((ringRd (F := F) m).duties (kcell (c, k)) 0 \ ∅) (fun d => (ringRd (F := F) m).payload (kcell (c, k)) 0 d)
      = pay m c k false := by
  rw [Finset.sdiff_empty, duties_k, h, bigSep_singleton, payload_k]

theorem rest_two (h : dts k = Finset.univ) :
    bigSep ((ringRd (F := F) m).duties (kcell (c, k)) 0 \ ∅) (fun d => (ringRd (F := F) m).payload (kcell (c, k)) 0 d)
      = iprop(pay m c k false ∗ pay m c k true) := by
  rw [Finset.sdiff_empty, duties_k, h, bigSep_univ_eq_bigSepL [false, true] (by decide) (by decide), bigSepL_cons_cons, bigSepL_singleton,
    payload_k, payload_k]
  rfl

end Sched

/-! ### What a device owes, and the order of the waits -/

/-- Whom the sixteen payments of device `c` go to, numbered from the last: the neighbours at the barrier, the twelve
copies, the neighbours at the end. -/
def payDev (c : Dev nD) : ℕ → Dev nD
  | 15 => prv c | 14 => nxt c
  | 13 => nxt c | 12 => prv c | 11 => nxt c | 10 => prv c | 9 => nxt c | 8 => prv c | 7 => nxt c | 6 => prv c | 5 => nxt c | 4 => prv c
  | 3 => nxt c | 2 => prv c
  | 1 => prv c | _ => nxt c

/-- On which semaphore. -/
def payCel : ℕ → Cel
  | 15 => cBar | 14 => cBar
  | 13 => cRcv 0 | 12 => cRcv 1 | 11 => cRcv 2 | 10 => cRcv 3 | 9 => cRcv 4 | 8 => cRcv 5 | 7 => cRcv 6 | 6 => cRcv 7 | 5 => cRcv 8
  | 4 => cRcv 9 | 3 => cRcv 10 | 2 => cRcv 11
  | 1 => cFin | _ => cFin

/-- One payment. -/
def payTally (c : Dev nD) (n : ℕ) : CellTallies nD τ sig Unit := tallyAt (kcell (payDev c n, payCel n)) () (amt (payCel n))

/-- What device `c` owes when `n` payments are left. -/
def oweR (c : Dev nD) : ℕ → CellTallies nD τ sig Unit
  | 0 => 0
  | n + 1 => oweR c n + payTally c n

def L (g : GSem nD τ sig) : Finset Unit := if g.1.2 = .tc then {()} else ∅

/-- The place of a semaphore in the order of waits. -/
def lvl : Cel → ℕ
  | .inl _ => 1
  | .inr (.inl _) => 14
  | .inr (.inr (.inl (.inl _))) => 0
  | .inr (.inr (.inl (.inr j))) => 2 + j.val
  | .inr (.inr (.inr _)) => 0

def lv (g : GSem nD τ sig) (_ : Unit) : ℕ := match ix g.2 with | none => 0 | some k => lvl k

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Cel) (u : Unit) : lv (kcell (c, k)) u = lvl k := by dsimp only [lv, kcell]; rw [ix_csem]

theorem oweR_pos {c : Dev nD} : ∀ {n : ℕ} {g : GSem nD τ sig} {u : Unit}, 0 < oweR c n g u →
    ∃ i < n, g = kcell (payDev c i, payCel i)
  | 0, g, u, h => absurd h (Nat.lt_irrefl 0)
  | n + 1, g, u, h => by
    unfold oweR at h
    rw [Pi.add_apply, Finsupp.add_apply] at h
    rcases Nat.pos_iff_ne_zero.mp h |> fun h => (Nat.eq_zero_or_pos (oweR c n g u)) with h0 | h0
    · refine ⟨n, Nat.lt_succ_self n, ?_⟩
      rw [h0, Nat.zero_add] at h
      unfold payTally at h
      rw [tallyAt_apply] at h
      by_contra hn
      rw [if_neg (fun h' => hn h'.1)] at h
      exact Nat.lt_irrefl 0 h
    · obtain ⟨i, hi, e⟩ := oweR_pos h0
      exact ⟨i, Nat.lt_succ_of_lt hi, e⟩

theorem oweR_tc {c : Dev nD} {n : ℕ} {g : GSem nD τ sig} {u : Unit} (h : 0 < oweR c n g u) : u ∈ L g := by
  obtain ⟨i, -, rfl⟩ := oweR_pos h
  rw [L_tc]; exact Finset.mem_singleton_self _

theorem mayWait_at (c : Dev nD) (sm : SemLoc sig) (ℓ n : ℕ) (hsm : ∀ u, lv ((c : Thread nD τ), sm) u = ℓ)
    (h : ∀ i < n, ℓ < lvl (payCel i)) :
    (levAts L lv : sProp 𝕄) ⊢ MayWait (c : Thread nD τ) sm () (oweR c n) :=
  MayOwe.of_cut (L := L) (lev := lv) ℓ (fun p hp => by rw [Finset.mem_singleton.mp hp, L_tc]; exact Finset.mem_singleton_self _)
    (fun g u hg => oweR_tc hg)
    (fun p hp => by rw [Finset.mem_singleton.mp hp]; exact le_of_eq (hsm ()))
    (fun g u hg => by
      obtain ⟨i, hi, rfl⟩ := oweR_pos hg
      rw [lv_k]; exact h i hi)

theorem mayWait_k (c : Dev nD) (k : Cel) (n : ℕ) (h : ∀ i < n, lvl k < lvl (payCel i)) :
    (levAts L lv : sProp 𝕄) ⊢ MayWait (c : Thread nD τ) (csem k) () (oweR c n) :=
  mayWait_at c (csem k) (lvl k) n (lv_k c k) h

/-! ### What every device knows -/

/-- Every semaphore's bookkeeping is shared, and its only round has begun. -/
def records (K : Dev nD × Cel → ℕ) : sProp 𝕄 :=
  iprop((bigSep Finset.univ fun ck : Dev nD × Cel => cellInv ER (ringRd m) (K ck) (kcell ck))
    ∗ bigSep Finset.univ fun ck : Dev nD × Cel => reached ER (kcell ck) 0)

instance records_persistent (K : Dev nD × Cel → ℕ) : BI.Persistent (records m K) := by unfold records; infer_instance

theorem inv_at (K : Dev nD × Cel → ℕ) (ck : Dev nD × Cel) :
    (bigSep Finset.univ fun ck : Dev nD × Cel => (cellInv ER (ringRd m) (K ck) (kcell ck) : sProp 𝕄)) ⊢ cellInv ER (ringRd m) (K ck) (kcell ck) :=
  bigSep_elim (Finset.mem_univ ck)

theorem reached_at (ck : Dev nD × Cel) :
    (bigSep Finset.univ fun ck : Dev nD × Cel => (reached ER (kcell ck) 0 : sProp 𝕄)) ⊢ reached ER (kcell ck) 0 :=
  bigSep_elim (Finset.mem_univ ck)

theorem inv_of (K : Dev nD × Cel → ℕ) (ck : Dev nD × Cel) :
    (records m K : sProp 𝕄) ⊢ cellInv ER (ringRd m) (K ck) (kcell ck) := by
  unfold records
  iintro ⟨H, -⟩
  iapply (inv_at m K ck); iexact H

theorem reached_of (K : Dev nD × Cel → ℕ) (ck : Dev nD × Cel) :
    (records m K : sProp 𝕄) ⊢ reached ER (kcell ck) 0 := by
  unfold records
  iintro ⟨-, H⟩
  iapply (reached_at ck); iexact H

/-- What a device owes, whatever it has waited for. -/
def owesE (c : Dev nD) (O : CellTallies nD τ sig Unit) : sProp 𝕄 := iprop(∃ W, owes (c : Thread nD τ) O W)

/-- A device's part of copy `j` before it starts. -/
def hopIn (c : Dev nD) (j : Fin 12) : sProp 𝕄 :=
  iprop(dutyTok ER (kcell (c, cSnd j)) 0 false ∗ dutyTok ER (kcell (tgt j c, cRcv j)) 0 false
    ∗ atPos ER (kcell (c, cSnd j)) 0 ∅ 0 ∗ atPos ER (kcell (c, cRcv j)) 0 ∅ 0 ∗ cred (tallyAt (kcell (c, cRcv j)) () N))

/-- The same while it runs. -/
def hopMid (c : Dev nD) (j : Fin 12) : sProp 𝕄 :=
  iprop(cred (tallyAt (kcell (c, cSnd j)) () N)
    ∗ atPos ER (kcell (c, cSnd j)) 0 ∅ 0 ∗ atPos ER (kcell (c, cRcv j)) 0 ∅ 0 ∗ cred (tallyAt (kcell (c, cRcv j)) () N))

/-- The same after it. -/
def hopEnd (c : Dev nD) (j : Fin 12) : sProp 𝕄 :=
  iprop(atPos ER (kcell (c, cSnd j)) (0 + 1) ∅ 0 ∗ atPos ER (kcell (c, cRcv j)) (0 + 1) ∅ 0)

/-- A device's part of a local copy before it starts. -/
def kvIn (c : Dev nD) (k : Cel) : sProp 𝕄 := iprop(dutyTok ER (kcell (c, k)) 0 false ∗ atPos ER (kcell (c, k)) 0 ∅ 0)

/-- The same while it runs. -/
def kvMid (c : Dev nD) (k : Cel) : sProp 𝕄 := iprop(cred (tallyAt (kcell (c, k)) () NK) ∗ atPos ER (kcell (c, k)) 0 ∅ 0)

/-- A device's part of a meeting of neighbours. -/
def meetIn (c : Dev nD) (k : Cel) : sProp 𝕄 :=
  iprop(dutyTok ER (kcell (prv c, k)) 0 true ∗ dutyTok ER (kcell (nxt c, k)) 0 false
    ∗ atPos ER (kcell (c, k)) 0 ∅ 0 ∗ cred (tallyAt (kcell (c, k)) () 2))

end Cert.KernelIdeal.Ring
-- ==== Proof.KI.Steps.lean ====
module

public import proofs.«01_k».proof.Proof.KI.Proto

/-! The steps of the kernel that meet other devices or copies. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

section Steps

variable (K : Dev nD × Cel → ℕ) (c : Dev nD)

theorem owesE_intro (O : CellTallies nD τ sig Unit) (W : Waits sig Unit) : (owes (c : Thread nD τ) O W : sProp 𝕄) ⊢ owesE c O := by
  unfold owesE; iintro H; iexists W; iexact H

/-- A device's semaphore, after its only round, is at zero. -/
theorem close_k (k : Cel) :
    iprop(records m K ∗ atPos ER (kcell (c, k)) (0 + 1) ∅ 0) ⊢ (iprop(|={Set.univ}=> semVal (kcell (c, k)) 0) : sProp 𝕄) := by
  iintro ⟨#HR, Hat⟩
  ihave #HI := (inv_of m K (c, k)) $$ HR
  iapply (Rounds.cell_close ER (ringRd m) (Set.mem_univ (K (c, k))) (fun h => h) (R := 0 + 1) (duties_later m (kcell (c, k)))) $$ [Hat]
  isplitr; · iexact HI
  iexact Hat

/-- Copy `j` starts: the half of the source that the copy reads and the place where it lands go with it. -/
theorem wp_send {t : Dev nD} {src dst : Memref sig .tc .vmem S128x1024 .bf16} {hs : src.view.WordExact} {hd : dst.view.WordExact}
    {ss rs : DmaSem sig} (j : Fin 12) (n : ℕ) (u : Dev nD) (ht : t = u) (hu : tgt j c = u) (esrc : srcM j = src) (edst : dstM j = dst) (ess : sndS j = ss)
    (ers : rcvS j = rs) (hpd : payDev c n = u) (hpc : payCel n = cRcv j) (X : FVec F S128x1024 .bf16) (hX : X = srcX m c j)
    (Kt : PUnit → sProp 𝕄) :
    iprop(records m K ∗ own c src fullShare.right X ∗ free u j ∗ owesE c (oweR c (n + 1)) ∗ hopIn c j)
      ⊢ iprop((owesE c (oweR c n) ∗ hopMid c j -∗ Kt ⟨⟩) -∗ wpb c (send t src dst hs hd ss rs) Kt) := by
  subst ht; subst hu; subst esrc; subst edst; subst ess; subst ers; subst hX
  unfold hopIn free ownAny own owns
  iintro ⟨#HR, ⟨%fs, %hfs, Hs⟩, ⟨%Xd, %fd, -, Hd⟩, HO, Ht1, Ht2, Ha1, Ha2, Hc⟩ Hk
  unfold owesE
  icases HO with ⟨%W, HO⟩
  ihave #HI1 := (inv_of m K (c, cSnd j)) $$ HR
  ihave #HI2 := (inv_of m K (tgt j c, cRcv j)) $$ HR
  ihave #Hr1 := (reached_of m K (c, cSnd j)) $$ HR
  ihave #Hr2 := (reached_of m K (tgt j c, cRcv j)) $$ HR
  unfold wpb send
  iapply (Rounds.wp_send_pointsTo 𝒱₀ ER (ringRd m) (c : Thread nD τ) none (κ₁ := K (c, cSnd j)) (κ₂ := K (tgt j c, cRcv j))
    (c' := (tgt j c : Thread nD τ)) (src := srcM j) (dst := dstM j) (q := fullShare.right) (fs := fs) (sS := .dma (sndS j)) (sem := .dma (rcvS j))
    (k := fun x => Prog.ret x)
    (r₁ := 0) (r₂ := 0) (d₁ := false) (d₂ := false) (fd := fd)
    (by rw [show ((c : Thread nD τ), SemLoc.dma (sndS j)) = kcell (c, cSnd j) from rfl, duties_k m c (cSnd j)]; exact Finset.mem_singleton_self _)
    (by rw [show ((tgt j c : Thread nD τ), SemLoc.dma (rcvS j)) = kcell (tgt j c, cRcv j) from rfl, duties_k m (tgt j c) (cRcv j)]; exact Finset.mem_singleton_self _)
    () () N (credit_dst j) (amount_k m c (cSnd j) false) (amount_k m (tgt j c) (cRcv j) false) (O₀ := oweR c (n + 1)) (oweR c n)
    (by rw [oweR, payTally, hpd, hpc]; rfl) (W := W)
    (by
      rw [show ((c : Thread nD τ), SemLoc.dma (sndS j)) = kcell (c, cSnd j) from rfl, payload_k m c (cSnd j)]
      show _ ⊢ own c (srcM j) fullShare.right (srcX m c j)
      rw [← hfs]; exact owns_intro (c : Thread nD τ) (srcM j) _ fs)
    (by
      rw [show ((tgt j c : Thread nD τ), SemLoc.dma (rcvS j)) = kcell (tgt j c, cRcv j) from rfl, payload_k m (tgt j c) (cRcv j)]
      show _ ⊢ own (tgt j c) (dstM j) fullShare (landX m (tgt j c) j)
      rw [landX, frm_tgt, ← hfs]
      refine (owns_intro (tgt j c : Thread nD τ) (dstM j) _ _).trans (Entails.of_eq ?_)
      rw [View.read_write_univ])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcs, HO⟩
  iapply (le_wp_ret frame _ Set.univ _ Kt)
  iapply Hk
  unfold hopMid
  isplitl [HO]; · iexists W; iexact HO
  isplitl [Hcs]; · iexact Hcs
  isplitl [Ha1]; · iexact Ha1
  isplitl [Ha2]; · iexact Ha2
  iexact Hc

/-- A wait for a copy on a semaphore of one contributor. -/
theorem wp_wait1 {sp sp' : Space} {s e} {src : Memref sig .tc sp s e} {dst : Memref sig .tc sp' s e} {hs : src.view.WordExact} {hd : dst.view.WordExact} (k : Cel) (q : DmaSem sig)
    (hq : csem k = .dma q) (h1 : dts k = {false}) (hN : dst.view.dmaCredit = amt k) (O : CellTallies nD τ sig Unit)
    (Kt : PUnit → sProp 𝕄) :
    iprop(records m K ∗ cred (tallyAt (kcell (c, k)) () (amt k)) ∗ owesE c O ∗ MayWait (c : Thread nD τ) (csem k) () O
        ∗ atPos ER (kcell (c, k)) 0 ∅ 0)
      ⊢ iprop((owesE c O ∗ atPos ER (kcell (c, k)) (0 + 1) ∅ 0 ∗ pay m c k false -∗ Kt ⟨⟩)
        -∗ wpb c (Prog.lift (.waitDma2 q src dst hs hd)) Kt) := by
  unfold owesE
  iintro ⟨#HR, Hc, ⟨%W, HO⟩, HM, Hat⟩ Hk
  ihave #HI := (inv_of m K (c, k)) $$ HR
  unfold wpb
  iapply (Rounds.wp_wait_rest_token 𝒱₀ ER (ringRd m) (c : Thread nD τ) none (κ := K (c, k)) (sm := csem k)
      (k := fun x => Prog.ret x)
      (by rw [hq]; exact wpE_waitDma2_eq 𝒱₀ (c : Thread nD τ) none Set.univ) (Set.mem_univ _) () (O := O) (W := W) (R := 0) (m := 0) (T := ∅)
      (k' := dst.view.dmaCredit)
      (by rw [Nat.zero_add, hN, expect_k m c k, h1, Finset.card_singleton, one_mul])) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  iapply (le_wp_ret frame _ Set.univ _ Kt)
  iapply Hk
  isplitl [HO]; · iexists _; iexact HO
  isplitl [Hat]; · iexact Hat
  iapply (Entails.of_eq (rest_one m c k h1)); iexact Hpay

/-- The waits for copy `j`: the half of the source back, and what has landed. -/
theorem wp_sendRecv {src dst : Memref sig .tc .vmem S128x1024 .bf16} {hs : src.view.WordExact} {hd : dst.view.WordExact}
    {ss rs : DmaSem sig} (j : Fin 12) (n : ℕ) (esrc : srcM j = src) (edst : dstM j = dst) (ess : sndS j = ss)
    (ers : rcvS j = rs) (hn : ∀ i < n, 2 + j.val < lvl (payCel i)) (X : FVec F S128x1024 .bf16) (hX : X = srcX m c j)
    (Y : FVec F S128x1024 .bf16) (hY : Y = srcX m (frm j c) j) (Kt : PUnit → sProp 𝕄) :
    iprop(records m K ∗ levAts L lv ∗ owesE c (oweR c n) ∗ hopMid c j)
      ⊢ iprop((owesE c (oweR c n) ∗ own c src fullShare.right X ∗ own c dst fullShare Y ∗ hopEnd c j -∗ Kt ⟨⟩)
        -∗ wpb c (sendRecv src dst hs hd ss rs) Kt) := by
  subst esrc; subst edst; subst ess; subst ers; subst hX; subst hY
  unfold hopMid
  iintro ⟨#HR, #HL, HO, Hcs, Ha1, Ha2, Hc⟩ Hk
  unfold wpb sendRecv
  rw [wp_bind]
  iapply (wp_wait1 m K c (cSnd j) (sndS j) rfl rfl (credit_src j) (oweR c n)) $$ [HO Hcs Ha1]
  · isplitr; · iexact HR
    isplitl [Hcs]; · iexact Hcs
    isplitl [HO]; · iexact HO
    isplitr
    · iapply (mayWait_k c (cSnd j) n (fun i hi => lt_of_le_of_lt (Nat.zero_le _) (hn i hi))); iexact HL
    iexact Ha1
  iintro ⟨HO, Ha1, Hs⟩
  iapply (wp_wait1 m K c (cRcv j) (rcvS j) rfl rfl (credit_dst j) (oweR c n)) $$ [HO Hc Ha2]
  · isplitr; · iexact HR
    isplitl [Hc]; · iexact Hc
    isplitl [HO]; · iexact HO
    isplitr
    · iapply (mayWait_k c (cRcv j) n hn); iexact HL
    iexact Ha2
  iintro ⟨HO, Ha2, Hd⟩
  iapply Hk
  isplitl [HO]; · iexact HO
  isplitl [Hs]; · iapply (Entails.of_eq (show (pay m c (cSnd j) false : sProp 𝕄) = own c (srcM j) fullShare.right (srcX m c j) from rfl)); iexact Hs
  isplitl [Hd]; · iapply (Entails.of_eq (show (pay m c (cRcv j) false : sProp 𝕄) = own c (dstM j) fullShare (srcX m (frm j c) j) from rfl)); iexact Hd
  unfold hopEnd
  isplitl [Ha1]; · iexact Ha1
  iexact Ha2

/-! ### The keys and values -/

/-- The other heads' keys (or values), which a head's copy leaves. -/
def kvRest (A : Memref sig .tc .hbm S1x4096x32x128 .f32) (X : Vec F S1x4096x32x128 .f32) (h : Fin 8) : sProp 𝕄 :=
  iprop(∃ f, ⌜A.view.read (Elt F) f = X⌝
    ∗ A.view.loc (c : Thread nD τ) ↦[A.view.set \ (A.slice (rectKv c h) (fun _ => rfl)).view.set]{(rq h.val).left} f)

theorem kvSplit (A : Memref sig .tc .hbm S1x4096x32x128 .f32) (X : Vec F S1x4096x32x128 .f32) (h : Fin 8) :
    (own c A (rq h.val) X : sProp 𝕄) ⊢ iprop(own c (kvSrc A c h) (rq h.val).left (kvOf X c h) ∗ kvRest c A X h ∗ own c A (rq (h.val + 1)) X) := by
  unfold kvRest
  iintro H
  ihave H2 := (owns_halves (c : Thread nD τ) A (rq h.val) X).1 $$ H
  icases H2 with ⟨Hl, Hr⟩
  ihave H3 := (owns_slice_split (c : Thread nD τ) A (rq h.val).left (rectKv c h) (fun _ => rfl) X) $$ Hl
  icases H3 with ⟨Hs, Hrest⟩
  isplitl [Hs]
  · iapply (Entails.of_eq (own_squeeze c (A.slice (rectKv c h) (fun _ => rfl)) squeezes_S1x4096x1x128_S4096x128 (rq h.val).left castsKv castsKv' (kvOf X c h)).symm)
    unfold kvOf; rw [shapeCast_shapeCast]; iexact Hs
  isplitl [Hrest]; · iexact Hrest
  iexact Hr

theorem overlay_self {sh : Shape} {α : Type} (r : Rect sh) (X : sh.Idx → α) : r.overlay X (fun i => X (r.emb i)) = X := by
  funext i
  by_cases h : i ∈ r.set
  · obtain ⟨j, rfl⟩ := r.exists_idx_of_mem h
    exact Rect.overlay_emb r X _ j
  · exact Rect.overlay_of_not_mem r X _ h

theorem kvJoin (A : Memref sig .tc .hbm S1x4096x32x128 .f32) (X : Vec F S1x4096x32x128 .f32) (h : Fin 8) :
    iprop(own c (kvSrc A c h) (rq h.val).left (kvOf X c h) ∗ kvRest c A X h ∗ own c A (rq (h.val + 1)) X) ⊢ (own c A (rq h.val) X : sProp 𝕄) := by
  unfold kvRest
  iintro ⟨Hs, ⟨%f, %hf, Hrest⟩, Hr⟩
  ihave Hs1 := (Entails.of_eq (own_squeeze c (A.slice (rectKv c h) (fun _ => rfl)) squeezes_S1x4096x1x128_S4096x128 (rq h.val).left castsKv castsKv' (kvOf X c h))) $$ Hs
  ihave Hj := (owns_slice_join (c : Thread nD τ) A (rq h.val).left (rectKv c h) (fun _ => rfl) _ f) $$ [Hs1 Hrest]
  · isplitl [Hs1]; · iexact Hs1
    iexact Hrest
  have hX : (rectKv c h).overlay (A.view.read (Elt F) f) (shapeCast (rectKv c h).shape (kvOf X c h) castsKv') = X := by
    rw [hf, kvOf]; exact (congrArg ((rectKv c h).overlay X) (shapeCast_shapeCast _ castsKv castsKv')).trans (overlay_self _ X)
  rw [hX]
  iapply (owns_halves (c : Thread nD τ) A (rq h.val) X).2
  isplitl [Hj]; · iexact Hj
  iexact Hr

/-- The local copy of a head's keys or values starts. -/
theorem wp_kvStart (A : Memref sig .tc .hbm S1x4096x32x128 .f32) (M : Memref sig .tc .vmem S8x4096x128 .f32) (i : Fin 2) (h : Fin 8)
    (k : Cel) (hk : csem k = .dma (kvSem cc0_scratch10 i h)) (h1 : dts k = {false}) (hNK : amt k = NK)
    (hN : (slab M h).view.dmaCredit = NK) (X : Vec F S1x4096x32x128 .f32) (hp : pay m c k false = kvPay A M X c h) (Kt : PUnit → sProp 𝕄) :
    iprop(records m K ∗ kvIn c k ∗ ownAny c (slab M h) ∗ own c A (rq h.val) X)
      ⊢ iprop((kvMid c k ∗ own c A (rq (h.val + 1)) X ∗ kvRest c A X h -∗ Kt ⟨⟩)
        -∗ wpb c (kvStart A M cc0_scratch10 i c h) Kt) := by
  unfold kvIn ownAny
  iintro ⟨#HR, ⟨Ht, Hat⟩, ⟨%Y, Hd⟩, HA⟩ Hk
  ihave HA3 := (kvSplit c A X h) $$ HA
  icases HA3 with ⟨Hs, Hrest, HA⟩
  ihave #HI := (inv_of m K (c, k)) $$ HR
  ihave #Hr := (reached_of m K (c, k)) $$ HR
  unfold own owns
  icases Hs with ⟨%fs, %hfs, Hs⟩
  icases Hd with ⟨%fd, -, Hd⟩
  unfold wpb kvStart
  have hc : ((c : Thread nD τ), SemLoc.dma (kvSem cc0_scratch10 i h)) = kcell (c, k) := by rw [kcell, hk]
  ihave HI' := (Entails.of_eq (congrArg (fun g => (cellInv ER (ringRd m) (K (c, k)) g : sProp 𝕄)) hc.symm)) $$ HI
  ihave Hr' := (Entails.of_eq (congrArg (fun g => (reached ER g 0 : sProp 𝕄)) hc.symm)) $$ Hr
  ihave Ht' := (Entails.of_eq (congrArg (fun g => (dutyTok ER g 0 false : sProp 𝕄)) hc.symm)) $$ Ht
  iapply (Rounds.wp_copy_pointsTo 𝒱₀ ER (ringRd m) (c : Thread nD τ) none (κ := K (c, k)) (src := kvSrc A c h) (dst := slab M h)
    (sem := .dma (kvSem cc0_scratch10 i h)) (q := (rq h.val).left) (fs := fs) (fd := fd) (r := 0) (d := false) (k := fun x => Prog.ret x)
    (by rw [hc, duties_k m c k, h1]; exact Finset.mem_singleton_self _) () NK hN (by rw [hc, amount_k m c k false, hNK])
    (by
      rw [hc, payload_k m c k, hp]
      unfold kvPay
      refine BIClass.sep_mono ?_ ?_
      · rw [← hfs]
        refine (owns_intro (c : Thread nD τ) (slab M h) _ _).trans (Entails.of_eq ?_)
        rw [View.read_write_univ]
      · rw [← hfs]; exact owns_intro (c : Thread nD τ) (kvSrc A c h) _ fs)) $$ [HI' Hs Hd Ht' Hr']
  · isplitl [HI']; · iexact HI'
    isplitl [Hs]; · iexact Hs
    isplitl [Hd]; · iexact Hd
    isplitl [Ht']; · iexact Ht'
    iexact Hr'
  iintro Hc
  iapply (le_wp_ret frame _ Set.univ _ Kt)
  iapply Hk
  unfold kvMid
  isplitl [Hc Hat]
  · isplitl [Hc]
    · iapply (Entails.of_eq (congrArg (fun g => (cred (tallyAt g () NK) : sProp 𝕄)) hc)); iexact Hc
    iexact Hat
  isplitl [HA]; · iexact HA
  iexact Hrest

/-- The wait for it. -/
theorem wp_kvWait (A : Memref sig .tc .hbm S1x4096x32x128 .f32) (M : Memref sig .tc .vmem S8x4096x128 .f32) (i : Fin 2) (h : Fin 8)
    (k : Cel) (hk : csem k = .dma (kvSem cc0_scratch10 i h)) (h1 : dts k = {false}) (hNK : amt k = NK)
    (hN : (slab M h).view.dmaCredit = NK) (X : Vec F S1x4096x32x128 .f32) (hp : pay m c k false = kvPay A M X c h) (n : ℕ)
    (hn : ∀ i < n, lvl k < lvl (payCel i)) (Kt : PUnit → sProp 𝕄) :
    iprop(records m K ∗ levAts L lv ∗ owesE c (oweR c n) ∗ kvMid c k)
      ⊢ iprop((owesE c (oweR c n) ∗ kvPay A M X c h ∗ atPos ER (kcell (c, k)) (0 + 1) ∅ 0 -∗ Kt ⟨⟩)
        -∗ wpb c (kvWait A M cc0_scratch10 i c h) Kt) := by
  unfold kvMid
  iintro ⟨#HR, #HL, HO, Hc, Hat⟩ Hk
  unfold kvWait
  iapply (wp_wait1 m K c k (kvSem cc0_scratch10 i h) hk h1 (hN.trans hNK.symm) (oweR c n)) $$ [HO Hc Hat]
  · isplitr; · iexact HR
    isplitl [Hc]; · rw [hNK]; iexact Hc
    isplitl [HO]; · iexact HO
    isplitr; · iapply (mayWait_k c k n hn); iexact HL
    iexact Hat
  iintro ⟨HO, Hat, Hp⟩
  iapply Hk
  isplitl [HO]; · iexact HO
  isplitl [Hp]; · iapply (Entails.of_eq hp); iexact Hp
  iexact Hat

/-! ### The meetings of neighbours -/

theorem dev1_is : ∀ d : Dev nD, (⟨k0_dev1 d, k0_dev1_lt d⟩ : Dev nD) = prv d := by decide +kernel

theorem dev2_is : ∀ d : Dev nD, (⟨k0_dev2 d, k0_dev2_lt d⟩ : Dev nD) = nxt d := by decide +kernel

theorem dev15_is : ∀ d : Dev nD, (⟨k0_dev15 d, k0_dev15_lt d⟩ : Dev nD) = prv d := by decide +kernel

theorem dev16_is : ∀ d : Dev nD, (⟨k0_dev16 d, k0_dev16_lt d⟩ : Dev nD) = nxt d := by decide +kernel

/-- A signal to a neighbour. -/
theorem wp_sig (t u : Dev nD) (ht : t = u) (k : Cel) (s : Sem sig) (hs : csem k = .reg s) (b : Bool) (h2 : dts k = Finset.univ) (h1 : amt k = 1)
    (n : ℕ) (hpd : payDev c n = u) (hpc : payCel n = k) (Kt : PUnit → sProp 𝕄) :
    iprop(records m K ∗ owesE c (oweR c (n + 1)) ∗ dutyTok ER (kcell (u, k)) 0 b ∗ pay m u k b)
      ⊢ iprop((owesE c (oweR c n) -∗ Kt ⟨⟩) -∗ wpb c (semSignalWord t s 1#32) Kt) := by
  subst ht
  unfold owesE
  iintro ⟨#HR, ⟨%W, HO⟩, Ht, Hp⟩ Hk
  ihave #HI := (inv_of m K (t, k)) $$ HR
  ihave #Hr := (reached_of m K (t, k)) $$ HR
  have hc : ((t : Thread nD τ), SemLoc.reg s) = kcell (t, k) := by rw [kcell, hs]
  ihave HI' := (Entails.of_eq (congrArg (fun g => (cellInv ER (ringRd m) (K (t, k)) g : sProp 𝕄)) hc.symm)) $$ HI
  ihave Hr' := (Entails.of_eq (congrArg (fun g => (reached ER g 0 : sProp 𝕄)) hc.symm)) $$ Hr
  ihave Ht' := (Entails.of_eq (congrArg (fun g => (dutyTok ER g 0 b : sProp 𝕄)) hc.symm)) $$ Ht
  unfold wpb semSignalWord
  iapply (Rounds.wp_signal 𝒱₀ ER (ringRd m) (c : Thread nD τ) none (dst := (t : Thread nD τ)) (κ := K (t, k)) (sem := s)
      (k := fun x => Prog.ret x)
      (d := b) (r := 0) (by rw [hc, duties_k m t k, h2]; exact Finset.mem_univ _) (by rw [hc, amount_k m t k b, h1]; decide) () (oweR c n)
      (O₀ := oweR c (n + 1)) (by rw [oweR, payTally, hpd, hpc, hc, h1]; rfl) (W := W))
    $$ [HI' HO Ht' Hp Hr']
  · isplitl [HI']; · iexact HI'
    isplitl [HO]; · iexact HO
    isplitl [Ht']; · iexact Ht'
    isplitl [Hp]
    · iapply (Entails.of_eq (((congrArg (fun g => ((ringRd (F := F) m).payload g 0 b : sProp 𝕄)) hc).trans (payload_k m t k b)).symm)); iexact Hp
    · iexact Hr'
  iintro HO
  iapply (le_wp_ret frame _ Set.univ _ Kt)
  iapply Hk
  iexists W; iexact HO

/-- The wait for both neighbours. -/
theorem wp_wait2 (k : Cel) (s : Sem sig) (hs : csem k = .reg s) (h2 : dts k = Finset.univ) (h1 : amt k = 1) (n : ℕ)
    (hn : ∀ i < n, lvl k < lvl (payCel i)) (Kt : PUnit → sProp 𝕄) :
    iprop(records m K ∗ levAts L lv ∗ cred (tallyAt (kcell (c, k)) () 2) ∗ owesE c (oweR c n) ∗ atPos ER (kcell (c, k)) 0 ∅ 0)
      ⊢ iprop((owesE c (oweR c n) ∗ atPos ER (kcell (c, k)) (0 + 1) ∅ 0 ∗ pay m c k false ∗ pay m c k true -∗ Kt ⟨⟩)
        -∗ wpb c (semWaitWord s 2#32) Kt) := by
  unfold owesE
  iintro ⟨#HR, #HL, Hc, ⟨%W, HO⟩, Hat⟩ Hk
  ihave #HI := (inv_of m K (c, k)) $$ HR
  unfold wpb semWaitWord
  iapply (Rounds.wp_wait_rest_token 𝒱₀ ER (ringRd m) (c : Thread nD τ) none (κ := K (c, k)) (sm := csem k)
      (k := fun x => Prog.ret x) (k' := 2)
      (by rw [hs]; exact wpE_semWait_eq 𝒱₀ (c : Thread nD τ) none Set.univ) (Set.mem_univ _) () (O := oweR c n) (W := W) (R := 0) (m := 0) (T := ∅)
      (by rw [expect_k m c k, h2, h1]; decide)) $$ [Hc HO Hat]
  · isplitr; · iexact HI
    isplitl [Hc]; · iexact Hc
    isplitl [HO]; · iexact HO
    isplitr; · iapply (mayWait_k c k n hn); iexact HL
    iexact Hat
  iintro ⟨HO, Hat, -, Hpay⟩
  iapply (le_wp_ret frame _ Set.univ _ Kt)
  iapply Hk
  ihave Hp := (Entails.of_eq (rest_two m c k h2)) $$ Hpay
  isplitl [HO]; · iexists _; iexact HO
  isplitl [Hat]; · iexact Hat
  iexact Hp

/-- The neighbours' buffers are ready: a device gives its own landing places and gets those it copies to. -/
theorem wp_barrier (Kt : PUnit → sProp 𝕄) :
    iprop(records m K ∗ levAts L lv ∗ owesE c (oweR c 16) ∗ meetIn c cBar ∗ upT c ∗ upB c)
      ⊢ iprop((owesE c (oweR c 14) ∗ atPos ER (kcell (c, cBar)) (0 + 1) ∅ 0 ∗ upT (nxt c) ∗ upB (prv c) -∗ Kt ⟨⟩)
        -∗ wpb c (barrierP c) Kt) := by
  unfold meetIn
  iintro ⟨#HR, #HL, HO, ⟨Ht1, Ht2, Hat, Hc⟩, HT, HB⟩ Hk
  unfold wpb barrierP
  rw [wp_bind]
  iapply (wp_sig m K c ⟨k0_dev1 c, k0_dev1_lt c⟩ (prv c) (dev1_is c) cBar barS rfl true rfl rfl 15 rfl rfl) $$ [HO Ht1 HT]
  · isplitr; · iexact HR
    isplitl [HO]; · iexact HO
    isplitl [Ht1]; · iexact Ht1
    iapply (Entails.of_eq (show (upT c : sProp 𝕄) = pay m (prv c) cBar true from by rw [show (pay m (prv c) cBar true : sProp 𝕄) = upT (nxt (prv c)) from rfl, nxt_prv]))
    iexact HT
  iintro HO
  rw [wp_bind]
  iapply (wp_sig m K c ⟨k0_dev2 c, k0_dev2_lt c⟩ (nxt c) (dev2_is c) cBar barS rfl false rfl rfl 14 rfl rfl) $$ [HO Ht2 HB]
  · isplitr; · iexact HR
    isplitl [HO]; · iexact HO
    isplitl [Ht2]; · iexact Ht2
    iapply (Entails.of_eq (show (upB c : sProp 𝕄) = pay m (nxt c) cBar false from by rw [show (pay m (nxt c) cBar false : sProp 𝕄) = upB (prv (nxt c)) from rfl, prv_nxt]))
    iexact HB
  iintro HO
  iapply (wp_wait2 m K c cBar barS rfl rfl rfl 14 (by decide)) $$ [HO Hc Hat]
  · isplitr; · iexact HR
    isplitr; · iexact HL
    isplitl [Hc]; · iexact Hc
    isplitl [HO]; · iexact HO
    iexact Hat
  iintro ⟨HO, Hat, HB, HT⟩
  iapply Hk
  isplitl [HO]; · iexact HO
  isplitl [Hat]; · iexact Hat
  isplitl [HT]
  · iapply (Entails.of_eq (show (pay m c cBar true : sProp 𝕄) = upT (nxt c) from rfl)); iexact HT
  · iapply (Entails.of_eq (show (pay m c cBar false : sProp 𝕄) = upB (prv c) from rfl)); iexact HB

/-- The neighbours are done. -/
theorem wp_close (Kt : PUnit → sProp 𝕄) :
    iprop(records m K ∗ levAts L lv ∗ owesE c (oweR c 2) ∗ meetIn c cFin)
      ⊢ iprop((owesE c (oweR c 0) ∗ atPos ER (kcell (c, cFin)) (0 + 1) ∅ 0 -∗ Kt ⟨⟩) -∗ wpb c (closeP cc0_scoped0 c) Kt) := by
  unfold meetIn
  iintro ⟨#HR, #HL, HO, ⟨Ht1, Ht2, Hat, Hc⟩⟩ Hk
  unfold wpb closeP
  rw [wp_bind]
  iapply (wp_sig m K c ⟨k0_dev15 c, k0_dev15_lt c⟩ (prv c) (dev15_is c) cFin cc0_scoped0.sem rfl true rfl rfl 1 rfl rfl) $$ [HO Ht1]
  · isplitr; · iexact HR
    isplitl [HO]; · iexact HO
    isplitl [Ht1]; · iexact Ht1
    iapply (Entails.of_eq (show (iprop(emp) : sProp 𝕄) = pay m (prv c) cFin true from rfl)); iempintro
  iintro HO
  rw [wp_bind]
  iapply (wp_sig m K c ⟨k0_dev16 c, k0_dev16_lt c⟩ (nxt c) (dev16_is c) cFin cc0_scoped0.sem rfl false rfl rfl 0 rfl rfl) $$ [HO Ht2]
  · isplitr; · iexact HR
    isplitl [HO]; · iexact HO
    isplitl [Ht2]; · iexact Ht2
    iapply (Entails.of_eq (show (iprop(emp) : sProp 𝕄) = pay m (nxt c) cFin false from rfl)); iempintro
  iintro HO
  iapply (wp_wait2 m K c cFin cc0_scoped0.sem rfl rfl rfl 0 (by decide)) $$ [HO Hc Hat]
  · isplitr; · iexact HR
    isplitr; · iexact HL
    isplitl [Hc]; · iexact Hc
    isplitl [HO]; · iexact HO
    iexact Hat
  iintro ⟨HO, Hat, -, -⟩
  iapply Hk
  isplitl [HO]; · iexact HO
  iexact Hat

end Steps

end Cert.KernelIdeal.Ring
-- ==== Proof.KI.Slots.lean ====
module

public import proofs.«01_k».proof.Proof.KI.Vals
public import proofs.«01_k».proof.Proof.KI.Proto

/-! The slots of the buffers. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Slots

variable (c : Dev nD)

/-! ### Slots of a buffer -/

/-- Piece by piece. -/
theorem sep_le {I : Type} {S : Finset I} {P Q : I → sProp 𝕄} (h : ∀ i ∈ S, P i ⊢ Q i) : bigSep S P ⊢ bigSep S Q := bigSep_mono h

section Axis0

variable {n a b : ℕ}

theorem row_inb (t : Fin n) : ∀ i, (![t.val, 0, 0] : Fin 3 → ℕ) i + (![1, a, b] : Fin 3 → ℕ) i ≤ (⟨3, ![n, a, b]⟩ : Shape).size i := by
  intro i
  fin_cases i
  · show t.val + 1 ≤ n; exact t.isLt
  · show 0 + a ≤ a; omega
  · show 0 + b ≤ b; omega

/-- Slot `t`, along the first axis. -/
def rowRect (t : Fin n) : Rect (⟨3, ![n, a, b]⟩ : Shape) := Rect.unit (s := ⟨3, ![n, a, b]⟩) ![t.val, 0, 0] ![1, a, b] (row_inb t)

theorem row_disjoint (t t' : Fin n) (h : t ≠ t') : Disjoint (rowRect (a := a) (b := b) t).set (rowRect t').set := by
  refine Rect.unit_disjoint (0 : Fin 3) ?_
  show t.val + 1 ≤ t'.val ∨ t'.val + 1 ≤ t.val
  have : t.val ≠ t'.val := fun e => h (Fin.ext e)
  omega

theorem row_cover : (Finset.univ : Finset (Fin n)).biUnion (fun t => (rowRect (a := a) (b := b) t).set) = Finset.univ := by
  ext i
  simp only [Finset.mem_biUnion, Finset.mem_univ, true_and, iff_true]
  refine ⟨i 0, Rect.mem_set_unit.mpr fun x => ?_⟩
  fin_cases x
  · show (i 0).val ≤ (i 0).val ∧ (i 0).val < (i 0).val + 1; omega
  · show 0 ≤ (i 1).val ∧ (i 1).val < 0 + a; exact ⟨Nat.zero_le _, by rw [Nat.zero_add]; exact (i 1).isLt⟩
  · show 0 ≤ (i 2).val ∧ (i 2).val < 0 + b; exact ⟨Nat.zero_le _, by rw [Nat.zero_add]; exact (i 2).isLt⟩

/-- The contents which have `Y t` in slot `t`. -/
def rows {α : Type} (Y : Fin n → (⟨3, ![1, a, b]⟩ : Shape).Idx → α) : (⟨3, ![n, a, b]⟩ : Shape).Idx → α :=
  fun i => Y (i 0) (fun | 0 => (0 : Fin 1) | 1 => (i 1 : Fin a) | 2 => (i 2 : Fin b))

theorem rows_emb {α : Type} (Y : Fin n → (⟨3, ![1, a, b]⟩ : Shape).Idx → α) (t : Fin n) (j : (rowRect (a := a) (b := b) t).shape.Idx) :
    rows Y ((rowRect t).emb j) = Y t j := by
  have h0 : (rowRect t).emb j 0 = t := Fin.ext (by
    show t.val + 1 * (j 0).val = t.val
    have h : (j 0).val < 1 := (j 0).isLt
    omega)
  unfold rows
  rw [h0]
  refine congrArg (Y t) (funext fun x => Fin.ext ?_)
  match x with
  | 0 => have h : (j 0).val < 1 := (j 0).isLt; show 0 = (j 0).val; omega
  | 1 => show 0 + 1 * (j 1).val = (j 1).val; omega
  | 2 => show 0 + 1 * (j 2).val = (j 2).val; omega

variable {e : EltTy} (M : Memref sig .tc .vmem (⟨3, ![n, a, b]⟩ : Shape) e)

/-- A buffer is its slots. -/
theorem split_rows : (ownAny c M : sProp 𝕄) ⊢ bigSep Finset.univ fun t : Fin n => ownAny c (M.slice (rowRect t) (fun _ => rfl)) := by
  iintro ⟨%X, H⟩
  ihave H' := (owns_rects (c : Thread nD τ) M fullShare (fun t : Fin n => rowRect t) (fun _ _ => rfl) row_disjoint row_cover X) $$ H
  iapply (sep_le (S := Finset.univ) (fun t _ => show (own c (M.slice (rowRect t) (fun _ => rfl)) fullShare (fun j => X ((rowRect t).emb j)) : sProp 𝕄)
    ⊢ ownAny c (M.slice (rowRect t) (fun _ => rfl)) from by iintro H; iexists (fun j => X ((rowRect t).emb j)); iexact H))
  iexact H'

/-- The slots are the buffer. -/
theorem join_rows (Y : Fin n → (⟨3, ![1, a, b]⟩ : Shape).Idx → Elt F e) :
    (bigSep Finset.univ fun t : Fin n => own c (M.slice (rowRect t) (fun _ => rfl)) fullShare (Y t) : sProp 𝕄) ⊢ own c M fullShare (rows Y) := by
  refine BIBase.Entails.trans ?_ (owns_of_rects (c : Thread nD τ) M fullShare (fun t : Fin n => rowRect t) (fun _ _ => rfl) row_disjoint row_cover (rows Y))
  exact sep_le fun t _ => Entails.of_eq (congrArg (fun Z => (own c (M.slice (rowRect t) (fun _ => rfl)) fullShare Z : sProp 𝕄))
    (funext fun j => (rows_emb Y t j).symm))

end Axis0

section Squeezed

variable {sp : Space} {s s' : Shape} {e : EltTy} (N : Memref sig .tc sp s e) (hq : s.Squeezes s') (hc : s.ShapeCasts s') (hc' : s'.ShapeCasts s)

include hc hc' in
theorem any_squeeze : (ownAny c N : sProp 𝕄) ⊢ ownAny c (N.squeeze s' hq) := by
  iintro ⟨%X, H⟩
  iexists (shapeCast s' X hc)
  iapply (Entails.of_eq (own_squeeze c N hq fullShare hc hc' (shapeCast s' X hc)).symm)
  rw [shapeCast_shapeCast]; iexact H

end Squeezed

theorem castsRow : S1x128x1024.ShapeCasts S128x1024 := by decide
theorem castsRow' : S128x1024.ShapeCasts S1x128x1024 := by decide

/-- A buffer of three half blocks is its slots. -/
theorem split3 (M : Memref sig .tc .vmem S3x128x1024 .bf16) :
    (ownAny c M : sProp 𝕄) ⊢ iprop(ownAny c (slot3 M 0) ∗ ownAny c (slot3 M 1) ∗ ownAny c (slot3 M 2)) := by
  have h (t : Fin 3) : (ownAny c (M.slice (rowRect t) (fun _ => rfl)) : sProp 𝕄) ⊢ ownAny c (slot3 M t) :=
    any_squeeze c (M.slice (rowRect t) (fun _ => rfl)) squeezes_S1x128x1024_S128x1024 castsRow castsRow'
  refine (split_rows c M).trans ?_
  rw [bigSep_univ_eq_bigSepL [0, 1, 2] (by decide) (by decide), bigSepL_cons_cons, bigSepL_cons_cons, bigSepL_singleton]
  exact BIClass.sep_mono (h 0) (BIClass.sep_mono (h 1) (h 2))

/-- A buffer of four half blocks is its slots. -/
theorem split4 (M : Memref sig .tc .vmem S4x128x1024 .f32) :
    (ownAny c M : sProp 𝕄) ⊢ iprop(ownAny c (slot4 M 0) ∗ ownAny c (slot4 M 1) ∗ ownAny c (slot4 M 2) ∗ ownAny c (slot4 M 3)) := by
  have h (t : Fin 4) : (ownAny c (M.slice (rowRect t) (fun _ => rfl)) : sProp 𝕄) ⊢ ownAny c (slot4 M t) :=
    any_squeeze c (M.slice (rowRect t) (fun _ => rfl)) squeezes_S1x128x1024_S128x1024 castsRow castsRow'
  refine (split_rows c M).trans ?_
  rw [bigSep_univ_eq_bigSepL [0, 1, 2, 3] (by decide) (by decide), bigSepL_cons_cons, bigSepL_cons_cons, bigSepL_cons_cons, bigSepL_singleton]
  exact BIClass.sep_mono (h 0) (BIClass.sep_mono (h 1) (BIClass.sep_mono (h 2) (h 3)))

/-- The slots of a buffer of three. -/
theorem join3 (M : Memref sig .tc .vmem S3x128x1024 .bf16) (X0 X1 X2 : FVec F S128x1024 .bf16) :
    (iprop(own c (slot3 M 0) fullShare X0 ∗ own c (slot3 M 1) fullShare X1 ∗ own c (slot3 M 2) fullShare X2) : sProp 𝕄) ⊢ ownAny c M := by
  let Y : Fin 3 → FVec F S128x1024 .bf16 := fun | 0 => X0 | 1 => X1 | 2 => X2
  have h (t : Fin 3) : (own c (slot3 M t) fullShare (Y t) : sProp 𝕄) ⊢ own c (M.slice (rowRect t) (fun _ => rfl)) fullShare (shapeCast S1x128x1024 (Y t) castsRow') :=
    Entails.of_eq (own_squeeze c (M.slice (rowRect t) (fun _ => rfl)) squeezes_S1x128x1024_S128x1024 fullShare castsRow castsRow' (Y t))
  have hj := join_rows c M (fun t => shapeCast S1x128x1024 (Y t) castsRow')
  rw [bigSep_univ_eq_bigSepL [0, 1, 2] (by decide) (by decide), bigSepL_cons_cons, bigSepL_cons_cons, bigSepL_singleton] at hj
  refine (BIClass.sep_mono (h 0) (BIClass.sep_mono (h 1) (h 2))).trans (hj.trans ?_)
  iintro H; iexists _; iexact H

/-- The slots of a buffer of four. -/
theorem join4 (M : Memref sig .tc .vmem S4x128x1024 .f32) (X0 X1 X2 X3 : FVec F S128x1024 .f32) :
    (iprop(own c (slot4 M 0) fullShare X0 ∗ own c (slot4 M 1) fullShare X1 ∗ own c (slot4 M 2) fullShare X2 ∗ own c (slot4 M 3) fullShare X3) : sProp 𝕄)
      ⊢ ownAny c M := by
  let Y : Fin 4 → FVec F S128x1024 .f32 := fun | 0 => X0 | 1 => X1 | 2 => X2 | 3 => X3
  have h (t : Fin 4) : (own c (slot4 M t) fullShare (Y t) : sProp 𝕄) ⊢ own c (M.slice (rowRect t) (fun _ => rfl)) fullShare (shapeCast S1x128x1024 (Y t) castsRow') :=
    Entails.of_eq (own_squeeze c (M.slice (rowRect t) (fun _ => rfl)) squeezes_S1x128x1024_S128x1024 fullShare castsRow castsRow' (Y t))
  have hj := join_rows c M (fun t => shapeCast S1x128x1024 (Y t) castsRow')
  rw [bigSep_univ_eq_bigSepL [0, 1, 2, 3] (by decide) (by decide), bigSepL_cons_cons, bigSepL_cons_cons, bigSepL_cons_cons, bigSepL_singleton] at hj
  refine (BIClass.sep_mono (h 0) (BIClass.sep_mono (h 1) (BIClass.sep_mono (h 2) (h 3)))).trans (hj.trans ?_)
  iintro H; iexists _; iexact H

/-- A buffer of keys (or values) is its heads'. -/
theorem split8 (M : Memref sig .tc .vmem S8x4096x128 .f32) : (ownAny c M : sProp 𝕄) ⊢ bigSep Finset.univ fun h : Fin 8 => ownAny c (slab M h) :=
  (split_rows c M).trans (sep_le fun t _ => any_squeeze c (M.slice (rowRect t) (fun _ => rfl)) squeezes_S1x4096x128_S4096x128 castsSlab' castsSlab)

/-- The heads' keys (or values) are the buffer's. -/
theorem join8 (M : Memref sig .tc .vmem S8x4096x128 .f32) (X : Fin 8 → Vec F S4096x128 .f32) :
    (bigSep Finset.univ fun h : Fin 8 => own c (slab M h) fullShare (X h) : sProp 𝕄) ⊢ own c M fullShare (stack X) := by
  have e : rows (fun t => shapeCast S1x4096x128 (X t) castsSlab) = stack X := by
    funext i
    unfold rows stack
    refine (shapeCast_addUnit_apply ![4096, 128] (X (i 0)) castsSlab _).trans ?_
    exact congrArg (X (i 0)) (funext fun x => Fin.ext (match x with | 0 => rfl | 1 => rfl))
  rw [← e]
  refine BIBase.Entails.trans ?_ (join_rows c M _)
  exact sep_le fun t _ => Entails.of_eq (own_squeeze c (M.slice (rowRect t) (fun _ => rfl)) squeezes_S1x4096x128_S4096x128 fullShare castsSlab' castsSlab (X t))

/-! ### Halves of a device's rows -/

theorem half_disjoint (b b' : Fin 2) (h : b ≠ b') : Disjoint (rect2 b).set (rect2 b').set := by
  refine Rect.unit_disjoint (0 : Fin 2) ?_
  show 128 * b.val + 128 ≤ 128 * b'.val ∨ 128 * b'.val + 128 ≤ 128 * b.val
  have : b.val ≠ b'.val := fun e => h (Fin.ext e)
  omega

theorem half_cover : (Finset.univ : Finset (Fin 2)).biUnion (fun b => (rect2 b).set) = Finset.univ := by
  ext i
  simp only [Finset.mem_biUnion, Finset.mem_univ, true_and, iff_true]
  have h0 : (i 0).val < 256 := (i 0).isLt
  refine ⟨⟨(i 0).val / 128, by omega⟩, Rect.mem_set_unit.mpr fun x => ?_⟩
  fin_cases x
  · show 128 * ((i 0).val / 128) ≤ (i 0).val ∧ (i 0).val < 128 * ((i 0).val / 128) + 128; omega
  · show 0 ≤ (i 1).val ∧ (i 1).val < 0 + 1024; exact ⟨Nat.zero_le _, (i 1).isLt⟩

/-- The device's rows are their halves. -/
theorem split2 {e : EltTy} (M : Memref sig .tc .vmem S256x1024 e) (X : S256x1024.Idx → Elt F e) :
    (own c M fullShare X : sProp 𝕄) ⊢ iprop(own c (M.slice (rect2 0) (fun _ => rfl)) fullShare (fun j => X ((rect2 0).emb j))
      ∗ own c (M.slice (rect2 1) (fun _ => rfl)) fullShare (fun j => X ((rect2 1).emb j))) := by
  have h := owns_rects (c : Thread nD τ) M fullShare (fun t : Fin 2 => rect2 t) (fun _ _ => rfl) half_disjoint half_cover X (Ix := Unit) (Name := ℕ) (U := UU) (Lvl := ℕ)
  rw [bigSep_univ_eq_bigSepL [0, 1] (by decide) (by decide), bigSepL_cons_cons, bigSepL_singleton] at h
  exact h

/-- The halves are the device's rows. -/
theorem join2 {e : EltTy} (M : Memref sig .tc .vmem S256x1024 e) (X : S256x1024.Idx → Elt F e) :
    (iprop(own c (M.slice (rect2 0) (fun _ => rfl)) fullShare (fun j => X ((rect2 0).emb j))
      ∗ own c (M.slice (rect2 1) (fun _ => rfl)) fullShare (fun j => X ((rect2 1).emb j))) : sProp 𝕄) ⊢ own c M fullShare X := by
  have h := owns_of_rects (c : Thread nD τ) M fullShare (fun t : Fin 2 => rect2 t) (fun _ _ => rfl) half_disjoint half_cover X (Ix := Unit) (Name := ℕ) (U := UU) (Lvl := ℕ)
  rw [bigSep_univ_eq_bigSepL [0, 1] (by decide) (by decide), bigSepL_cons_cons, bigSepL_singleton] at h
  exact h

variable (m : (ℓ : Loc nD τ sig) → Buf (Elt F) ℓ)

theorem outV_half (b : Fin 2) : (fun j => outV m c ((rect2 b).emb j)) = outH m c b := by
  funext j
  have h1 : (j 0).val < 128 := (j 0).isLt
  have h0 : ((rect2 b).emb j 0).val = 128 * b.val + (j 0).val := by show 128 * b.val + 1 * (j 0).val = _; omega
  have hb : (if ((rect2 b).emb j 0).val < 128 then (0 : Fin 2) else 1) = b := by
    rw [h0]; rcases b with ⟨_ | _ | b, hb⟩
    · rw [if_pos (by show 128 * 0 + _ < _; omega)]; rfl
    · rw [if_neg (by show ¬ 128 * 1 + _ < _; omega)]; rfl
    · omega
  unfold outV
  rw [hb]
  refine congrArg (outH m c b) (funext fun x => Fin.ext ?_)
  match x with
  | 0 => show ((rect2 b).emb j 0).val % 128 = (j 0).val; rw [h0]; omega
  | 1 => show 0 + 1 * (j 1).val = (j 1).val; omega

end Slots

end Cert.KernelIdeal.Ring
-- ==== Proof.KI.Kv.lean ====
module

public import proofs.«01_k».proof.Proof.KI.Steps
public import proofs.«01_k».proof.Proof.KI.Slots

/-! The keys and values of a device's heads, copied into its buffers. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

section Kv

variable (K : Dev nD × Cel → ℕ) (c : Dev nD)

/-- Eight things, one by one. -/
theorem eight (P : Fin 8 → sProp 𝕄) : bigSep Finset.univ P = iprop(P 0 ∗ P 1 ∗ P 2 ∗ P 3 ∗ P 4 ∗ P 5 ∗ P 6 ∗ P 7) := by
  rw [bigSep_univ_eq_bigSepL [0, 1, 2, 3, 4, 5, 6, 7] (by decide) (by decide)]; rfl

/-- The keys' local copies run. -/
def kFly : sProp 𝕄 := iprop((bigSep Finset.univ fun h : Fin 8 => iprop(kvMid c (cKey h) ∗ kvRest c kaM (kaV m c) h)) ∗ own c kaM (rq 8) (kaV m c))

/-- The values' local copies run. -/
def vFly : sProp 𝕄 := iprop((bigSep Finset.univ fun h : Fin 8 => iprop(kvMid c (cVal h) ∗ kvRest c vaM (vaV m c) h)) ∗ own c vaM (rq 8) (vaV m c))

/-- The keys' local copies start. -/
theorem wp_keyStart (h : Fin 8) (n n' : ℕ) (hn : n = h.val) (hn' : n' = h.val + 1) (Kt : PUnit → sProp 𝕄) :
    iprop(records m K ∗ kvIn c (cKey h) ∗ ownAny c (slab kM h) ∗ own c kaM (rq n) (kaV m c))
      ⊢ iprop(((kvMid c (cKey h) ∗ kvRest c kaM (kaV m c) h) ∗ own c kaM (rq n') (kaV m c) -∗ Kt ⟨⟩)
        -∗ wpb c (kvStart kaM kM cc0_scratch10 0 c h) Kt) := by
  subst hn; subst hn'
  iintro H Hk
  iapply (wp_kvStart m K c kaM kM 0 h (cKey h) rfl rfl rfl rfl (kaV m c) rfl Kt) $$ H
  iintro ⟨H1, H2, H3⟩
  iapply Hk
  isplitl [H1 H3]
  · isplitl [H1]; · iexact H1
    iexact H3
  iexact H2

/-- The values' local copies start. -/
theorem wp_valStart (h : Fin 8) (n n' : ℕ) (hn : n = h.val) (hn' : n' = h.val + 1) (Kt : PUnit → sProp 𝕄) :
    iprop(records m K ∗ kvIn c (cVal h) ∗ ownAny c (slab vM h) ∗ own c vaM (rq n) (vaV m c))
      ⊢ iprop(((kvMid c (cVal h) ∗ kvRest c vaM (vaV m c) h) ∗ own c vaM (rq n') (vaV m c) -∗ Kt ⟨⟩)
        -∗ wpb c (kvStart vaM vM cc0_scratch10 1 c h) Kt) := by
  subst hn; subst hn'
  iintro H Hk
  iapply (wp_kvStart m K c vaM vM 1 h (cVal h) rfl rfl rfl rfl (vaV m c) rfl Kt) $$ H
  iintro ⟨H1, H2, H3⟩
  iapply Hk
  isplitl [H1 H3]
  · isplitl [H1]; · iexact H1
    iexact H3
  iexact H2

theorem wp_kvStarts (Kt : PUnit → sProp 𝕄) :
    iprop(records m K ∗ (bigSep Finset.univ fun h : Fin 8 => kvIn c (cKey h)) ∗ (bigSep Finset.univ fun h : Fin 8 => kvIn c (cVal h))
        ∗ ownAny c kM ∗ ownAny c vM ∗ own c kaM fullShare (kaV m c) ∗ own c vaM fullShare (vaV m c))
      ⊢ iprop((kFly m c ∗ vFly m c -∗ Kt ⟨⟩) -∗ wpb c (kvStarts kaM vaM kM vM cc0_scratch10 c) Kt) := by
  unfold kFly vFly
  rw [eight, eight, eight, eight]
  iintro ⟨#HR, ⟨HI0, HI1, HI2, HI3, HI4, HI5, HI6, HI7⟩, ⟨HJ0, HJ1, HJ2, HJ3, HJ4, HJ5, HJ6, HJ7⟩, HK, HV, HA, HB⟩ Hk
  ihave HK' := (split8 c kM) $$ HK
  ihave HV' := (split8 c vM) $$ HV
  ihave HK := (Entails.of_eq (eight fun h => ownAny c (slab kM h))) $$ HK'
  ihave HV := (Entails.of_eq (eight fun h => ownAny c (slab vM h))) $$ HV'
  icases HK with ⟨HK0, HK1, HK2, HK3, HK4, HK5, HK6, HK7⟩
  icases HV with ⟨HV0, HV1, HV2, HV3, HV4, HV5, HV6, HV7⟩
  unfold wpb kvStarts
  rw [wp_bind]
  iapply (wp_keyStart m K c 0 0 1 rfl rfl) $$ [HI0 HK0 HA]
  · isplitr; · iexact HR
    isplitl [HI0]; · iexact HI0
    isplitl [HK0]; · iexact HK0
    iexact HA
  iintro ⟨HI0, HA⟩
  rw [wp_bind]
  iapply (wp_valStart m K c 0 0 1 rfl rfl) $$ [HJ0 HV0 HB]
  · isplitr; · iexact HR
    isplitl [HJ0]; · iexact HJ0
    isplitl [HV0]; · iexact HV0
    iexact HB
  iintro ⟨HJ0, HB⟩
  rw [wp_bind]
  iapply (wp_keyStart m K c 1 1 2 rfl rfl) $$ [HI1 HK1 HA]
  · isplitr; · iexact HR
    isplitl [HI1]; · iexact HI1
    isplitl [HK1]; · iexact HK1
    iexact HA
  iintro ⟨HI1, HA⟩
  rw [wp_bind]
  iapply (wp_valStart m K c 1 1 2 rfl rfl) $$ [HJ1 HV1 HB]
  · isplitr; · iexact HR
    isplitl [HJ1]; · iexact HJ1
    isplitl [HV1]; · iexact HV1
    iexact HB
  iintro ⟨HJ1, HB⟩
  rw [wp_bind]
  iapply (wp_keyStart m K c 2 2 3 rfl rfl) $$ [HI2 HK2 HA]
  · isplitr; · iexact HR
    isplitl [HI2]; · iexact HI2
    isplitl [HK2]; · iexact HK2
    iexact HA
  iintro ⟨HI2, HA⟩
  rw [wp_bind]
  iapply (wp_valStart m K c 2 2 3 rfl rfl) $$ [HJ2 HV2 HB]
  · isplitr; · iexact HR
    isplitl [HJ2]; · iexact HJ2
    isplitl [HV2]; · iexact HV2
    iexact HB
  iintro ⟨HJ2, HB⟩
  rw [wp_bind]
  iapply (wp_keyStart m K c 3 3 4 rfl rfl) $$ [HI3 HK3 HA]
  · isplitr; · iexact HR
    isplitl [HI3]; · iexact HI3
    isplitl [HK3]; · iexact HK3
    iexact HA
  iintro ⟨HI3, HA⟩
  rw [wp_bind]
  iapply (wp_valStart m K c 3 3 4 rfl rfl) $$ [HJ3 HV3 HB]
  · isplitr; · iexact HR
    isplitl [HJ3]; · iexact HJ3
    isplitl [HV3]; · iexact HV3
    iexact HB
  iintro ⟨HJ3, HB⟩
  rw [wp_bind]
  iapply (wp_keyStart m K c 4 4 5 rfl rfl) $$ [HI4 HK4 HA]
  · isplitr; · iexact HR
    isplitl [HI4]; · iexact HI4
    isplitl [HK4]; · iexact HK4
    iexact HA
  iintro ⟨HI4, HA⟩
  rw [wp_bind]
  iapply (wp_valStart m K c 4 4 5 rfl rfl) $$ [HJ4 HV4 HB]
  · isplitr; · iexact HR
    isplitl [HJ4]; · iexact HJ4
    isplitl [HV4]; · iexact HV4
    iexact HB
  iintro ⟨HJ4, HB⟩
  rw [wp_bind]
  iapply (wp_keyStart m K c 5 5 6 rfl rfl) $$ [HI5 HK5 HA]
  · isplitr; · iexact HR
    isplitl [HI5]; · iexact HI5
    isplitl [HK5]; · iexact HK5
    iexact HA
  iintro ⟨HI5, HA⟩
  rw [wp_bind]
  iapply (wp_valStart m K c 5 5 6 rfl rfl) $$ [HJ5 HV5 HB]
  · isplitr; · iexact HR
    isplitl [HJ5]; · iexact HJ5
    isplitl [HV5]; · iexact HV5
    iexact HB
  iintro ⟨HJ5, HB⟩
  rw [wp_bind]
  iapply (wp_keyStart m K c 6 6 7 rfl rfl) $$ [HI6 HK6 HA]
  · isplitr; · iexact HR
    isplitl [HI6]; · iexact HI6
    isplitl [HK6]; · iexact HK6
    iexact HA
  iintro ⟨HI6, HA⟩
  rw [wp_bind]
  iapply (wp_valStart m K c 6 6 7 rfl rfl) $$ [HJ6 HV6 HB]
  · isplitr; · iexact HR
    isplitl [HJ6]; · iexact HJ6
    isplitl [HV6]; · iexact HV6
    iexact HB
  iintro ⟨HJ6, HB⟩
  rw [wp_bind]
  iapply (wp_keyStart m K c 7 7 8 rfl rfl) $$ [HI7 HK7 HA]
  · isplitr; · iexact HR
    isplitl [HI7]; · iexact HI7
    isplitl [HK7]; · iexact HK7
    iexact HA
  iintro ⟨HI7, HA⟩
  iapply (wp_valStart m K c 7 7 8 rfl rfl) $$ [HJ7 HV7 HB]
  · isplitr; · iexact HR
    isplitl [HJ7]; · iexact HJ7
    isplitl [HV7]; · iexact HV7
    iexact HB
  iintro ⟨HJ7, HB⟩
  iapply Hk
  isplitl [HI0 HI1 HI2 HI3 HI4 HI5 HI6 HI7 HA]
  · isplitl [HI0 HI1 HI2 HI3 HI4 HI5 HI6 HI7]
    · isplitl [HI0]; · iexact HI0
      isplitl [HI1]; · iexact HI1
      isplitl [HI2]; · iexact HI2
      isplitl [HI3]; · iexact HI3
      isplitl [HI4]; · iexact HI4
      isplitl [HI5]; · iexact HI5
      isplitl [HI6]; · iexact HI6
      iexact HI7
    · iexact HA
  · isplitl [HJ0 HJ1 HJ2 HJ3 HJ4 HJ5 HJ6 HJ7]
    · isplitl [HJ0]; · iexact HJ0
      isplitl [HJ1]; · iexact HJ1
      isplitl [HJ2]; · iexact HJ2
      isplitl [HJ3]; · iexact HJ3
      isplitl [HJ4]; · iexact HJ4
      isplitl [HJ5]; · iexact HJ5
      isplitl [HJ6]; · iexact HJ6
      iexact HJ7
    · iexact HB

/-- The wait for a head's keys. -/
theorem wp_keyWait (h : Fin 8) (n : ℕ) (hn : ∀ i < n, 0 < lvl (payCel i)) (Kt : PUnit → sProp 𝕄) :
    iprop(records m K ∗ levAts L lv ∗ owesE c (oweR c n) ∗ kvMid c (cKey h) ∗ kvRest c kaM (kaV m c) h)
      ⊢ iprop((owesE c (oweR c n) ∗ (own c (slab kM h) fullShare (kvOf (kaV m c) c h) ∗ (own c (kvSrc kaM c h) (rq h.val).left (kvOf (kaV m c) c h)
            ∗ kvRest c kaM (kaV m c) h) ∗ atPos ER (kcell (c, cKey h)) (0 + 1) ∅ 0) -∗ Kt ⟨⟩)
        -∗ wpb c (kvWait kaM kM cc0_scratch10 0 c h) Kt) := by
  iintro ⟨#HR, #HL, HO, HM, HS⟩ Hk
  iapply (wp_kvWait m K c kaM kM 0 h (cKey h) rfl rfl rfl rfl (kaV m c) rfl n hn Kt) $$ [HO HM]
  · isplitr; · iexact HR
    isplitr; · iexact HL
    isplitl [HO]; · iexact HO
    iexact HM
  unfold kvPay
  iintro ⟨HO, ⟨H1, H2⟩, H3⟩
  iapply Hk
  isplitl [HO]; · iexact HO
  isplitl [H1]; · iexact H1
  isplitl [H2 HS]
  · isplitl [H2]; · iexact H2
    iexact HS
  iexact H3

/-- The wait for a head's values. -/
theorem wp_valWait (h : Fin 8) (n : ℕ) (hn : ∀ i < n, 0 < lvl (payCel i)) (Kt : PUnit → sProp 𝕄) :
    iprop(records m K ∗ levAts L lv ∗ owesE c (oweR c n) ∗ kvMid c (cVal h) ∗ kvRest c vaM (vaV m c) h)
      ⊢ iprop((owesE c (oweR c n) ∗ (own c (slab vM h) fullShare (kvOf (vaV m c) c h) ∗ (own c (kvSrc vaM c h) (rq h.val).left (kvOf (vaV m c) c h)
            ∗ kvRest c vaM (vaV m c) h) ∗ atPos ER (kcell (c, cVal h)) (0 + 1) ∅ 0) -∗ Kt ⟨⟩)
        -∗ wpb c (kvWait vaM vM cc0_scratch10 1 c h) Kt) := by
  iintro ⟨#HR, #HL, HO, HM, HS⟩ Hk
  iapply (wp_kvWait m K c vaM vM 1 h (cVal h) rfl rfl rfl rfl (vaV m c) rfl n hn Kt) $$ [HO HM]
  · isplitr; · iexact HR
    isplitr; · iexact HL
    isplitl [HO]; · iexact HO
    iexact HM
  unfold kvPay
  iintro ⟨HO, ⟨H1, H2⟩, H3⟩
  iapply Hk
  isplitl [HO]; · iexact HO
  isplitl [H1]; · iexact H1
  isplitl [H2 HS]
  · isplitl [H2]; · iexact H2
    iexact HS
  iexact H3

/-- The shares of the operand, given to the heads' copies, come back. -/
theorem kvBack (A : Memref sig .tc .hbm S1x4096x32x128 .f32) (X : Vec F S1x4096x32x128 .f32) :
    iprop((bigSep Finset.univ fun h : Fin 8 => iprop(own c (kvSrc A c h) (rq h.val).left (kvOf X c h) ∗ kvRest c A X h)) ∗ own c A (rq 8) X)
      ⊢ (own c A fullShare X : sProp 𝕄) := by
  rw [eight]
  iintro ⟨⟨⟨HS0, HR0⟩, ⟨HS1, HR1⟩, ⟨HS2, HR2⟩, ⟨HS3, HR3⟩, ⟨HS4, HR4⟩, ⟨HS5, HR5⟩, ⟨HS6, HR6⟩, ⟨HS7, HR7⟩⟩, HA⟩
  ihave HA' := (kvJoin c A X 7) $$ [HS7 HR7 HA]
  · isplitl [HS7]; · iexact HS7
    isplitl [HR7]; · iexact HR7
    iexact HA
  ihave HA := (Entails.of_eq (show (own c A (rq (7 : Fin 8).val) X : sProp 𝕄) = own c A (rq 7) X from rfl)) $$ HA'
  ihave HA' := (kvJoin c A X 6) $$ [HS6 HR6 HA]
  · isplitl [HS6]; · iexact HS6
    isplitl [HR6]; · iexact HR6
    iexact HA
  ihave HA := (Entails.of_eq (show (own c A (rq (6 : Fin 8).val) X : sProp 𝕄) = own c A (rq 6) X from rfl)) $$ HA'
  ihave HA' := (kvJoin c A X 5) $$ [HS5 HR5 HA]
  · isplitl [HS5]; · iexact HS5
    isplitl [HR5]; · iexact HR5
    iexact HA
  ihave HA := (Entails.of_eq (show (own c A (rq (5 : Fin 8).val) X : sProp 𝕄) = own c A (rq 5) X from rfl)) $$ HA'
  ihave HA' := (kvJoin c A X 4) $$ [HS4 HR4 HA]
  · isplitl [HS4]; · iexact HS4
    isplitl [HR4]; · iexact HR4
    iexact HA
  ihave HA := (Entails.of_eq (show (own c A (rq (4 : Fin 8).val) X : sProp 𝕄) = own c A (rq 4) X from rfl)) $$ HA'
  ihave HA' := (kvJoin c A X 3) $$ [HS3 HR3 HA]
  · isplitl [HS3]; · iexact HS3
    isplitl [HR3]; · iexact HR3
    iexact HA
  ihave HA := (Entails.of_eq (show (own c A (rq (3 : Fin 8).val) X : sProp 𝕄) = own c A (rq 3) X from rfl)) $$ HA'
  ihave HA' := (kvJoin c A X 2) $$ [HS2 HR2 HA]
  · isplitl [HS2]; · iexact HS2
    isplitl [HR2]; · iexact HR2
    iexact HA
  ihave HA := (Entails.of_eq (show (own c A (rq (2 : Fin 8).val) X : sProp 𝕄) = own c A (rq 2) X from rfl)) $$ HA'
  ihave HA' := (kvJoin c A X 1) $$ [HS1 HR1 HA]
  · isplitl [HS1]; · iexact HS1
    isplitl [HR1]; · iexact HR1
    iexact HA
  ihave HA := (Entails.of_eq (show (own c A (rq (1 : Fin 8).val) X : sProp 𝕄) = own c A (rq 1) X from rfl)) $$ HA'
  ihave HA' := (kvJoin c A X 0) $$ [HS0 HR0 HA]
  · isplitl [HS0]; · iexact HS0
    isplitl [HR0]; · iexact HR0
    iexact HA
  ihave HA := (Entails.of_eq (show (own c A (rq (0 : Fin 8).val) X : sProp 𝕄) = own c A (rq 0) X from rfl)) $$ HA'
  iexact HA

theorem wp_kvWaits (n : ℕ) (hn : ∀ i < n, 0 < lvl (payCel i)) (Kt : PUnit → sProp 𝕄) :
    iprop(records m K ∗ levAts L lv ∗ owesE c (oweR c n) ∗ kFly m c ∗ vFly m c)
      ⊢ iprop((owesE c (oweR c n) ∗ (own c kM fullShare (kAll m c) ∗ own c vM fullShare (vAll m c))
            ∗ (own c kaM fullShare (kaV m c) ∗ own c vaM fullShare (vaV m c))
            ∗ (bigSep Finset.univ fun h : Fin 8 => atPos ER (kcell (c, cKey h)) (0 + 1) ∅ 0)
            ∗ (bigSep Finset.univ fun h : Fin 8 => atPos ER (kcell (c, cVal h)) (0 + 1) ∅ 0) -∗ Kt ⟨⟩)
        -∗ wpb c (kvWaits kaM vaM kM vM cc0_scratch10 c) Kt) := by
  unfold kFly vFly
  iintro ⟨#HR, #HL, HO, ⟨HI, HA⟩, ⟨HJ, HB⟩⟩ Hk
  ihave HI' := (Entails.of_eq (eight _)) $$ HI
  ihave HJ' := (Entails.of_eq (eight _)) $$ HJ
  icases HI' with ⟨HI0, HI1, HI2, HI3, HI4, HI5, HI6, HI7⟩
  icases HJ' with ⟨HJ0, HJ1, HJ2, HJ3, HJ4, HJ5, HJ6, HJ7⟩
  unfold wpb kvWaits
  rw [wp_bind]
  iapply (wp_keyWait m K c 0 n hn) $$ [HO HI0]
  · isplitr; · iexact HR
    isplitr; · iexact HL
    isplitl [HO]; · iexact HO
    iexact HI0
  iintro ⟨HO, HI0⟩
  rw [wp_bind]
  iapply (wp_valWait m K c 0 n hn) $$ [HO HJ0]
  · isplitr; · iexact HR
    isplitr; · iexact HL
    isplitl [HO]; · iexact HO
    iexact HJ0
  iintro ⟨HO, HJ0⟩
  rw [wp_bind]
  iapply (wp_keyWait m K c 1 n hn) $$ [HO HI1]
  · isplitr; · iexact HR
    isplitr; · iexact HL
    isplitl [HO]; · iexact HO
    iexact HI1
  iintro ⟨HO, HI1⟩
  rw [wp_bind]
  iapply (wp_valWait m K c 1 n hn) $$ [HO HJ1]
  · isplitr; · iexact HR
    isplitr; · iexact HL
    isplitl [HO]; · iexact HO
    iexact HJ1
  iintro ⟨HO, HJ1⟩
  rw [wp_bind]
  iapply (wp_keyWait m K c 2 n hn) $$ [HO HI2]
  · isplitr; · iexact HR
    isplitr; · iexact HL
    isplitl [HO]; · iexact HO
    iexact HI2
  iintro ⟨HO, HI2⟩
  rw [wp_bind]
  iapply (wp_valWait m K c 2 n hn) $$ [HO HJ2]
  · isplitr; · iexact HR
    isplitr; · iexact HL
    isplitl [HO]; · iexact HO
    iexact HJ2
  iintro ⟨HO, HJ2⟩
  rw [wp_bind]
  iapply (wp_keyWait m K c 3 n hn) $$ [HO HI3]
  · isplitr; · iexact HR
    isplitr; · iexact HL
    isplitl [HO]; · iexact HO
    iexact HI3
  iintro ⟨HO, HI3⟩
  rw [wp_bind]
  iapply (wp_valWait m K c 3 n hn) $$ [HO HJ3]
  · isplitr; · iexact HR
    isplitr; · iexact HL
    isplitl [HO]; · iexact HO
    iexact HJ3
  iintro ⟨HO, HJ3⟩
  rw [wp_bind]
  iapply (wp_keyWait m K c 4 n hn) $$ [HO HI4]
  · isplitr; · iexact HR
    isplitr; · iexact HL
    isplitl [HO]; · iexact HO
    iexact HI4
  iintro ⟨HO, HI4⟩
  rw [wp_bind]
  iapply (wp_valWait m K c 4 n hn) $$ [HO HJ4]
  · isplitr; · iexact HR
    isplitr; · iexact HL
    isplitl [HO]; · iexact HO
    iexact HJ4
  iintro ⟨HO, HJ4⟩
  rw [wp_bind]
  iapply (wp_keyWait m K c 5 n hn) $$ [HO HI5]
  · isplitr; · iexact HR
    isplitr; · iexact HL
    isplitl [HO]; · iexact HO
    iexact HI5
  iintro ⟨HO, HI5⟩
  rw [wp_bind]
  iapply (wp_valWait m K c 5 n hn) $$ [HO HJ5]
  · isplitr; · iexact HR
    isplitr; · iexact HL
    isplitl [HO]; · iexact HO
    iexact HJ5
  iintro ⟨HO, HJ5⟩
  rw [wp_bind]
  iapply (wp_keyWait m K c 6 n hn) $$ [HO HI6]
  · isplitr; · iexact HR
    isplitr; · iexact HL
    isplitl [HO]; · iexact HO
    iexact HI6
  iintro ⟨HO, HI6⟩
  rw [wp_bind]
  iapply (wp_valWait m K c 6 n hn) $$ [HO HJ6]
  · isplitr; · iexact HR
    isplitr; · iexact HL
    isplitl [HO]; · iexact HO
    iexact HJ6
  iintro ⟨HO, HJ6⟩
  rw [wp_bind]
  iapply (wp_keyWait m K c 7 n hn) $$ [HO HI7]
  · isplitr; · iexact HR
    isplitr; · iexact HL
    isplitl [HO]; · iexact HO
    iexact HI7
  iintro ⟨HO, HI7⟩
  iapply (wp_valWait m K c 7 n hn) $$ [HO HJ7]
  · isplitr; · iexact HR
    isplitr; · iexact HL
    isplitl [HO]; · iexact HO
    iexact HJ7
  iintro ⟨HO, HJ7⟩
  ihave HP := (show (_ : sProp 𝕄) ⊢ iprop((bigSep Finset.univ fun h : Fin 8 => own c (slab kM h) fullShare (kvOf (kaV m c) c h))
      ∗ (bigSep Finset.univ fun h : Fin 8 => iprop(own c (kvSrc kaM c h) (rq h.val).left (kvOf (kaV m c) c h) ∗ kvRest c kaM (kaV m c) h))
      ∗ bigSep Finset.univ fun h : Fin 8 => atPos ER (kcell (c, cKey h)) (0 + 1) ∅ 0) from
      (Entails.of_eq (eight fun h => iprop(own c (slab kM h) fullShare (kvOf (kaV m c) c h) ∗ (own c (kvSrc kaM c h) (rq h.val).left (kvOf (kaV m c) c h)
        ∗ kvRest c kaM (kaV m c) h) ∗ atPos ER (kcell (c, cKey h)) (0 + 1) ∅ 0)).symm).trans
        (Entails.of_eq (by rw [bigSep_sep', bigSep_sep']))) $$ [HI0 HI1 HI2 HI3 HI4 HI5 HI6 HI7]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    iexact HI7
  icases HP with ⟨HP1, HP2, HP3⟩
  ihave HQ := (show (_ : sProp 𝕄) ⊢ iprop((bigSep Finset.univ fun h : Fin 8 => own c (slab vM h) fullShare (kvOf (vaV m c) c h))
      ∗ (bigSep Finset.univ fun h : Fin 8 => iprop(own c (kvSrc vaM c h) (rq h.val).left (kvOf (vaV m c) c h) ∗ kvRest c vaM (vaV m c) h))
      ∗ bigSep Finset.univ fun h : Fin 8 => atPos ER (kcell (c, cVal h)) (0 + 1) ∅ 0) from
      (Entails.of_eq (eight fun h => iprop(own c (slab vM h) fullShare (kvOf (vaV m c) c h) ∗ (own c (kvSrc vaM c h) (rq h.val).left (kvOf (vaV m c) c h)
        ∗ kvRest c vaM (vaV m c) h) ∗ atPos ER (kcell (c, cVal h)) (0 + 1) ∅ 0)).symm).trans
        (Entails.of_eq (by rw [bigSep_sep', bigSep_sep']))) $$ [HJ0 HJ1 HJ2 HJ3 HJ4 HJ5 HJ6 HJ7]
  · isplitl [HJ0]; · iexact HJ0
    isplitl [HJ1]; · iexact HJ1
    isplitl [HJ2]; · iexact HJ2
    isplitl [HJ3]; · iexact HJ3
    isplitl [HJ4]; · iexact HJ4
    isplitl [HJ5]; · iexact HJ5
    isplitl [HJ6]; · iexact HJ6
    iexact HJ7
  icases HQ with ⟨HQ1, HQ2, HQ3⟩
  iapply Hk
  isplitl [HO]; · iexact HO
  isplitl [HP1 HQ1]
  · isplitl [HP1]
    · iapply (join8 c kM (kvOf (kaV m c) c)); iexact HP1
    · iapply (join8 c vM (kvOf (vaV m c) c)); iexact HQ1
  isplitl [HP2 HQ2 HA HB]
  · isplitl [HP2 HA]
    · iapply (kvBack c kaM (kaV m c))
      isplitl [HP2]; · iexact HP2
      iexact HA
    · iapply (kvBack c vaM (vaV m c))
      isplitl [HQ2]; · iexact HQ2
      iexact HB
  isplitl [HP3]; · iexact HP3
  iexact HQ3

end Kv

end Cert.KernelIdeal.Ring
-- ==== Proof.KI.Blocks.lean ====
module

public import proofs.«01_k».proof.Proof.KI.Proto
public import proofs.«01_k».proof.Proof.KI.Pieces

/-! The computation of each half block, as a step of the body. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

section Blocks

variable (c : Dev nD)

/-- What every block's computation reads: the keys, the values and the weights. -/
def work : sProp 𝕄 :=
  iprop((own c kM fullShare (kAll m c) ∗ own c vM fullShare (vAll m c)) ∗ own c woM fullShare (woV m c) ∗ own c wqM fullShare (wqV m c))

/-- The device's own upper half block. -/
theorem wp_ownT  (q : PosShare TreeShare) (x : FVec F S128x1024 .bf16) (hx : x = xH m c 0) (Kt : PUnit → sProp 𝕄) :
    iprop(work m c ∗ own c (half2 xM 0) q x ∗ ownAny c (slot4 pTM 0))
      ⊢ iprop((work m c ∗ own c (half2 xM 0) q x ∗ own c (slot4 pTM 0) fullShare (ownTV m c) -∗ Kt ⟨⟩)
        -∗ wpb c (ownT xM wqM woM kM vM pTM c) Kt) := by
  unfold work
  iintro ⟨⟨HKV, HWo, HWq⟩, HX, ⟨%X, HP⟩⟩ Hk
  unfold wpb ownT
  rw [wp_bind]
  iapply (wp_qmOwn c xM 0 wqM q x (wqV m c)) $$ [HX HWq]
  · isplitl [HX]; · iexact HX
    iexact HWq
  iintro ⟨HX, HWq⟩
  rw [wp_bind]
  iapply (wp_halfP c woM kM vM (qmOf x (wqV m c)) (maskOf (baseW (myW c) 0#32) (startW (myW c) 0#32)) (offOwn c 0#32) (offOwn_inb c 0) pTM 0 (kAll m c) (vAll m c) (woV m c) X) $$ [HKV HWo HP]
  · isplitl [HKV]; · iexact HKV
    isplitl [HWo]; · iexact HWo
    iexact HP
  iintro ⟨HKV, HWo, HP⟩
  iapply (wp_fullIf c (myW c) woM kM vM (qmOf x (wqV m c)) pTM 0 (kAll m c) (vAll m c) (woV m c) _) $$ [HKV HWo HP]
  · isplitl [HKV]; · iexact HKV
    isplitl [HWo]; · iexact HWo
    iexact HP
  iintro ⟨HKV, HWo, HP⟩
  iapply Hk
  isplitl [HKV HWo HWq]
  · isplitl [HKV]; · iexact HKV
    isplitl [HWo]; · iexact HWo
    iexact HWq
  isplitl [HX]; · iexact HX
  subst hx; iexact HP

/-- The device's own lower half block. -/
theorem wp_ownB  (q : PosShare TreeShare) (x : FVec F S128x1024 .bf16) (hx : x = xH m c 1) (Kt : PUnit → sProp 𝕄) :
    iprop(work m c ∗ own c (half2 xM 1) q x ∗ ownAny c (slot4 pBM 0))
      ⊢ iprop((work m c ∗ own c (half2 xM 1) q x ∗ own c (slot4 pBM 0) fullShare (ownBV m c) -∗ Kt ⟨⟩)
        -∗ wpb c (ownB xM wqM woM kM vM pBM c) Kt) := by
  unfold work
  iintro ⟨⟨HKV, HWo, HWq⟩, HX, ⟨%X, HP⟩⟩ Hk
  unfold wpb ownB
  rw [wp_bind]
  iapply (wp_qmOwn c xM 1 wqM q x (wqV m c)) $$ [HX HWq]
  · isplitl [HX]; · iexact HX
    iexact HWq
  iintro ⟨HX, HWq⟩
  iapply (wp_halfP c woM kM vM (qmOf x (wqV m c)) (maskOf (baseW (myW c) 128#32) (startW (myW c) 128#32)) (offOwn c 128#32) (offOwn_inb c 1) pBM 0 (kAll m c) (vAll m c) (woV m c) X) $$ [HKV HWo HP]
  · isplitl [HKV]; · iexact HKV
    isplitl [HWo]; · iexact HWo
    iexact HP
  iintro ⟨HKV, HWo, HP⟩
  iapply Hk
  isplitl [HKV HWo HWq]
  · isplitl [HKV]; · iexact HKV
    isplitl [HWo]; · iexact HWo
    iexact HWq
  isplitl [HX]; · iexact HX
  subst hx; iexact HP

/-- The upper half block of the device `k + 1` after. -/
theorem wp_farT (h k : Fin 3) (s : Fin 4) (q : PosShare TreeShare) (x : FVec F S128x1024 .bf16) (Kt : PUnit → sProp 𝕄) :
    iprop(work m c ∗ own c (slot3 xTM h) q x ∗ ownAny c (slot4 pTM s))
      ⊢ iprop((work m c ∗ own c (slot3 xTM h) q x ∗ own c (slot4 pTM s) fullShare (farTV m c k x) -∗ Kt ⟨⟩)
        -∗ wpb c (farT wqM woM kM vM xTM pTM c h k s) Kt) := by
  unfold work
  iintro ⟨⟨HKV, HWo, HWq⟩, HX, ⟨%X, HP⟩⟩ Hk
  unfold wpb farT
  rw [wp_bind]
  iapply (wp_qmFar c xTM h wqM q x (wqV m c)) $$ [HX HWq]
  · isplitl [HX]; · iexact HX
    iexact HWq
  iintro ⟨HX, HWq⟩
  rw [wp_bind]
  iapply (wp_halfP c woM kM vM (qmOf x (wqV m c)) (maskOf (baseW (qW c (BitVec.ofNat 32 (1 + k.val))) 0#32) (startW (qW c (BitVec.ofNat 32 (1 + k.val))) 0#32)) (offFar c (BitVec.ofNat 32 (1 + k.val)) 0#32) (offFar_inb c k 0) pTM s (kAll m c) (vAll m c) (woV m c) X) $$ [HKV HWo HP]
  · isplitl [HKV]; · iexact HKV
    isplitl [HWo]; · iexact HWo
    iexact HP
  iintro ⟨HKV, HWo, HP⟩
  iapply (wp_fullIf c (qW c (BitVec.ofNat 32 (1 + k.val))) woM kM vM (qmOf x (wqV m c)) pTM s (kAll m c) (vAll m c) (woV m c) _) $$ [HKV HWo HP]
  · isplitl [HKV]; · iexact HKV
    isplitl [HWo]; · iexact HWo
    iexact HP
  iintro ⟨HKV, HWo, HP⟩
  iapply Hk
  isplitl [HKV HWo HWq]
  · isplitl [HKV]; · iexact HKV
    isplitl [HWo]; · iexact HWo
    iexact HWq
  isplitl [HX]; · iexact HX
  iexact HP

/-- The lower half block of the device `k + 1` after. -/
theorem wp_farB (h k : Fin 3) (s : Fin 4) (q : PosShare TreeShare) (x : FVec F S128x1024 .bf16) (Kt : PUnit → sProp 𝕄) :
    iprop(work m c ∗ own c (slot3 xBM h) q x ∗ ownAny c (slot4 pBM s))
      ⊢ iprop((work m c ∗ own c (slot3 xBM h) q x ∗ own c (slot4 pBM s) fullShare (farBV m c k x) -∗ Kt ⟨⟩)
        -∗ wpb c (farB wqM woM kM vM xBM pBM c h k s) Kt) := by
  unfold work
  iintro ⟨⟨HKV, HWo, HWq⟩, HX, ⟨%X, HP⟩⟩ Hk
  unfold wpb farB
  rw [wp_bind]
  iapply (wp_qmFar c xBM h wqM q x (wqV m c)) $$ [HX HWq]
  · isplitl [HX]; · iexact HX
    iexact HWq
  iintro ⟨HX, HWq⟩
  iapply (wp_halfP c woM kM vM (qmOf x (wqV m c)) (maskOf (baseW (qW c (BitVec.ofNat 32 (1 + k.val))) 128#32) (startW (qW c (BitVec.ofNat 32 (1 + k.val))) 128#32)) (offFar c (BitVec.ofNat 32 (1 + k.val)) 128#32) (offFar_inb c k 1) pBM s (kAll m c) (vAll m c) (woV m c) X) $$ [HKV HWo HP]
  · isplitl [HKV]; · iexact HKV
    isplitl [HWo]; · iexact HWo
    iexact HP
  iintro ⟨HKV, HWo, HP⟩
  iapply Hk
  isplitl [HKV HWo HWq]
  · isplitl [HKV]; · iexact HKV
    isplitl [HWo]; · iexact HWo
    iexact HWq
  isplitl [HX]; · iexact HX
  iexact HP

end Blocks

end Cert.KernelIdeal.Ring
-- ==== Proof.KI.Run.lean ====
module

public import proofs.«01_k».proof.Proof.KI.Kv
public import proofs.«01_k».proof.Proof.KI.Blocks

/-! A device's run of the whole body. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

theorem dev3_is : ∀ d : Dev nD, (⟨k0_dev3 d, k0_dev3_lt d⟩ : Dev nD) = nxt d := by decide +kernel

theorem dev4_is : ∀ d : Dev nD, (⟨k0_dev4 d, k0_dev4_lt d⟩ : Dev nD) = prv d := by decide +kernel

theorem dev5_is : ∀ d : Dev nD, (⟨k0_dev5 d, k0_dev5_lt d⟩ : Dev nD) = nxt d := by decide +kernel

theorem dev6_is : ∀ d : Dev nD, (⟨k0_dev6 d, k0_dev6_lt d⟩ : Dev nD) = prv d := by decide +kernel

theorem dev7_is : ∀ d : Dev nD, (⟨k0_dev7 d, k0_dev7_lt d⟩ : Dev nD) = nxt d := by decide +kernel

theorem dev8_is : ∀ d : Dev nD, (⟨k0_dev8 d, k0_dev8_lt d⟩ : Dev nD) = prv d := by decide +kernel

theorem dev9_is : ∀ d : Dev nD, (⟨k0_dev9 d, k0_dev9_lt d⟩ : Dev nD) = nxt d := by decide +kernel

theorem dev10_is : ∀ d : Dev nD, (⟨k0_dev10 d, k0_dev10_lt d⟩ : Dev nD) = prv d := by decide +kernel

theorem dev11_is : ∀ d : Dev nD, (⟨k0_dev11 d, k0_dev11_lt d⟩ : Dev nD) = nxt d := by decide +kernel

theorem dev12_is : ∀ d : Dev nD, (⟨k0_dev12 d, k0_dev12_lt d⟩ : Dev nD) = prv d := by decide +kernel

theorem dev13_is : ∀ d : Dev nD, (⟨k0_dev13 d, k0_dev13_lt d⟩ : Dev nD) = nxt d := by decide +kernel

theorem dev14_is : ∀ d : Dev nD, (⟨k0_dev14 d, k0_dev14_lt d⟩ : Dev nD) = prv d := by decide +kernel

variable (m : (ℓ : Loc nD τ sig) → Buf (Elt F) ℓ)

section Run

variable (K : Dev nD × Cel → ℕ) (c : Dev nD)

/-- Twelve things, one by one. -/
theorem twelve (P : Fin 12 → sProp 𝕄) :
    bigSep Finset.univ P = iprop(P 0 ∗ P 1 ∗ P 2 ∗ P 3 ∗ P 4 ∗ P 5 ∗ P 6 ∗ P 7 ∗ P 8 ∗ P 9 ∗ P 10 ∗ P 11) := by
  rw [bigSep_univ_eq_bigSepL [0, 1, 2, 3, 4, 5, 6, 7, 8, 9, 10, 11] (by decide) (by decide)]; rfl

theorem to_free {M : Memref sig .tc .vmem S128x1024 .bf16} (j : Fin 12) (h : dstM j = M) : (ownAny c M : sProp 𝕄) ⊢ free c j := by
  subst h; unfold free; exact .rfl

/-- Half of the device's rows of the result. -/
abbrev oHalf (b : Fin 2) : Memref sig .tc .vmem S128x1024 .f32 :=
  oM.slice (Rect.unit (s := S256x1024) ![128 * b.val, 0] S128x1024.size (inb2 b)) (fun _ => rfl)

theorem splitX : (own c xM fullShare (xstg m c) : sProp 𝕄) ⊢ iprop(own c (half2 xM 0) fullShare (xH m c 0) ∗ own c (half2 xM 1) fullShare (xH m c 1)) :=
  split2 c xM (xstg m c)

theorem joinX : (iprop(own c (half2 xM 0) fullShare (xH m c 0) ∗ own c (half2 xM 1) fullShare (xH m c 1)) : sProp 𝕄) ⊢ own c xM fullShare (xstg m c) :=
  join2 c xM (xstg m c)

theorem splitO (o : Vec F S256x1024 .f32) : (own c oM fullShare o : sProp 𝕄)
    ⊢ iprop(own c (oHalf 0) fullShare (fun j => o ((rect2 0).emb j)) ∗ own c (oHalf 1) fullShare (fun j => o ((rect2 1).emb j))) :=
  split2 c oM o

theorem joinO : (iprop(own c (oHalf 0) fullShare (outH m c 0) ∗ own c (oHalf 1) fullShare (outH m c 1)) : sProp 𝕄) ⊢ own c oM fullShare (outV m c) := by
  have h := join2 c oM (outV m c)
  rw [outV_half, outV_half] at h
  exact h

/-- The buffers a device works in, with whatever contents. -/
def scratch : sProp 𝕄 :=
  iprop(ownAny c kM ∗ ownAny c vM ∗ ownAny c xTM ∗ ownAny c xBM ∗ ownAny c pTM ∗ ownAny c pBM ∗ ownAny c sTM ∗ ownAny c rTM ∗ ownAny c sBM ∗ ownAny c rBM)

/-- The operands of a device. -/
def operands : sProp 𝕄 :=
  iprop(own c xM fullShare (xstg m c) ∗ own c wqM fullShare (wqV m c) ∗ own c woM fullShare (woV m c) ∗ own c kaM fullShare (kaV m c)
    ∗ own c vaM fullShare (vaV m c))

/-- A device's part of the protocol before it starts. -/
def protoIn : sProp 𝕄 :=
  iprop(owesE c (oweR c 16) ∗ meetIn c cBar ∗ meetIn c cFin ∗ (bigSep Finset.univ fun j : Fin 12 => hopIn c j)
    ∗ (bigSep Finset.univ fun h : Fin 8 => kvIn c (cKey h)) ∗ (bigSep Finset.univ fun h : Fin 8 => kvIn c (cVal h)))

/-- The same when it has ended. -/
def protoEnd : sProp 𝕄 :=
  iprop(owesE c (oweR c 0) ∗ atPos ER (kcell (c, cBar)) (0 + 1) ∅ 0 ∗ atPos ER (kcell (c, cFin)) (0 + 1) ∅ 0
    ∗ (bigSep Finset.univ fun j : Fin 12 => hopEnd c j)
    ∗ (bigSep Finset.univ fun h : Fin 8 => atPos ER (kcell (c, cKey h)) (0 + 1) ∅ 0)
    ∗ (bigSep Finset.univ fun h : Fin 8 => atPos ER (kcell (c, cVal h)) (0 + 1) ∅ 0))

set_option maxHeartbeats 4000000 in
/-- A device's run of the body. -/
theorem wp_rest (Kt : PUnit → sProp 𝕄) :
    iprop(records m K ∗ levAts L lv ∗ protoIn c ∗ operands m c ∗ scratch c ∗ ownAny c oM)
      ⊢ iprop((protoEnd c ∗ operands m c ∗ scratch c ∗ own c oM fullShare (outV m c) -∗ Kt ⟨⟩)
        -∗ wpb c (restP xM (Memref.isWhole_whole _) wqM kaM vaM woM oM kM vM xTM (Memref.isWhole_whole _) xBM (Memref.isWhole_whole _) pTM pBM
            sTM (Memref.isWhole_whole _) rTM (Memref.isWhole_whole _) sBM (Memref.isWhole_whole _) rBM (Memref.isWhole_whole _)
            cc0_scratch10 cc0_scratch11 cc0_scratch12 cc0_scratch13 cc0_scratch14 cc0_scratch15 cc0_scratch16 cc0_scratch17 cc0_scratch18
            cc0_scoped0 c) Kt) := by
  unfold protoIn operands scratch
  iintro ⟨#HR, #HL, ⟨HO, Hbar, Hfin, HJ, HI, HJv⟩, ⟨HX, HWq, HWo, HKa, HVa⟩, ⟨HK, HV, HxT, HxB, HpT, HpB, HsT, HrT, HsB, HrB⟩, ⟨%o, Ho⟩⟩ Hk
  ihave HxT' := (split3 c xTM) $$ HxT
  icases HxT' with ⟨G0, G2, G6⟩
  ihave HxB' := (split3 c xBM) $$ HxB
  icases HxB' with ⟨G1, G3, G7⟩
  ihave HrT' := (split3 c rTM) $$ HrT
  icases HrT' with ⟨G4, G8, G10⟩
  ihave HrB' := (split3 c rBM) $$ HrB
  icases HrB' with ⟨G5, G9, G11⟩
  ihave HT : upT c $$ [G0 G2 G4 G6 G8 G10]
  · unfold upT
    isplitl [G0]; · iapply (to_free c 0 rfl); iexact G0
    isplitl [G2]; · iapply (to_free c 2 rfl); iexact G2
    isplitl [G4]; · iapply (to_free c 4 rfl); iexact G4
    isplitl [G6]; · iapply (to_free c 6 rfl); iexact G6
    isplitl [G8]; · iapply (to_free c 8 rfl); iexact G8
    iapply (to_free c 10 rfl); iexact G10
  ihave HB : upB c $$ [G1 G3 G5 G7 G9 G11]
  · unfold upB
    isplitl [G1]; · iapply (to_free c 1 rfl); iexact G1
    isplitl [G3]; · iapply (to_free c 3 rfl); iexact G3
    isplitl [G5]; · iapply (to_free c 5 rfl); iexact G5
    isplitl [G7]; · iapply (to_free c 7 rfl); iexact G7
    isplitl [G9]; · iapply (to_free c 9 rfl); iexact G9
    iapply (to_free c 11 rfl); iexact G11
  unfold wpb restP
  rw [wp_bind]
  iapply (wp_kvStarts m K c) $$ [HI HJv HK HV HKa HVa]
  · isplitr; · iexact HR
    isplitl [HI]; · iexact HI
    isplitl [HJv]; · iexact HJv
    isplitl [HK]; · iexact HK
    isplitl [HV]; · iexact HV
    isplitl [HKa]; · iexact HKa
    iexact HVa
  iintro ⟨HkF, HvF⟩
  rw [wp_bind]
  iapply (wp_barrier m K c) $$ [HO Hbar HT HB]
  · isplitr; · iexact HR
    isplitr; · iexact HL
    isplitl [HO]; · iexact HO
    isplitl [Hbar]; · iexact Hbar
    isplitl [HT]; · iexact HT
    iexact HB
  unfold upT upB
  iintro ⟨HO, Hbar, ⟨F0, F2, F4, F6, F8, F10⟩, ⟨F1, F3, F5, F7, F9, F11⟩⟩
  ihave HJ' := (Entails.of_eq (twelve (hopIn c))) $$ HJ
  icases HJ' with ⟨J0, J1, J2, J3, J4, J5, J6, J7, J8, J9, J10, J11⟩
  ihave HX' := (splitX m c) $$ HX
  icases HX' with ⟨X0T, X0B⟩
  ihave X0T' := (owns_halves (c : Thread nD τ) (half2 xM 0) fullShare (xH m c 0)).1 $$ X0T
  icases X0T' with ⟨X0Tl, X0Tr⟩
  ihave X0B' := (owns_halves (c : Thread nD τ) (half2 xM 1) fullShare (xH m c 1)).1 $$ X0B
  icases X0B' with ⟨X0Bl, X0Br⟩
  rw [wp_bind]
  iapply (wp_send m K c (src := half2 xM 0) (dst := slot3 xTM 0) 0 13 (nxt c) (dev3_is c) rfl rfl rfl rfl rfl rfl rfl (xH m c 0) rfl) $$ [X0Tr F0 HO J0]
  · isplitr; · iexact HR
    isplitl [X0Tr]; · iexact X0Tr
    isplitl [F0]; · iexact F0
    isplitl [HO]; · iexact HO
    iexact J0
  iintro ⟨HO, J0⟩
  rw [wp_bind]
  iapply (wp_send m K c (src := half2 xM 1) (dst := slot3 xBM 0) 1 12 (prv c) (dev4_is c) rfl rfl rfl rfl rfl rfl rfl (xH m c 1) rfl) $$ [X0Br F1 HO J1]
  · isplitr; · iexact HR
    isplitl [X0Br]; · iexact X0Br
    isplitl [F1]; · iexact F1
    isplitl [HO]; · iexact HO
    iexact J1
  iintro ⟨HO, J1⟩
  rw [wp_bind]
  iapply (wp_kvWaits m K c 12 (by decide)) $$ [HO HkF HvF]
  · isplitr; · iexact HR
    isplitr; · iexact HL
    isplitl [HO]; · iexact HO
    isplitl [HkF]; · iexact HkF
    iexact HvF
  iintro ⟨HO, HKV, ⟨HKa, HVa⟩, Ak, Av⟩
  ihave HW : work m c $$ [HKV HWq HWo]
  · unfold work
    isplitl [HKV]; · iexact HKV
    isplitl [HWo]; · iexact HWo
    iexact HWq
  ihave HpT' := (split4 c pTM) $$ HpT
  icases HpT' with ⟨P0T, P1T, P2T, P3T⟩
  ihave HsT' := (split3 c sTM) $$ HsT
  icases HsT' with ⟨S0T, S1T, S2T⟩
  ihave HpB' := (split4 c pBM) $$ HpB
  icases HpB' with ⟨P0B, P1B, P2B, P3B⟩
  ihave HsB' := (split3 c sBM) $$ HsB
  icases HsB' with ⟨S0B, S1B, S2B⟩
  rw [wp_bind]
  iapply (wp_ownT m c fullShare.left (xH m c 0) rfl) $$ [HW X0Tl P0T]
  · isplitl [HW]; · iexact HW
    isplitl [X0Tl]; · iexact X0Tl
    iexact P0T
  iintro ⟨HW, X0Tl, P0T⟩
  rw [wp_bind]
  iapply (wp_ownB m c fullShare.left (xH m c 1) rfl) $$ [HW X0Bl P0B]
  · isplitl [HW]; · iexact HW
    isplitl [X0Bl]; · iexact X0Bl
    iexact P0B
  iintro ⟨HW, X0Bl, P0B⟩
  rw [wp_bind]
  iapply (wp_sendRecv m K c (src := half2 xM 0) (dst := slot3 xTM 0) 0 12 rfl rfl rfl rfl (by decide) (xH m c 0) rfl (xH m (prv c) 0) rfl) $$ [HO J0]
  · isplitr; · iexact HR
    isplitr; · iexact HL
    isplitl [HO]; · iexact HO
    iexact J0
  iintro ⟨HO, X0Tr, X1T, J0⟩
  ihave X1T' := (owns_halves (c : Thread nD τ) (slot3 xTM 0) fullShare (xH m (prv c) 0)).1 $$ X1T
  icases X1T' with ⟨X1Tl, X1Tr⟩
  rw [wp_bind]
  iapply (wp_send m K c (src := slot3 xTM 0) (dst := slot3 xTM 1) 2 11 (nxt c) (dev5_is c) rfl rfl rfl rfl rfl rfl rfl (xH m (prv c) 0) rfl) $$ [X1Tr F2 HO J2]
  · isplitr; · iexact HR
    isplitl [X1Tr]; · iexact X1Tr
    isplitl [F2]; · iexact F2
    isplitl [HO]; · iexact HO
    iexact J2
  iintro ⟨HO, J2⟩
  rw [wp_bind]
  iapply (wp_sendRecv m K c (src := half2 xM 1) (dst := slot3 xBM 0) 1 11 rfl rfl rfl rfl (by decide) (xH m c 1) rfl (xH m (nxt c) 1) rfl) $$ [HO J1]
  · isplitr; · iexact HR
    isplitr; · iexact HL
    isplitl [HO]; · iexact HO
    iexact J1
  iintro ⟨HO, X0Br, X1B, J1⟩
  ihave X1B' := (owns_halves (c : Thread nD τ) (slot3 xBM 0) fullShare (xH m (nxt c) 1)).1 $$ X1B
  icases X1B' with ⟨X1Bl, X1Br⟩
  rw [wp_bind]
  iapply (wp_send m K c (src := slot3 xBM 0) (dst := slot3 xBM 1) 3 10 (prv c) (dev6_is c) rfl rfl rfl rfl rfl rfl rfl (xH m (nxt c) 1) rfl) $$ [X1Br F3 HO J3]
  · isplitr; · iexact HR
    isplitl [X1Br]; · iexact X1Br
    isplitl [F3]; · iexact F3
    isplitl [HO]; · iexact HO
    iexact J3
  iintro ⟨HO, J3⟩
  rw [wp_bind]
  iapply (wp_farT m c 0 2 1 fullShare.left (xH m (prv c) 0)) $$ [HW X1Tl P1T]
  · isplitl [HW]; · iexact HW
    isplitl [X1Tl]; · iexact X1Tl
    iexact P1T
  iintro ⟨HW, X1Tl, P1T⟩
  icases S0T with ⟨%y0T, S0T⟩
  rw [wp_bind]
  iapply (wp_stageP c pTM 1 sTM _ 0 (farTV m c 2 (xH m (prv c) 0)) y0T) $$ [P1T S0T]
  · isplitl [P1T]; · iexact P1T
    iexact S0T
  iintro ⟨P1T, S0T⟩
  ihave S0T' := (owns_halves (c : Thread nD τ) (slot3 sTM 0) fullShare (toS (farTV m c 2 (xH m (prv c) 0)))).1 $$ S0T
  icases S0T' with ⟨S0Tl, S0Tr⟩
  rw [wp_bind]
  iapply (wp_send m K c (src := slot3 sTM 0) (dst := slot3 rTM 0) 4 9 (nxt c) (dev7_is c) rfl rfl rfl rfl rfl rfl rfl (toS (farTV m c 2 (xH m (prv c) 0))) rfl) $$ [S0Tr F4 HO J4]
  · isplitr; · iexact HR
    isplitl [S0Tr]; · iexact S0Tr
    isplitl [F4]; · iexact F4
    isplitl [HO]; · iexact HO
    iexact J4
  iintro ⟨HO, J4⟩
  rw [wp_bind]
  iapply (wp_farB m c 0 0 1 fullShare.left (xH m (nxt c) 1)) $$ [HW X1Bl P1B]
  · isplitl [HW]; · iexact HW
    isplitl [X1Bl]; · iexact X1Bl
    iexact P1B
  iintro ⟨HW, X1Bl, P1B⟩
  icases S0B with ⟨%y0B, S0B⟩
  rw [wp_bind]
  iapply (wp_stageP c pBM 1 sBM _ 0 (farBV m c 0 (xH m (nxt c) 1)) y0B) $$ [P1B S0B]
  · isplitl [P1B]; · iexact P1B
    iexact S0B
  iintro ⟨P1B, S0B⟩
  ihave S0B' := (owns_halves (c : Thread nD τ) (slot3 sBM 0) fullShare (toS (farBV m c 0 (xH m (nxt c) 1)))).1 $$ S0B
  icases S0B' with ⟨S0Bl, S0Br⟩
  rw [wp_bind]
  iapply (wp_send m K c (src := slot3 sBM 0) (dst := slot3 rBM 0) 5 8 (prv c) (dev8_is c) rfl rfl rfl rfl rfl rfl rfl (toS (farBV m c 0 (xH m (nxt c) 1))) rfl) $$ [S0Br F5 HO J5]
  · isplitr; · iexact HR
    isplitl [S0Br]; · iexact S0Br
    isplitl [F5]; · iexact F5
    isplitl [HO]; · iexact HO
    iexact J5
  iintro ⟨HO, J5⟩
  rw [wp_bind]
  iapply (wp_sendRecv m K c (src := slot3 xTM 0) (dst := slot3 xTM 1) 2 8 rfl rfl rfl rfl (by decide) (xH m (prv c) 0) rfl (xH m (prv (prv c)) 0) rfl) $$ [HO J2]
  · isplitr; · iexact HR
    isplitr; · iexact HL
    isplitl [HO]; · iexact HO
    iexact J2
  iintro ⟨HO, X1Tr, X2T, J2⟩
  ihave X2T' := (owns_halves (c : Thread nD τ) (slot3 xTM 1) fullShare (xH m (prv (prv c)) 0)).1 $$ X2T
  icases X2T' with ⟨X2Tl, X2Tr⟩
  rw [wp_bind]
  iapply (wp_send m K c (src := slot3 xTM 1) (dst := slot3 xTM 2) 6 7 (nxt c) (dev9_is c) rfl rfl rfl rfl rfl rfl rfl (xH m (prv (prv c)) 0) rfl) $$ [X2Tr F6 HO J6]
  · isplitr; · iexact HR
    isplitl [X2Tr]; · iexact X2Tr
    isplitl [F6]; · iexact F6
    isplitl [HO]; · iexact HO
    iexact J6
  iintro ⟨HO, J6⟩
  rw [wp_bind]
  iapply (wp_sendRecv m K c (src := slot3 xBM 0) (dst := slot3 xBM 1) 3 7 rfl rfl rfl rfl (by decide) (xH m (nxt c) 1) rfl (xH m (nxt (nxt c)) 1) rfl) $$ [HO J3]
  · isplitr; · iexact HR
    isplitr; · iexact HL
    isplitl [HO]; · iexact HO
    iexact J3
  iintro ⟨HO, X1Br, X2B, J3⟩
  ihave X2B' := (owns_halves (c : Thread nD τ) (slot3 xBM 1) fullShare (xH m (nxt (nxt c)) 1)).1 $$ X2B
  icases X2B' with ⟨X2Bl, X2Br⟩
  rw [wp_bind]
  iapply (wp_send m K c (src := slot3 xBM 1) (dst := slot3 xBM 2) 7 6 (prv c) (dev10_is c) rfl rfl rfl rfl rfl rfl rfl (xH m (nxt (nxt c)) 1) rfl) $$ [X2Br F7 HO J7]
  · isplitr; · iexact HR
    isplitl [X2Br]; · iexact X2Br
    isplitl [F7]; · iexact F7
    isplitl [HO]; · iexact HO
    iexact J7
  iintro ⟨HO, J7⟩
  rw [wp_bind]
  iapply (wp_farT m c 1 1 2 fullShare.left (xH m (prv (prv c)) 0)) $$ [HW X2Tl P2T]
  · isplitl [HW]; · iexact HW
    isplitl [X2Tl]; · iexact X2Tl
    iexact P2T
  iintro ⟨HW, X2Tl, P2T⟩
  rw [wp_bind]
  iapply (wp_sendRecv m K c (src := slot3 sTM 0) (dst := slot3 rTM 0) 4 6 rfl rfl rfl rfl (by decide) (toS (farTV m c 2 (xH m (prv c) 0))) rfl (sumT0 m (prv c)) rfl) $$ [HO J4]
  · isplitr; · iexact HR
    isplitr; · iexact HL
    isplitl [HO]; · iexact HO
    iexact J4
  iintro ⟨HO, S0Tr, R0T, J4⟩
  rw [wp_bind]
  iapply (wp_accP c pTM 2 rTM 0 fullShare (farTV m c 1 (xH m (prv (prv c)) 0)) (sumT0 m (prv c))) $$ [P2T R0T]
  · isplitl [P2T]; · iexact P2T
    iexact R0T
  iintro ⟨P2T, R0T⟩
  icases S1T with ⟨%y1T, S1T⟩
  rw [wp_bind]
  iapply (wp_stageP c pTM 2 sTM _ 1 (addR (farTV m c 1 (xH m (prv (prv c)) 0)) (sumT0 m (prv c))) y1T) $$ [P2T S1T]
  · isplitl [P2T]; · iexact P2T
    iexact S1T
  iintro ⟨P2T, S1T⟩
  ihave S1T' := (owns_halves (c : Thread nD τ) (slot3 sTM 1) fullShare (toS (addR (farTV m c 1 (xH m (prv (prv c)) 0)) (sumT0 m (prv c))))).1 $$ S1T
  icases S1T' with ⟨S1Tl, S1Tr⟩
  rw [wp_bind]
  iapply (wp_send m K c (src := slot3 sTM 1) (dst := slot3 rTM 1) 8 5 (nxt c) (dev11_is c) rfl rfl rfl rfl rfl rfl rfl (toS (addR (farTV m c 1 (xH m (prv (prv c)) 0)) (sumT0 m (prv c)))) rfl) $$ [S1Tr F8 HO J8]
  · isplitr; · iexact HR
    isplitl [S1Tr]; · iexact S1Tr
    isplitl [F8]; · iexact F8
    isplitl [HO]; · iexact HO
    iexact J8
  iintro ⟨HO, J8⟩
  rw [wp_bind]
  iapply (wp_farB m c 1 1 2 fullShare.left (xH m (nxt (nxt c)) 1)) $$ [HW X2Bl P2B]
  · isplitl [HW]; · iexact HW
    isplitl [X2Bl]; · iexact X2Bl
    iexact P2B
  iintro ⟨HW, X2Bl, P2B⟩
  rw [wp_bind]
  iapply (wp_sendRecv m K c (src := slot3 sBM 0) (dst := slot3 rBM 0) 5 5 rfl rfl rfl rfl (by decide) (toS (farBV m c 0 (xH m (nxt c) 1))) rfl (sumB0 m (nxt c)) rfl) $$ [HO J5]
  · isplitr; · iexact HR
    isplitr; · iexact HL
    isplitl [HO]; · iexact HO
    iexact J5
  iintro ⟨HO, S0Br, R0B, J5⟩
  rw [wp_bind]
  iapply (wp_accP c pBM 2 rBM 0 fullShare (farBV m c 1 (xH m (nxt (nxt c)) 1)) (sumB0 m (nxt c))) $$ [P2B R0B]
  · isplitl [P2B]; · iexact P2B
    iexact R0B
  iintro ⟨P2B, R0B⟩
  icases S1B with ⟨%y1B, S1B⟩
  rw [wp_bind]
  iapply (wp_stageP c pBM 2 sBM _ 1 (addR (farBV m c 1 (xH m (nxt (nxt c)) 1)) (sumB0 m (nxt c))) y1B) $$ [P2B S1B]
  · isplitl [P2B]; · iexact P2B
    iexact S1B
  iintro ⟨P2B, S1B⟩
  ihave S1B' := (owns_halves (c : Thread nD τ) (slot3 sBM 1) fullShare (toS (addR (farBV m c 1 (xH m (nxt (nxt c)) 1)) (sumB0 m (nxt c))))).1 $$ S1B
  icases S1B' with ⟨S1Bl, S1Br⟩
  rw [wp_bind]
  iapply (wp_send m K c (src := slot3 sBM 1) (dst := slot3 rBM 1) 9 4 (prv c) (dev12_is c) rfl rfl rfl rfl rfl rfl rfl (toS (addR (farBV m c 1 (xH m (nxt (nxt c)) 1)) (sumB0 m (nxt c)))) rfl) $$ [S1Br F9 HO J9]
  · isplitr; · iexact HR
    isplitl [S1Br]; · iexact S1Br
    isplitl [F9]; · iexact F9
    isplitl [HO]; · iexact HO
    iexact J9
  iintro ⟨HO, J9⟩
  rw [wp_bind]
  iapply (wp_sendRecv m K c (src := slot3 xTM 1) (dst := slot3 xTM 2) 6 4 rfl rfl rfl rfl (by decide) (xH m (prv (prv c)) 0) rfl (xH m (prv (prv (prv c))) 0) rfl) $$ [HO J6]
  · isplitr; · iexact HR
    isplitr; · iexact HL
    isplitl [HO]; · iexact HO
    iexact J6
  iintro ⟨HO, X2Tr, X3T, J6⟩
  rw [wp_bind]
  iapply (wp_sendRecv m K c (src := slot3 xBM 1) (dst := slot3 xBM 2) 7 4 rfl rfl rfl rfl (by decide) (xH m (nxt (nxt c)) 1) rfl (xH m (nxt (nxt (nxt c))) 1) rfl) $$ [HO J7]
  · isplitr; · iexact HR
    isplitr; · iexact HL
    isplitl [HO]; · iexact HO
    iexact J7
  iintro ⟨HO, X2Br, X3B, J7⟩
  rw [wp_bind]
  iapply (wp_farT m c 2 0 3 fullShare (xH m (prv (prv (prv c))) 0)) $$ [HW X3T P3T]
  · isplitl [HW]; · iexact HW
    isplitl [X3T]; · iexact X3T
    iexact P3T
  iintro ⟨HW, X3T, P3T⟩
  rw [wp_bind]
  iapply (wp_sendRecv m K c (src := slot3 sTM 1) (dst := slot3 rTM 1) 8 4 rfl rfl rfl rfl (by decide) (toS (addR (farTV m c 1 (xH m (prv (prv c)) 0)) (sumT0 m (prv c)))) rfl (sumT1 m (prv c)) rfl) $$ [HO J8]
  · isplitr; · iexact HR
    isplitr; · iexact HL
    isplitl [HO]; · iexact HO
    iexact J8
  iintro ⟨HO, S1Tr, R1T, J8⟩
  rw [wp_bind]
  iapply (wp_accP c pTM 3 rTM 1 fullShare (farTV m c 0 (xH m (prv (prv (prv c))) 0)) (sumT1 m (prv c))) $$ [P3T R1T]
  · isplitl [P3T]; · iexact P3T
    iexact R1T
  iintro ⟨P3T, R1T⟩
  icases S2T with ⟨%y2T, S2T⟩
  rw [wp_bind]
  iapply (wp_stageP c pTM 3 sTM _ 2 (addR (farTV m c 0 (xH m (prv (prv (prv c))) 0)) (sumT1 m (prv c))) y2T) $$ [P3T S2T]
  · isplitl [P3T]; · iexact P3T
    iexact S2T
  iintro ⟨P3T, S2T⟩
  ihave S2T' := (owns_halves (c : Thread nD τ) (slot3 sTM 2) fullShare (toS (addR (farTV m c 0 (xH m (prv (prv (prv c))) 0)) (sumT1 m (prv c))))).1 $$ S2T
  icases S2T' with ⟨S2Tl, S2Tr⟩
  rw [wp_bind]
  iapply (wp_send m K c (src := slot3 sTM 2) (dst := slot3 rTM 2) 10 3 (nxt c) (dev13_is c) rfl rfl rfl rfl rfl rfl rfl (toS (addR (farTV m c 0 (xH m (prv (prv (prv c))) 0)) (sumT1 m (prv c)))) rfl) $$ [S2Tr F10 HO J10]
  · isplitr; · iexact HR
    isplitl [S2Tr]; · iexact S2Tr
    isplitl [F10]; · iexact F10
    isplitl [HO]; · iexact HO
    iexact J10
  iintro ⟨HO, J10⟩
  rw [wp_bind]
  iapply (wp_farB m c 2 2 3 fullShare (xH m (nxt (nxt (nxt c))) 1)) $$ [HW X3B P3B]
  · isplitl [HW]; · iexact HW
    isplitl [X3B]; · iexact X3B
    iexact P3B
  iintro ⟨HW, X3B, P3B⟩
  rw [wp_bind]
  iapply (wp_sendRecv m K c (src := slot3 sBM 1) (dst := slot3 rBM 1) 9 3 rfl rfl rfl rfl (by decide) (toS (addR (farBV m c 1 (xH m (nxt (nxt c)) 1)) (sumB0 m (nxt c)))) rfl (sumB1 m (nxt c)) rfl) $$ [HO J9]
  · isplitr; · iexact HR
    isplitr; · iexact HL
    isplitl [HO]; · iexact HO
    iexact J9
  iintro ⟨HO, S1Br, R1B, J9⟩
  rw [wp_bind]
  iapply (wp_accP c pBM 3 rBM 1 fullShare (farBV m c 2 (xH m (nxt (nxt (nxt c))) 1)) (sumB1 m (nxt c))) $$ [P3B R1B]
  · isplitl [P3B]; · iexact P3B
    iexact R1B
  iintro ⟨P3B, R1B⟩
  icases S2B with ⟨%y2B, S2B⟩
  rw [wp_bind]
  iapply (wp_stageP c pBM 3 sBM _ 2 (addR (farBV m c 2 (xH m (nxt (nxt (nxt c))) 1)) (sumB1 m (nxt c))) y2B) $$ [P3B S2B]
  · isplitl [P3B]; · iexact P3B
    iexact S2B
  iintro ⟨P3B, S2B⟩
  ihave S2B' := (owns_halves (c : Thread nD τ) (slot3 sBM 2) fullShare (toS (addR (farBV m c 2 (xH m (nxt (nxt (nxt c))) 1)) (sumB1 m (nxt c))))).1 $$ S2B
  icases S2B' with ⟨S2Bl, S2Br⟩
  rw [wp_bind]
  iapply (wp_send m K c (src := slot3 sBM 2) (dst := slot3 rBM 2) 11 2 (prv c) (dev14_is c) rfl rfl rfl rfl rfl rfl rfl (toS (addR (farBV m c 2 (xH m (nxt (nxt (nxt c))) 1)) (sumB1 m (nxt c)))) rfl) $$ [S2Br F11 HO J11]
  · isplitr; · iexact HR
    isplitl [S2Br]; · iexact S2Br
    isplitl [F11]; · iexact F11
    isplitl [HO]; · iexact HO
    iexact J11
  iintro ⟨HO, J11⟩
  ihave Ho' := (splitO c o) $$ Ho
  icases Ho' with ⟨O0, O1⟩
  rw [wp_bind]
  iapply (wp_sendRecv m K c (src := slot3 sTM 2) (dst := slot3 rTM 2) 10 2 rfl rfl rfl rfl (by decide) (toS (addR (farTV m c 0 (xH m (prv (prv (prv c))) 0)) (sumT1 m (prv c)))) rfl (sumT2 m (prv c)) rfl) $$ [HO J10]
  · isplitr; · iexact HR
    isplitr; · iexact HL
    isplitl [HO]; · iexact HO
    iexact J10
  iintro ⟨HO, S2Tr, R2T, J10⟩
  rw [wp_bind]
  iapply (wp_outP c pTM rTM oM 0 fullShare (ownTV m c) (sumT2 m (prv c)) _) $$ [P0T R2T O0]
  · isplitl [P0T]; · iexact P0T
    isplitl [R2T]; · iexact R2T
    iexact O0
  iintro ⟨P0T, R2T, O0⟩
  rw [wp_bind]
  iapply (wp_sendRecv m K c (src := slot3 sBM 2) (dst := slot3 rBM 2) 11 2 rfl rfl rfl rfl (by decide) (toS (addR (farBV m c 2 (xH m (nxt (nxt (nxt c))) 1)) (sumB1 m (nxt c)))) rfl (sumB2 m (nxt c)) rfl) $$ [HO J11]
  · isplitr; · iexact HR
    isplitr; · iexact HL
    isplitl [HO]; · iexact HO
    iexact J11
  iintro ⟨HO, S2Br, R2B, J11⟩
  rw [wp_bind]
  iapply (wp_outP c pBM rBM oM 1 fullShare (ownBV m c) (sumB2 m (nxt c)) _) $$ [P0B R2B O1]
  · isplitl [P0B]; · iexact P0B
    isplitl [R2B]; · iexact R2B
    iexact O1
  iintro ⟨P0B, R2B, O1⟩
  iapply (wp_close m K c) $$ [HO Hfin]
  · isplitr; · iexact HR
    isplitr; · iexact HL
    isplitl [HO]; · iexact HO
    iexact Hfin
  iintro ⟨HO, Hfin⟩
  ihave X0T := (owns_halves (c : Thread nD τ) (half2 xM 0) fullShare (xH m c 0)).2 $$ [X0Tl X0Tr]
  · isplitl [X0Tl]; · iexact X0Tl
    iexact X0Tr
  ihave X1T := (owns_halves (c : Thread nD τ) (slot3 xTM 0) fullShare (xH m (prv c) 0)).2 $$ [X1Tl X1Tr]
  · isplitl [X1Tl]; · iexact X1Tl
    iexact X1Tr
  ihave X2T := (owns_halves (c : Thread nD τ) (slot3 xTM 1) fullShare (xH m (prv (prv c)) 0)).2 $$ [X2Tl X2Tr]
  · isplitl [X2Tl]; · iexact X2Tl
    iexact X2Tr
  ihave S0T := (owns_halves (c : Thread nD τ) (slot3 sTM 0) fullShare (toS (farTV m c 2 (xH m (prv c) 0)))).2 $$ [S0Tl S0Tr]
  · isplitl [S0Tl]; · iexact S0Tl
    iexact S0Tr
  ihave S1T := (owns_halves (c : Thread nD τ) (slot3 sTM 1) fullShare (toS (addR (farTV m c 1 (xH m (prv (prv c)) 0)) (sumT0 m (prv c))))).2 $$ [S1Tl S1Tr]
  · isplitl [S1Tl]; · iexact S1Tl
    iexact S1Tr
  ihave S2T := (owns_halves (c : Thread nD τ) (slot3 sTM 2) fullShare (toS (addR (farTV m c 0 (xH m (prv (prv (prv c))) 0)) (sumT1 m (prv c))))).2 $$ [S2Tl S2Tr]
  · isplitl [S2Tl]; · iexact S2Tl
    iexact S2Tr
  ihave X0B := (owns_halves (c : Thread nD τ) (half2 xM 1) fullShare (xH m c 1)).2 $$ [X0Bl X0Br]
  · isplitl [X0Bl]; · iexact X0Bl
    iexact X0Br
  ihave X1B := (owns_halves (c : Thread nD τ) (slot3 xBM 0) fullShare (xH m (nxt c) 1)).2 $$ [X1Bl X1Br]
  · isplitl [X1Bl]; · iexact X1Bl
    iexact X1Br
  ihave X2B := (owns_halves (c : Thread nD τ) (slot3 xBM 1) fullShare (xH m (nxt (nxt c)) 1)).2 $$ [X2Bl X2Br]
  · isplitl [X2Bl]; · iexact X2Bl
    iexact X2Br
  ihave S0B := (owns_halves (c : Thread nD τ) (slot3 sBM 0) fullShare (toS (farBV m c 0 (xH m (nxt c) 1)))).2 $$ [S0Bl S0Br]
  · isplitl [S0Bl]; · iexact S0Bl
    iexact S0Br
  ihave S1B := (owns_halves (c : Thread nD τ) (slot3 sBM 1) fullShare (toS (addR (farBV m c 1 (xH m (nxt (nxt c)) 1)) (sumB0 m (nxt c))))).2 $$ [S1Bl S1Br]
  · isplitl [S1Bl]; · iexact S1Bl
    iexact S1Br
  ihave S2B := (owns_halves (c : Thread nD τ) (slot3 sBM 2) fullShare (toS (addR (farBV m c 2 (xH m (nxt (nxt (nxt c))) 1)) (sumB1 m (nxt c))))).2 $$ [S2Bl S2Br]
  · isplitl [S2Bl]; · iexact S2Bl
    iexact S2Br
  unfold work
  icases HW with ⟨⟨HK, HV⟩, HWo, HWq⟩
  iapply Hk
  unfold protoEnd
  isplitl [HO Hbar Hfin Ak Av J0 J1 J2 J3 J4 J5 J6 J7 J8 J9 J10 J11]
  · isplitl [HO]; · iexact HO
    isplitl [Hbar]; · iexact Hbar
    isplitl [Hfin]; · iexact Hfin
    isplitl [J0 J1 J2 J3 J4 J5 J6 J7 J8 J9 J10 J11]
    · iapply (Entails.of_eq (twelve (hopEnd c)).symm)
      isplitl [J0]; · iexact J0
      isplitl [J1]; · iexact J1
      isplitl [J2]; · iexact J2
      isplitl [J3]; · iexact J3
      isplitl [J4]; · iexact J4
      isplitl [J5]; · iexact J5
      isplitl [J6]; · iexact J6
      isplitl [J7]; · iexact J7
      isplitl [J8]; · iexact J8
      isplitl [J9]; · iexact J9
      isplitl [J10]; · iexact J10
      iexact J11
    isplitl [Ak]; · iexact Ak
    iexact Av
  isplitl [X0T X0B HWq HWo HKa HVa]
  · isplitl [X0T X0B]
    · iapply (joinX m c)
      isplitl [X0T]; · iexact X0T
      iexact X0B
    isplitl [HWq]; · iexact HWq
    isplitl [HWo]; · iexact HWo
    isplitl [HKa]; · iexact HKa
    iexact HVa
  isplitr [O0 O1]
  · isplitl [HK]; · iexists _; iexact HK
    isplitl [HV]; · iexists _; iexact HV
    isplitl [X1T X2T X3T]
    · iapply (join3 c xTM _ _ _)
      isplitl [X1T]; · iexact X1T
      isplitl [X2T]; · iexact X2T
      iexact X3T
    isplitl [X1B X2B X3B]
    · iapply (join3 c xBM _ _ _)
      isplitl [X1B]; · iexact X1B
      isplitl [X2B]; · iexact X2B
      iexact X3B
    isplitl [P0T P1T P2T P3T]
    · iapply (join4 c pTM _ _ _ _)
      isplitl [P0T]; · iexact P0T
      isplitl [P1T]; · iexact P1T
      isplitl [P2T]; · iexact P2T
      iexact P3T
    isplitl [P0B P1B P2B P3B]
    · iapply (join4 c pBM _ _ _ _)
      isplitl [P0B]; · iexact P0B
      isplitl [P1B]; · iexact P1B
      isplitl [P2B]; · iexact P2B
      iexact P3B
    isplitl [S0T S1T S2T]
    · iapply (join3 c sTM _ _ _)
      isplitl [S0T]; · iexact S0T
      isplitl [S1T]; · iexact S1T
      iexact S2T
    isplitl [R0T R1T R2T]
    · iapply (join3 c rTM _ _ _)
      isplitl [R0T]; · iexact R0T
      isplitl [R1T]; · iexact R1T
      iexact R2T
    isplitl [S0B S1B S2B]
    · iapply (join3 c sBM _ _ _)
      isplitl [S0B]; · iexact S0B
      isplitl [S1B]; · iexact S1B
      iexact S2B
    iapply (join3 c rBM _ _ _)
    isplitl [R0B]; · iexact R0B
    isplitl [R1B]; · iexact R1B
    iexact R2B
  · iapply (joinO m c)
    isplitl [O0]; · iexact O0
    iexact O1

end Run

end Cert.KernelIdeal.Ring
-- ==== Proof.KI.Cells.lean ====
module

public import proofs.«01_k».proof.Proof.KI.Run

/-! How the launch deals the bookkeeping of the semaphores to the devices. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ### Over every semaphore -/

/-- Over every semaphore, kind by kind. -/
theorem bigSep_cel (Φ : Cel → sProp 𝕄) : bigSep Finset.univ Φ
    = iprop(Φ cBar ∗ Φ cFin ∗ ((bigSep Finset.univ fun j : Fin 12 => Φ (cSnd j)) ∗ (bigSep Finset.univ fun j : Fin 12 => Φ (cRcv j)))
        ∗ ((bigSep Finset.univ fun h : Fin 8 => Φ (cKey h)) ∗ (bigSep Finset.univ fun h : Fin 8 => Φ (cVal h)))) := by
  rw [bigSep_univ_sum, bigSep_univ_sum, bigSep_univ_sum, bigSep_univ_sum, bigSep_univ_sum,
    bigSep_univ_eq_bigSepL [()] (by decide) (by decide), bigSepL_singleton,
    bigSep_univ_eq_bigSepL [()] (by decide) (by decide), bigSepL_singleton]
  rfl

theorem bigSep_two (Φ : Bool → sProp 𝕄) : bigSep Finset.univ Φ = iprop(Φ false ∗ Φ true) := by
  rw [bigSep_univ_eq_bigSepL [false, true] (by decide) (by decide), bigSepL_cons_cons, bigSepL_singleton]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact sep_le h)

theorem swap_over {I J : Type} [Fintype I] [Fintype J] (Φ : I → J → sProp 𝕄) :
    (bigSep Finset.univ fun i : I => bigSep Finset.univ fun j : J => Φ i j) = bigSep Finset.univ fun j : J => bigSep Finset.univ fun i : I => Φ i j := by
  rw [← bigSep_univ_prod fun ij : I × J => Φ ij.1 ij.2, ← bigSep_univ_prod fun ji : J × I => Φ ji.2 ji.1,
    bigSep_univ_equiv (Equiv.prodComm J I) fun ij : I × J => Φ ij.1 ij.2]
  rfl

/-! ### The launch element -/

def allCells : Finset (GSem nD τ sig) := Finset.univ.map ⟨kcell, kcell_injective⟩

/-- A token for each semaphore and each of two contributors. -/
abbrev tokOf (x : (Dev nD × Cel) × Bool) : GSem nD τ sig × ℕ × Bool := (kcell x.1, 0, x.2)

theorem tokOf_injective : Function.Injective tokOf := by
  rintro ⟨a, b⟩ ⟨a', b'⟩ h
  have h1 : a = a' := kcell_injective (congrArg (fun x : GSem nD τ sig × ℕ × Bool => x.1) h)
  have h2 : b = b' := congrArg (fun x : GSem nD τ sig × ℕ × Bool => x.2.2) h
  rw [h1, h2]

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of a semaphore. -/
def tok (c : Dev nD) (k : Cel) (b : Bool) : sProp 𝕄 := dutyTok ER (kcell (c, k)) 0 b

/-- What the launch element deals to device `c`. -/
def G (c : Dev nD) : sProp 𝕄 :=
  iprop((bigSep Finset.univ fun k : Cel => roundState ER (ringRd m) (kcell (c, k)) 0)
    ∗ (bigSep Finset.univ fun k : Cel => atPos ER (kcell (c, k)) 0 ∅ 0)
    ∗ (bigSep Finset.univ fun k : Cel => reached ER (kcell (c, k)) 0)
    ∗ (bigSep Finset.univ fun k : Cel => iprop(tok c k false ∗ tok c k true)))

theorem over_cells (Φ : GSem nD τ sig → sProp 𝕄) :
    bigSep allCells Φ = bigSep Finset.univ fun c : Dev nD => bigSep Finset.univ fun k : Cel => Φ (kcell (c, k)) := by
  unfold allCells; rw [bigSep_map, bigSep_univ_prod]; rfl

theorem over_toks : bigSep allToks (fun x => (dutyTok ER x.1 x.2.1 x.2.2 : sProp 𝕄))
    = bigSep Finset.univ fun c : Dev nD => bigSep Finset.univ fun k : Cel => iprop(tok (F := F) c k false ∗ tok c k true) := by
  unfold allToks; rw [bigSep_map, bigSep_univ_prod, bigSep_univ_prod]
  exact bigSep_congr fun c _ => bigSep_congr fun k _ => by rw [bigSep_two]; rfl

theorem fund_all : BI.own (ER (initOf allCells allToks)) ⊢ (|==> bigSep Finset.univ (G (F := F) m) : sProp 𝕄) := by
  iintro HX
  imod (Rounds.fund ER (ringRd m) allCells allToks) $$ HX with ⟨Hst, Hr, Hat, Htok⟩
  imodintro
  ihave Hst' := (Entails.of_eq (over_cells fun g => roundState ER (ringRd m) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold G
  rw [bigSep_sep', bigSep_sep', bigSep_sep']
  isplitl [Hst']; · iexact Hst'
  isplitl [Hat']; · iexact Hat'
  isplitl [Hr']; · iexact Hr'
  iexact Htok'

/-! ### The semaphores at the launch -/

theorem ownSemFacts : Pipeline.OwnSemFacts cfg0.spec osem where
  isScoped := by decide +kernel
  inj a b h := Sum.inr.inj (csem_injective (a₁ := .inr a) (a₂ := .inr b) h)
  disj := by decide +kernel

theorem unscoped_eq (c : Dev nD) : (unscopedSems0 c : sProp 𝕄) = semVal (kcell (c, cBar)) 0 := by
  unfold unscopedSems0; rw [bigSep_eq_bigSepL_of_eq [SemLoc.reg barS] (by decide +kernel) (by decide)]; rfl

/-- A device's semaphores at zero. -/
def zeros (c : Dev nD) : sProp 𝕄 := bigSep Finset.univ fun k : Cel => semVal (kcell (c, k)) 0

theorem zeros_eq (c : Dev nD) :
    (zeros c : sProp 𝕄)
      = iprop(unscopedSems0 c ∗ Pipeline.ownSems0 (Ix := Unit) (Name := ℕ) (U := UU) (Lvl := ℕ) (Val := Elt F) (τ := τ) osem c) := by
  unfold zeros
  rw [unscoped_eq, bigSep_univ_sum, bigSep_univ_eq_bigSepL [()] (by decide) (by decide), bigSepL_singleton]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cel => iprop(∃ κ : ℕ, cellInv ER (ringRd m) κ (kcell (c, k))))
          ∗ (bigSep Finset.univ fun k : Cel => atPos ER (kcell (c, k)) 0 ∅ 0)
          ∗ (bigSep Finset.univ fun k : Cel => reached ER (kcell (c, k)) 0)
          ∗ (bigSep Finset.univ fun k : Cel => iprop(tok (F := F) c k false ∗ tok c k true))) := by
  unfold G
  iintro ⟨Hos, Hus, Hst, Hat, Hr, Htok⟩
  ihave Hv := (Entails.of_eq (zeros_eq (F := F) c).symm) $$ [Hos Hus]
  · isplitl [Hus] <;> iassumption
  unfold zeros
  imod (show iprop((bigSep Finset.univ fun k : Cel => semVal (kcell (c, k)) 0) ∗ bigSep Finset.univ fun k : Cel => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (sep_le fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- The tokens which device `c` spends, semaphore by semaphore. -/
def payTok (c : Dev nD) : Cel → sProp 𝕄
  | .inl _ => iprop(tok (prv c) cBar true ∗ tok (nxt c) cBar false)
  | .inr (.inl _) => iprop(tok (prv c) cFin true ∗ tok (nxt c) cFin false)
  | .inr (.inr (.inl (.inl j))) => tok c (cSnd j) false
  | .inr (.inr (.inl (.inr j))) => tok (tgt j c) (cRcv j) false
  | .inr (.inr (.inr (.inl h))) => tok c (cKey h) false
  | .inr (.inr (.inr (.inr h))) => tok c (cVal h) false

/-- The devices that copies go to, as a rearrangement of the devices. -/
def tgtE (j : Fin 12) : Dev nD ≃ Dev nD := ⟨tgt j, frm j, frm_tgt j, tgt_frm j⟩

theorem meet_around (k : Cel) :
    (bigSep Finset.univ fun c : Dev nD => iprop(tok (F := F) c k false ∗ tok c k true))
      ⊢ bigSep Finset.univ fun c : Dev nD => iprop(tok (prv c) k true ∗ tok (nxt c) k false) := by
  rw [bigSep_sep', bigSep_sep', bigSep_univ_equiv turn (fun c : Dev nD => (tok c k false : sProp 𝕄)),
    bigSep_univ_equiv turn.symm (fun c : Dev nD => (tok c k true : sProp 𝕄))]
  iintro ⟨H1, H2⟩
  isplitl [H2]
  · iexact H2
  · iexact H1

theorem fst_only (k : Cel) (e : Dev nD ≃ Dev nD) :
    (bigSep Finset.univ fun c : Dev nD => iprop(tok (F := F) c k false ∗ tok c k true))
      ⊢ bigSep Finset.univ fun c : Dev nD => tok (e c) k false := by
  rw [bigSep_sep', bigSep_univ_equiv e (fun c : Dev nD => (tok c k false : sProp 𝕄))]
  iintro ⟨H, -⟩
  iexact H

theorem toks_at (k : Cel) :
    (bigSep Finset.univ fun c : Dev nD => iprop(tok (F := F) c k false ∗ tok c k true)) ⊢ bigSep Finset.univ fun c : Dev nD => payTok c k := by
  rcases k with u | u | (j | j) | (h | h)
  · exact meet_around cBar
  · exact meet_around cFin
  · exact fst_only (cSnd j) (Equiv.refl _)
  · exact fst_only (cRcv j) (tgtE j)
  · exact fst_only (cKey h) (Equiv.refl _)
  · exact fst_only (cVal h) (Equiv.refl _)

/-- The tokens dealt to those who spend them. -/
theorem toks_around :
    (bigSep Finset.univ fun c : Dev nD => bigSep Finset.univ fun k : Cel => iprop(tok (F := F) c k false ∗ tok c k true))
      ⊢ bigSep Finset.univ fun c : Dev nD => bigSep Finset.univ fun k : Cel => payTok c k := by
  rw [swap_over, swap_over fun (c : Dev nD) (k : Cel) => payTok (F := F) c k]
  exact sep_le fun k _ => toks_at k

/-- What stays with device `c`. -/
def dealt (c : Dev nD) : sProp 𝕄 :=
  iprop((bigSep Finset.univ fun k : Cel => atPos ER (kcell (c, k)) 0 ∅ 0) ∗ bigSep Finset.univ fun k : Cel => payTok c k)

/-- What the global step makes of it. -/
def G' (c : Dev nD) : sProp 𝕄 := iprop(∃ K, records m K ∗ dealt c)

theorem dealt_intro (K : Dev nD × Cel → ℕ) (c : Dev nD) : iprop(records m K ∗ dealt c) ⊢ G' m c := by
  unfold G'
  iintro H
  iexists K; iexact H

theorem regroup :
    (bigSep Finset.univ fun c : Dev nD => iprop((bigSep Finset.univ fun k : Cel => iprop(∃ κ : ℕ, cellInv ER (ringRd m) κ (kcell (c, k))))
          ∗ (bigSep Finset.univ fun k : Cel => atPos ER (kcell (c, k)) 0 ∅ 0)
          ∗ (bigSep Finset.univ fun k : Cel => reached ER (kcell (c, k)) 0)
          ∗ (bigSep Finset.univ fun k : Cel => iprop(tok (F := F) c k false ∗ tok c k true))) : sProp 𝕄)
      ⊢ bigSep Finset.univ (G' m) := by
  rw [bigSep_sep', bigSep_sep', bigSep_sep', ← bigSep_univ_prod (fun ck : Dev nD × Cel => iprop(∃ κ : ℕ, cellInv ER (ringRd m) κ (kcell ck))),
    ← bigSep_univ_prod (fun ck : Dev nD × Cel => (reached ER (kcell ck) 0 : sProp 𝕄))]
  iintro ⟨HI, Hat, #HR, Htok⟩
  ihave HK := (BI.bigSep_exists_pi Finset.univ (fun (ck : Dev nD × Cel) (κ : ℕ) => (cellInv ER (ringRd m) κ (kcell ck) : sProp 𝕄))) $$ HI
  icases HK with ⟨%K, #HI⟩
  ihave Htk := (toks_around (F := F)) $$ Htok
  iapply (with_persistent (R := records m K) fun c _ => dealt_intro m K c)
  isplitr
  · unfold records; isplitl; · iexact HI
    iexact HR
  · unfold dealt; rw [bigSep_sep']
    isplitl [Hat]; · iexact Hat
    iexact Htk

/-- The step taken for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((sep_le fun c _ => core_alloc m c).trans (bigSep_fupd _ _)).trans (BI.fupd_mono (regroup m))

/-! ### The launch credit -/

/-- How many payments go to a semaphore of a device. -/
def cnt (k : Cel) : ℕ := ((Finset.range 16).filter fun i => payCel i = k).card

theorem payDev_bij (i : ℕ) : Function.Bijective fun d : Dev nD => payDev d i := by
  have hn : Function.Bijective fun d : Dev nD => nxt d := turn.bijective
  have hp : Function.Bijective fun d : Dev nD => prv d := turn.symm.bijective
  unfold payDev
  split <;> assumption

theorem oweR_sum (d : Dev nD) (g : GSem nD τ sig) : ∀ n : ℕ, oweR d n g () = ∑ i ∈ Finset.range n, payTally d i g ()
  | 0 => rfl
  | n + 1 => by
    rw [Finset.sum_range_succ, ← oweR_sum d g n]; rfl

theorem payTally_at (d c : Dev nD) (i : ℕ) (k : Cel) :
    payTally d i (kcell (c, k)) () = if c = payDev d i then (if payCel i = k then amt k else 0) else 0 := by
  unfold payTally
  rw [tallyAt_apply]
  by_cases h : c = payDev d i
  · rw [if_pos h]
    by_cases h' : payCel i = k
    · rw [if_pos h', if_pos ⟨by rw [h, h'], rfl⟩, h']
    · rw [if_neg h', if_neg fun e => h' (congrArg Prod.snd (kcell_injective e.1)).symm]
  · rw [if_neg h, if_neg fun e => h (congrArg Prod.fst (kcell_injective e.1))]

theorem owed_total (c : Dev nD) (k : Cel) : (∑ d : Dev nD, oweR d 16 (kcell (c, k)) ()) = cnt k * amt k := by
  rw [Finset.sum_congr rfl fun d _ => oweR_sum d (kcell (c, k)) 16, Finset.sum_comm,
    Finset.sum_congr rfl fun i _ => ((Finset.sum_congr rfl fun d _ => payTally_at d c i k).trans
      ((payDev_bij i).sum_comp fun e => if c = e then (if payCel i = k then amt k else 0) else 0)),
    Finset.sum_congr rfl fun i _ => Finset.sum_ite_eq Finset.univ c fun _ => if payCel i = k then amt k else 0,
    Finset.sum_congr rfl fun i _ => if_pos (Finset.mem_univ c), ← Finset.sum_filter, Finset.sum_const, smul_eq_mul]
  rfl

theorem launch_at (c : Dev nD) (k : Cel) :
    tallyOn (kcell (c, k)) (launchCredit (Pipeline.owing fun c => oweR c 16) 0 (kcell (c, k)))
      = (tallyAt (kcell (c, k)) () (cnt k * amt k) : CellTallies nD τ sig Unit) := by
  unfold tallyAt; refine congrArg _ (Finsupp.ext fun u => ?_); cases u
  rw [Pipeline.launchCredit_owing, Finsupp.single_eq_same, owed_total]

/-- The credit of the semaphores that others pay. -/
def creds (c : Dev nD) : sProp 𝕄 :=
  iprop(cred (tallyAt (kcell (c, cBar)) () 2) ∗ cred (tallyAt (kcell (c, cFin)) () 2)
    ∗ bigSep Finset.univ fun j : Fin 12 => cred (tallyAt (kcell (c, cRcv j)) () N))

theorem cnt_bar : cnt cBar = 2 := by decide
theorem cnt_fin : cnt cFin = 2 := by decide
theorem cnt_rcv : ∀ j : Fin 12, cnt (cRcv j) = 1 := by decide

theorem all_creds (c : Dev nD) :
    (Pipeline.launchCred (fun c => oweR c 16) c : sProp 𝕄) ⊢ bigSep Finset.univ fun k : Cel => cred (tallyAt (kcell (c, k)) () (cnt k * amt k)) := by
  unfold Pipeline.launchCred
  refine (bigSep_subset (Finset.subset_univ (Finset.univ.map ⟨csem, csem_injective⟩))).trans ?_
  rw [bigSep_map]
  exact sep_le fun k _ => Entails.of_eq (congrArg cred (launch_at c k))

theorem creds_intro (c : Dev nD) : (Pipeline.launchCred (fun c => oweR c 16) c : sProp 𝕄) ⊢ creds c := by
  refine (all_creds c).trans ?_
  rw [bigSep_cel]
  unfold creds
  iintro ⟨HB, HF, ⟨-, HR⟩, -⟩
  isplitl [HB]; · iapply (Entails.of_eq (show (cred (tallyAt (kcell (c, cBar)) () (cnt cBar * amt cBar)) : sProp 𝕄) = cred (tallyAt (kcell (c, cBar)) () 2) from by rw [cnt_bar]; rfl)); iexact HB
  isplitl [HF]; · iapply (Entails.of_eq (show (cred (tallyAt (kcell (c, cFin)) () (cnt cFin * amt cFin)) : sProp 𝕄) = cred (tallyAt (kcell (c, cFin)) () 2) from by rw [cnt_fin]; rfl)); iexact HF
  iapply (sep_le fun (j : Fin 12) _ => Entails.of_eq (show (cred (tallyAt (kcell (c, cRcv j)) () (cnt (cRcv j) * amt (cRcv j))) : sProp 𝕄)
    = cred (tallyAt (kcell (c, cRcv j)) () N) from by rw [cnt_rcv, Nat.one_mul]; rfl))
  iexact HR

/-! ### The protocol of a device, from what is dealt to it, and back -/

theorem proto_intro (c : Dev nD) : iprop(owesE c (oweR c 16) ∗ dealt c ∗ creds c) ⊢ (protoIn c : sProp 𝕄) := by
  unfold dealt creds protoIn meetIn hopIn kvIn
  rw [bigSep_cel, bigSep_cel, bigSep_sep', bigSep_sep', bigSep_sep', bigSep_sep', bigSep_sep', bigSep_sep']
  unfold payTok tok
  iintro ⟨HO, ⟨⟨AB, AF, ⟨AS, AR⟩, AK, AV⟩, ⟨TB1, TB2⟩, ⟨TF1, TF2⟩, ⟨TS, TR⟩, TK, TV⟩, CB, CF, CR⟩
  isplitl [HO]; · iexact HO
  isplitl [AB TB1 TB2 CB]
  · isplitl [TB1]; · iexact TB1
    isplitl [TB2]; · iexact TB2
    isplitl [AB]; · iexact AB
    iexact CB
  isplitl [AF TF1 TF2 CF]
  · isplitl [TF1]; · iexact TF1
    isplitl [TF2]; · iexact TF2
    isplitl [AF]; · iexact AF
    iexact CF
  isplitl [TS TR AS AR CR]
  · isplitl [TS]; · iexact TS
    isplitl [TR]; · iexact TR
    isplitl [AS]; · iexact AS
    isplitl [AR]; · iexact AR
    iexact CR
  isplitl [TK AK]
  · isplitl [TK]; · iexact TK
    iexact AK
  isplitl [TV]; · iexact TV
  iexact AV

theorem proto_exit (K : Dev nD × Cel → ℕ) (c : Dev nD) :
    iprop(records m K ∗ protoEnd c) ⊢ (|={Set.univ}=> iprop(owesE c 0 ∗ zeros c) : sProp 𝕄) := by
  unfold protoEnd hopEnd zeros
  rw [bigSep_sep']
  iintro ⟨#HR, HO, AB, AF, ⟨AS, AR⟩, AK, AV⟩
  ihave HA := (Entails.of_eq (bigSep_cel (F := F) fun k => atPos ER (kcell (c, k)) (0 + 1) ∅ 0).symm) $$ [AB AF AS AR AK AV]
  · isplitl [AB]; · iexact AB
    isplitl [AF]; · iexact AF
    isplitl [AS AR]
    · isplitl [AS] <;> iassumption
    isplitl [AK] <;> iassumption
  imod (show iprop(records m K ∗ bigSep Finset.univ fun k : Cel => atPos ER (kcell (c, k)) (0 + 1) ∅ 0)
      ⊢ (|={Set.univ}=> bigSep Finset.univ fun k : Cel => semVal (kcell (c, k)) 0 : sProp 𝕄) from
        (with_persistent (R := records m K) fun k _ => close_k m K c k).trans (bigSep_fupd _ _)) $$ [HA] with HZ
  · isplitr; · iexact HR
    iexact HA
  imodintro
  isplitl [HO]; · iexact HO
  iexact HZ

end Cert.KernelIdeal.Ring
-- ==== Proof.KI.BodyEq.lean ====
module

public import proofs.«01_k».proof.Proof.KI.Prog
public import Idealize.ShloMosaic.Lib.Pipeline.Regions

/-! The printed body is the sequence of pieces. -/

@[expose] public section

noncomputable section

namespace Cert.KernelIdeal.Ring

open Cert.KernelIdeal Cert.KernelIdeal.Gen
open Idealize.ShloMosaic Idealize.SL.Sem

variable {F : FTy → Type} [FloatOps F] [Named F]

/-- The printed body is the sequence of pieces. -/
theorem body_eq (arg0 : Memref sig .tc .vmem S256x1024 .bf16) (harg0 : arg0.IsWhole) (arg1 : Memref sig .tc .vmem S1024x1024 .bf16) (harg1 : arg1.IsWhole)
    (arg2 : Memref sig .tc .hbm S1x4096x32x128 .f32) (harg2 : arg2.IsWhole) (arg3 : Memref sig .tc .hbm S1x4096x32x128 .f32) (harg3 : arg3.IsWhole)
    (arg4 : Memref sig .tc .vmem S1024x1024 .bf16) (harg4 : arg4.IsWhole) (arg5 : Memref sig .tc .vmem S256x1024 .f32) (harg5 : arg5.IsWhole)
    (arg6 : Memref sig .tc .vmem S8x4096x128 .f32) (harg6 : arg6.IsWhole) (arg7 : Memref sig .tc .vmem S8x4096x128 .f32) (harg7 : arg7.IsWhole)
    (arg8 : Memref sig .tc .vmem S3x128x1024 .bf16) (harg8 : arg8.IsWhole) (arg9 : Memref sig .tc .vmem S3x128x1024 .bf16) (harg9 : arg9.IsWhole)
    (arg10 : Memref sig .tc .vmem S4x128x1024 .f32) (harg10 : arg10.IsWhole) (arg11 : Memref sig .tc .vmem S4x128x1024 .f32) (harg11 : arg11.IsWhole)
    (arg12 : Memref sig .tc .vmem S3x128x1024 .bf16) (harg12 : arg12.IsWhole) (arg13 : Memref sig .tc .vmem S3x128x1024 .bf16) (harg13 : arg13.IsWhole)
    (arg14 : Memref sig .tc .vmem S3x128x1024 .bf16) (harg14 : arg14.IsWhole) (arg15 : Memref sig .tc .vmem S3x128x1024 .bf16) (harg15 : arg15.IsWhole)
    (arg16 : DmaSems sig S2x8) (arg17 arg18 arg19 arg20 arg21 arg22 arg23 arg24 : DmaSems sig S3) (E : Sems sig S_) :
    cc0_body (F := F) arg0 harg0 arg1 harg1 arg2 harg2 arg3 harg3 arg4 harg4 arg5 harg5 arg6 harg6 arg7 harg7 arg8 harg8 arg9 harg9
        arg10 harg10 arg11 harg11 arg12 harg12 arg13 harg13 arg14 harg14 arg15 harg15 arg16 arg17 arg18 arg19 arg20 arg21 arg22 arg23 arg24 E
      = Prog.op .deviceId (restP arg0 harg0 arg1 arg2 arg3 arg4 arg5 arg6 arg7 arg8 harg8 arg9 harg9 arg10 arg11 arg12 harg12 arg13 harg13 arg14 harg14
          arg15 harg15 arg16 arg17 arg18 arg19 arg20 arg21 arg22 arg23 arg24 E) := by
  refine Eq.trans (b := Prog.op .deviceId _) rfl ?_
  refine congrArg (Prog.op _) (funext fun d => ?_)
  match d with
  | 0 => show _ = _; chain_rfl
  | 1 => show _ = _; chain_rfl
  | 2 => show _ = _; chain_rfl
  | 3 => show _ = _; chain_rfl

end Cert.KernelIdeal.Ring
-- ==== Proof.KI.Launch.lean ====
module

public import proofs.«01_k».proof.Proof.KI.Cells
public import proofs.«01_k».proof.Proof.KI.BodyEq
public import Idealize.ShloMosaic.Lib.Quiescent
public import Idealize.ShloMosaic.Lib.Pipeline.CollectiveSegs

/-! The run of the whole program on the four devices. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The pipeline's ghost state, inside the whole. -/
abbrev EP : Emb (UR sig nD τ) (MT nD τ sig Unit (Elt F) ℕ UU ℕ) := embL

/-! ### What the body starts from and what it leaves -/

/-- The arrays of a device which no block of is fetched. -/
def rest (c : Dev nD) : sProp 𝕄 := Pipeline.unscopedRest spec0 c fun b => m ((c : Thread nD τ).loc b)

theorem rest_eq (c : Dev nD) : (rest m c : sProp 𝕄) = iprop(own c kaM fullShare (kaV m c) ∗ own c vaM fullShare (vaV m c)) := by
  unfold rest kaV vaV own
  rw [unscopedRest0_eq, owns_whole, owns_whole]

/-- What a device has when the run starts. -/
def start (c : Dev nD) : sProp 𝕄 := iprop(G' m c ∗ creds c ∗ levAts L lv ∗ rest m c)

def Φ₀ (c : Dev nD) : sProp 𝕄 := iprop(start m c ∗ scratch c)

/-- What the body leaves besides the staged blocks. -/
def Φ₁ (c : Dev nD) : sProp 𝕄 := iprop(zeros c ∗ rest m c ∗ scratch c)

def dats (_ : Fin 1) (c : Dev nD) : Dat τ (Elt F) Unit ℕ UU ℕ cfg0 c where
  A w := (⟨m, fun _ => 0, ρ⟩ : MemSt nD τ sig (Elt F)).mem ((cfg0.win w).arr.view.loc (c : Thread nD τ))
  after w _ := match w with
    | ⟨0, _⟩ => xstg m c
    | ⟨1, _⟩ => wqV m c
    | ⟨2, _⟩ => woV m c
    | ⟨3, _⟩ => outV m c
  Φ t := match t with
    | ⟨0, _⟩ => Φ₀ m c
    | ⟨_ + 1, _⟩ => Φ₁ m c
  q _ := fullShare
  owed t := match t with
    | ⟨0, _⟩ => oweR c 16
    | ⟨_ + 1, _⟩ => 0

/-! ### The body -/

theorem fetch_0 : (cfg0.win (0 : Fin 4)).fetch t0_0 = true := rfl
theorem fetch_1 : (cfg0.win (1 : Fin 4)).fetch t0_0 = true := rfl
theorem fetch_2 : (cfg0.win (2 : Fin 4)).fetch t0_0 = true := rfl

theorem before_0 (c : Dev nD) (d) : (dats m ρ 0 c).before (0 : Fin 4) t0_0 d = xstg m c := by unfold Dat.before; rw [if_pos fetch_0]; rfl
theorem before_1 (c : Dev nD) (d) : (dats m ρ 0 c).before (1 : Fin 4) t0_0 d = wqV m c := by unfold Dat.before; rw [if_pos fetch_1]; rfl
theorem before_2 (c : Dev nD) (d) : (dats m ρ 0 c).before (2 : Fin 4) t0_0 d = woV m c := by unfold Dat.before; rw [if_pos fetch_2]; rfl

theorem W_sep (Φ : Fin cfg0.W → sProp 𝕄) :
    bigSep Finset.univ Φ = iprop(Φ (0 : Fin 4) ∗ Φ (1 : Fin 4) ∗ Φ (2 : Fin 4) ∗ Φ (3 : Fin 4)) := bigSep_W0 Φ

set_option maxRecDepth 4000 in
def bodyPre (c : Dev nD) : sProp 𝕄 :=
  iprop(Φ₀ m c ∗ (dats m ρ 0 c).owesAt () t0_0.castSucc
    ∗ (∃ d, own c xM fullShare ((dats m ρ 0 c).before (0 : Fin 4) t0_0 d))
    ∗ (∃ d, own c wqM fullShare ((dats m ρ 0 c).before (1 : Fin 4) t0_0 d))
    ∗ (∃ d, own c woM fullShare ((dats m ρ 0 c).before (2 : Fin 4) t0_0 d))
    ∗ (∃ d, own c oM fullShare ((dats m ρ 0 c).before (3 : Fin 4) t0_0 d)))

set_option maxRecDepth 4000 in
def bodyPost (c : Dev nD) : sProp 𝕄 :=
  iprop(Φ₁ m c ∗ (dats m ρ 0 c).owesAt () t0_0.succ
    ∗ own c xM fullShare (xstg m c) ∗ own c wqM fullShare (wqV m c) ∗ own c woM fullShare (woV m c) ∗ own c oM fullShare (outV m c))

theorem owes_in (c : Dev nD) : (dats m ρ 0 c).owesAt () t0_0.castSucc ⊢ (owesE c (oweR c 16) : sProp 𝕄) := by
  unfold Dat.owesAt Pipeline.owesWithin owesE
  rw [show (dats m ρ 0 c).owed t0_0.castSucc = oweR c 16 from rfl]
  iintro ⟨%W, -, HO⟩
  iexists W; iexact HO

theorem owes_out (c : Dev nD) : (owesE c 0 : sProp 𝕄) ⊢ (dats m ρ 0 c).owesAt () t0_0.succ := by
  unfold Dat.owesAt Pipeline.owesWithin owesE
  rw [show (dats m ρ 0 c).owed t0_0.succ = 0 from rfl]
  iintro ⟨%W, HO⟩
  iexists W
  isplitr; · ipureintro; exact fun _ _ => Or.inl trivial
  iexact HO

set_option maxHeartbeats 1000000 in
theorem sound_body (c : Dev nD) :
    bodyPre m ρ c ⊢ wpb c (cc0_body (F := F) xM (Memref.isWhole_whole _) wqM (Memref.isWhole_whole _) kaM (Memref.isWhole_whole _) vaM (Memref.isWhole_whole _)
      woM (Memref.isWhole_whole _) oM (Memref.isWhole_whole _) kM (Memref.isWhole_whole _) vM (Memref.isWhole_whole _) xTM (Memref.isWhole_whole _)
      xBM (Memref.isWhole_whole _) pTM (Memref.isWhole_whole _) pBM (Memref.isWhole_whole _) sTM (Memref.isWhole_whole _) rTM (Memref.isWhole_whole _)
      sBM (Memref.isWhole_whole _) rBM (Memref.isWhole_whole _) cc0_scratch10 cc0_scratch11 cc0_scratch12 cc0_scratch13 cc0_scratch14 cc0_scratch15
      cc0_scratch16 cc0_scratch17 cc0_scratch18 cc0_scoped0) (fun _ => bodyPost m ρ c) := by
  rw [body_eq]
  show _ ⊢ wp frame (wpE (defs₀ (F := F)) 𝒱₀ (c : Thread nD τ) none) Set.univ (Prog.op .deviceId _) _
  rw [wp_deviceId]
  unfold bodyPre Φ₀ start G'
  iintro ⟨⟨⟨⟨%K, #HR, HD⟩, HC, #HL, HRest⟩, HS⟩, Ho, ⟨%d0, Hx⟩, ⟨%d1, Hwq⟩, ⟨%d2, Hwo⟩, ⟨%d3, Hout⟩⟩
  ihave HO := (owes_in m ρ c) $$ Ho
  ihave HP := (proto_intro c) $$ [HO HD HC]
  · isplitl [HO]; · iexact HO
    isplitl [HD] <;> iassumption
  ihave HRest' := (Entails.of_eq (rest_eq m c)) $$ HRest
  icases HRest' with ⟨Hka, Hva⟩
  iapply (wp_fupd _ _ _ _ _)
  iapply (wp_rest m K c fun _ => iprop(|={Set.univ}=> bodyPost m ρ c)) $$ [HP HS Hx Hwq Hwo Hout Hka Hva]
  · isplitr; · iexact HR
    isplitr; · iexact HL
    isplitl [HP]; · iexact HP
    isplitl [Hx Hwq Hwo Hka Hva]
    · unfold operands
      isplitl [Hx]; · iapply (Entails.of_eq (congrArg (fun X => own c xM fullShare X) (before_0 m ρ c d0))); iexact Hx
      isplitl [Hwq]; · iapply (Entails.of_eq (congrArg (fun X => own c wqM fullShare X) (before_1 m ρ c d1))); iexact Hwq
      isplitl [Hwo]; · iapply (Entails.of_eq (congrArg (fun X => own c woM fullShare X) (before_2 m ρ c d2))); iexact Hwo
      isplitl [Hka]; · iexact Hka
      iexact Hva
    isplitl [HS]; · iexact HS
    iexists _; iexact Hout
  unfold operands
  iintro ⟨HE, ⟨Hx, Hwq, Hwo, Hka, Hva⟩, HS, Hout⟩
  imod (proto_exit m K c) $$ [HE] with ⟨HO, HZ⟩
  · isplitr; · iexact HR
    iexact HE
  imodintro
  unfold bodyPost Φ₁
  isplitl [HZ Hka Hva HS]
  · isplitl [HZ]; · iexact HZ
    isplitl [Hka Hva]
    · iapply (Entails.of_eq (rest_eq m c).symm)
      isplitl [Hka] <;> iassumption
    iexact HS
  isplitl [HO]; · iapply (owes_out m ρ c); iexact HO
  isplitl [Hx]; · iexact Hx
  isplitl [Hwq]; · iexact Hwq
  isplitl [Hwo]; · iexact Hwo
  iexact Hout

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [W_sep, W_sep]
  exact sound_body m ρ c

/-! ### The conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun c => oweR c 16) c ∗ prngReg c (ρ c) ∗ G' m c)
      ⊢ |={Set.univ}=> iprop(start m c ∗ emp) := by
  rw [Pipeline.unscopedRestP_none]
  iintro ⟨HRest, Hlev, Hcr, -, HG⟩
  ihave HC := (creds_intro (F := F) c) $$ Hcr
  imodintro
  unfold start rest
  isplitl
  · isplitl [HG]; · iexact HG
    isplitl [HC]; · iexact HC
    isplitl [Hlev]; · iexact Hlev
    iexact HRest
  · iempintro

theorem any_whole (c : Dev nD) (b : Ref sig .tc) : (iprop(∃ f : Buf (Elt F) ((c : Thread nD τ).loc b), ((c : Thread nD τ).loc b) ↦{fullShare} f) : sProp 𝕄)
    = ownAny c (Memref.whole b) := by
  have h (f : Buf (Elt F) ((c : Thread nD τ).loc b)) : (owns (c : Thread nD τ) (Memref.whole b) fullShare f : sProp 𝕄) = ((c : Thread nD τ).loc b) ↦{fullShare} f :=
    owns_whole (c : Thread nD τ) b fullShare f
  have h₁ : (iprop(∃ f : Buf (Elt F) ((c : Thread nD τ).loc b), ((c : Thread nD τ).loc b) ↦{fullShare} f) : sProp 𝕄) ⊢ ownAny c (Memref.whole b) := by
    iintro ⟨%f, H⟩
    iexists f
    iapply (Entails.of_eq (h f).symm); iexact H
  have h₂ : (ownAny c (Memref.whole b) : sProp 𝕄) ⊢ iprop(∃ f : Buf (Elt F) ((c : Thread nD τ).loc b), ((c : Thread nD τ).loc b) ↦{fullShare} f) := by
    iintro ⟨%f, H⟩
    iexists f
    iapply (Entails.of_eq (h f)); iexact H
  exact equiv_iff.mp ⟨h₁, h₂⟩

theorem scratch_eq (c : Dev nD) : (scratch c : sProp 𝕄) = Pipeline.scopedRest (Ix := Unit) (Name := ℕ) (U := UU) (Lvl := ℕ) (Val := Elt F) spec0 c := by
  rw [scopedRest0_eq]
  unfold scratch
  rw [any_whole, any_whole, any_whole, any_whole, any_whole, any_whole, any_whole, any_whole, any_whole, any_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  rw [scratch_eq]
  iintro ⟨Hs, -, Hr⟩
  isplitl [Hs]; · iexact Hs
  iexact Hr

theorem phi1_exit (c : Dev nD) :
    (dats m ρ 0 c).Φ (Fin.last cfg0.N) ⊢ iprop((unscopedSems0 c ∗ rest m c) ∗ Pipeline.ownSems0 osem c ∗ Pipeline.scopedRest cfg0.spec c) := by
  rw [show (dats m ρ 0 c).Φ (Fin.last cfg0.N) = Φ₁ m c from rfl]
  unfold Φ₁
  rw [scratch_eq, zeros_eq]
  iintro ⟨⟨HU, HO⟩, HRest, HS⟩
  isplitl [HU HRest]
  · isplitl [HU] <;> iassumption
  isplitl [HO]; · iexact HO
  iexact HS

theorem waits (c : Dev nD) : (levAts L lv : sProp 𝕄) ⊢ Pipeline.cellsWaits cfgs (dats m ρ) () 0 c :=
  Pipeline.cellsWaits_intro cfgs (dats m ρ) () 0 c fun w s t => by
    have h0 : ∀ u, lv ((c : Thread nD τ), SemLoc.dma ((cfg0.win w).sem s)) u = 0 := fun u => by
      fin_cases w <;> fin_cases s <;> rfl
    rcases t with ⟨_ | _, ht⟩
    · exact mayWait_at c _ 0 16 h0 (by decide)
    · exact mayWait_at c _ 0 0 h0 (fun i hi => absurd hi (Nat.not_lt_zero i))

/-! ### The run -/

/-- What the run ends in: the arrays that blocks come from or go to as computed, the others unchanged, every counter at zero. -/
def QC : PUnit × MemSt nD τ sig (Elt F) → Prop := fun r =>
  (∀ c : Dev nD, (∀ w : Fin cfg0.W, r.2.mem ((cfg0.win w).arr.view.loc (c : Thread nD τ)) = (dats m ρ 0 c).arrAt w cfg0.N)
    ∧ ∀ b ∈ Pipeline.restRefs sig spec0, r.2.mem ((c : Thread nD τ).loc b) = m ((c : Thread nD τ).loc b)) ∧ r.2.sem = fun _ => 0

set_option maxRecDepth 8000 in
/-- Every fair execution of the program on the four devices ends, and ends so. -/
theorem run_main : θ_run defs (onTc (τ := τ) (main (F := F))) (⟨m, fun _ => 0, ρ⟩ : MemSt nD τ sig (Elt F)) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => oweR c 16) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => iprop(unscopedSems0 c ∗ rest m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ b ∈ Pipeline.restRefs sig spec0, s.mem ((c : Thread nD τ).loc b) = m ((c : Thread nD τ).loc b))
    (hY := fun c s' => by
      unfold rest Pipeline.unscopedRest
      iintro ⟨⟨Hu, HR⟩, -, HSI⟩
      ihave HR' := (pointsTo_read_all (Pipeline.restRefs sig spec0) (fun b => (c.tc : Thread nD τ).loc b) (fun b => m ((c.tc : Thread nD τ).loc b)) s') $$ [HR HSI]
      · isplitl [HR] <;> iassumption
      icases HR' with ⟨%hr, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hr⟩
      iexact HSI)
    (hQ := fun _ h hs => ⟨fun c => ⟨(h c).1, (h c).2.2.2⟩, sem_eq_zero hs fun c => (h c).2.2.1⟩)

end Cert.KernelIdeal.Ring
-- ==== Proof.KI.Frame.lean ====
module

public import proofs.«01_k».proof.Proof.KI.Launch

/-! The arguments are unchanged by the run. -/

@[expose] public section

set_option synthInstance.maxSize 4096

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem arrAt_0 (c : Dev nD) : (dats m ρ 0 c).arrAt (0 : Fin 4) cfg0.N = m ((c : Thread nD τ).loc main_arg0) := (dats m ρ 0 c).arrAt_in (0 : Fin 4) rfl _
theorem arrAt_1 (c : Dev nD) : (dats m ρ 0 c).arrAt (1 : Fin 4) cfg0.N = m ((c : Thread nD τ).loc main_arg1) := (dats m ρ 0 c).arrAt_in (1 : Fin 4) rfl _
theorem arrAt_2 (c : Dev nD) : (dats m ρ 0 c).arrAt (2 : Fin 4) cfg0.N = m ((c : Thread nD τ).loc main_arg4) := (dats m ρ 0 c).arrAt_in (2 : Fin 4) rfl _

/-- The arguments of a device after the run. -/
theorem args_of {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.1 c).1 (0 : Fin 4)).trans (arrAt_0 m ρ c), ((h.1 c).1 (1 : Fin 4)).trans (arrAt_1 m ρ c),
    (h.1 c).2 main_arg2 (Pipeline.mem_restRefs_of main_arg2 (by decide) (by decide)),
    (h.1 c).2 main_arg3 (Pipeline.mem_restRefs_of main_arg3 (by decide) (by decide)),
    ((h.1 c).1 (2 : Fin 4)).trans (arrAt_2 m ρ c)⟩

/-- The run ends with the arguments unchanged and every counter at zero. -/
theorem frame_run : θ_run defs (onTc (τ := τ) (main (F := F))) (⟨m, fun _ => 0, ρ⟩ : MemSt nD τ sig (Elt F))
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨args_of m ρ h, h.2⟩) (run_main m ρ)

end Cert.KernelIdeal.Ring
-- ==== Proof.V.Math.lean ====
module

public import Idealize.ShloMosaic.Lib.Pointwise

/-! Sums, a softmax whose scores are not shifted by their maximum, and a softmax over the keys of a window. -/

@[expose] public section

noncomputable section

namespace Cert.Attn

open Idealize.ShloMosaic

/-- A nonnegative real factor may be taken out of a sum of extended reals. -/
theorem sum_mul_real {ι : Type} (S : Finset ι) (f : ι → EReal) {c : ℝ} (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha, ← ih, EReal.right_distrib_of_nonneg_of_ne_top (EReal.coe_nonneg.mpr hc) (EReal.coe_ne_top c)]

/-- A sum of reals is real. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The exponential of a masked score. -/
def expR (b : Prop) [Decidable b] (s : ℝ) : ℝ := if b then Real.exp s else 0

theorem exp_masked (b : Prop) [Decidable b] (s : ℝ) : Ideal.exp (if b then (s : EReal) else ⊥) = (expR b s : EReal) := by
  unfold expR; split
  · rfl
  · exact EReal.coe_zero.symm

theorem exp_masked_sub (b : Prop) [Decidable b] (s M : ℝ) :
    Ideal.exp ((if b then (s : EReal) else ⊥) - (M : EReal)) = ((expR b s * Real.exp (-M) : ℝ) : EReal) := by
  unfold expR
  split
  · rw [← EReal.coe_sub]
    show ((Real.exp (s - M) : ℝ) : EReal) = _
    rw [← Real.exp_add, sub_eq_add_neg]
  · rw [EReal.bot_sub, zero_mul]; exact EReal.coe_zero.symm

theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The greatest of the masked scores is real, when some score is not masked. -/
theorem max_real {n : ℕ} (b : Fin n → Prop) [DecidablePred b] (s : Fin n → ℝ) (hb : ∃ j, b j) :
    ∃ M : ℝ, Finset.fold max (⊥ : EReal) (fun j => if b j then (s j : EReal) else ⊥) Finset.univ = (M : EReal) := by
  obtain ⟨j, hj⟩ := hb
  have h₁ : (s j : EReal) ≤ Finset.fold max (⊥ : EReal) (fun j => if b j then (s j : EReal) else ⊥) Finset.univ :=
    (Finset.le_fold_max _).mpr (Or.inr ⟨j, Finset.mem_univ _, by rw [if_pos hj]⟩)
  have h₂ : Finset.fold max (⊥ : EReal) (fun j => if b j then (s j : EReal) else ⊥) Finset.univ < ⊤ :=
    (Finset.fold_max_lt _).mpr ⟨bot_lt_top, fun k _ => by split <;> simp [EReal.coe_lt_top]⟩
  refine ⟨(Finset.fold max (⊥ : EReal) (fun j => if b j then (s j : EReal) else ⊥) Finset.univ).toReal, (EReal.coe_toReal h₂.ne ?_).symm⟩
  exact ne_of_gt (lt_of_lt_of_le (EReal.bot_lt_coe _) h₁)

/-- The weights of a masked softmax, shifted by the greatest score and divided by their sum before they
multiply the values, give what the weights give unshifted and divided afterwards. The values are any. -/
theorem softmax_eq {n : ℕ} (b : Fin n → Prop) [DecidablePred b] (s : Fin n → ℝ) (v : Fin n → EReal) (hb : ∃ j, b j) :
    ∑ j, v j * Ideal.div
        (Ideal.exp ((if b j then (s j : EReal) else ⊥) - Finset.fold max (⊥ : EReal) (fun j => if b j then (s j : EReal) else ⊥) Finset.univ))
        (∑ k, Ideal.exp ((if b k then (s k : EReal) else ⊥) - Finset.fold max (⊥ : EReal) (fun j => if b j then (s j : EReal) else ⊥) Finset.univ))
      = (∑ j, Ideal.exp (if b j then (s j : EReal) else ⊥) * v j) * Ideal.div 1 (∑ j, Ideal.exp (if b j then (s j : EReal) else ⊥)) := by
  obtain ⟨M, hM⟩ := max_real b s hb
  obtain ⟨i, hi⟩ := hb
  have hpos : 0 < ∑ j, expR (b j) (s j) := by
    refine Finset.sum_pos' (fun j _ => ?_) ⟨i, Finset.mem_univ _, ?_⟩
    · unfold expR; split <;> positivity
    · unfold expR; rw [if_pos hi]; positivity
  simp only [hM, exp_masked, exp_masked_sub, ← coe_sum]
  rw [← Finset.sum_mul, show (1 : EReal) = ((1 : ℝ) : EReal) from rfl, div_real _ _ hpos.ne',
    sum_mul_real _ _ (by positivity)]
  refine Finset.sum_congr rfl fun j _ => ?_
  rw [div_real _ _ (mul_pos hpos (Real.exp_pos _)).ne', mul_div_mul_right _ _ (Real.exp_pos _).ne', div_eq_mul_inv, EReal.coe_mul,
    one_div, mul_comm, mul_assoc, mul_comm _ (v j), ← mul_assoc]

/-- A sum over the keys is a sum over a window and, where the window starts after the first 128 keys, the
first 32, when every other term is nothing. -/
theorem sum_window (f : ℕ → EReal) (st : ℕ) (hst : st + 384 ≤ 4096) (h0 : st = 0 ∨ 128 ≤ st)
    (hf : ∀ j, 32 ≤ j → (j < st ∨ st + 384 ≤ j) → f j = 0) :
    ∑ j : Fin 4096, f j.val = ∑ x : Fin 384, f (st + x.val) + ∑ x : Fin 128, (if x.val < 32 ∧ 0 < st then f x.val else 0) := by
  rw [Finset.sum_range (fun j => f j) |>.symm, Finset.sum_range (fun x => f (st + x)) |>.symm,
    Finset.sum_range (fun x => if x < 32 ∧ 0 < st then f x else 0) |>.symm]
  have hI : ∑ x ∈ Finset.range 384, f (st + x) = ∑ x ∈ Finset.Ico st (st + 384), f x := by
    rw [Finset.sum_Ico_eq_sum_range]; simp
  rw [hI]
  rcases h0 with rfl | h0
  · have : ∑ x ∈ Finset.range 128, (if x < 32 ∧ 0 < 0 then f x else 0) = 0 := by simp
    rw [this, add_zero]
    refine (Finset.sum_subset (fun x hx => ?_) fun x hx hx' => ?_).symm
    · simp only [Finset.mem_Ico, Finset.mem_range] at *; omega
    · simp only [Finset.mem_Ico, Finset.mem_range] at *; exact hf x (by omega) (by omega)
  · have h₁ : ∑ x ∈ Finset.range 128, (if x < 32 ∧ 0 < st then f x else 0) = ∑ x ∈ Finset.range 32, f x := by
      rw [← Finset.sum_filter]
      refine Finset.sum_congr (Finset.ext fun x => ?_) fun _ _ => rfl
      simp only [Finset.mem_filter, Finset.mem_range]; omega
    rw [h₁, ← Finset.sum_union (Finset.disjoint_left.mpr fun x hx hx' => by simp only [Finset.mem_Ico, Finset.mem_range] at *; omega)]
    refine (Finset.sum_subset (fun x hx => ?_) fun x hx hx' => ?_).symm
    · simp only [Finset.mem_union, Finset.mem_Ico, Finset.mem_range] at *; omega
    · simp only [Finset.mem_union, Finset.mem_Ico, Finset.mem_range] at *; exact hf x (by omega) (by omega)

/-- The same of terms which only the keys have. -/
theorem sum_window_fin (f : Fin 4096 → EReal) (st : ℕ) (hst : st + 384 ≤ 4096) (h0 : st = 0 ∨ 128 ≤ st)
    (hf : ∀ j : Fin 4096, 32 ≤ j.val → (j.val < st ∨ st + 384 ≤ j.val) → f j = 0) :
    ∑ j : Fin 4096, f j = ∑ x : Fin 384, f ⟨st + x.val, by omega⟩
      + ∑ x : Fin 128, (if x.val < 32 ∧ 0 < st then f ⟨x.val, by omega⟩ else 0) := by
  have e := sum_window (fun j => if h : j < 4096 then f ⟨j, h⟩ else 0) st hst h0 (fun j hj hj' => by
    by_cases h : j < 4096
    · simpa [h] using hf ⟨j, h⟩ hj hj'
    · simp [h])
  refine Eq.trans ?_ (e.trans ?_)
  · exact Finset.sum_congr rfl fun j _ => by simp [j.isLt]
  · congr 1
    exact Finset.sum_congr rfl fun x _ => by rw [dif_pos]

/-- A softmax of scores that are not shifted: the weights, and what they weigh. -/
def attn (E v : Fin 4096 → EReal) : EReal := (∑ j, E j * v j) * Ideal.div 1 (∑ j, E j)

end Cert.Attn
-- ==== Proof.V.Mask.lean ====
module

public import Idealize.ShloMosaic.Lib.Pointwise

/-! Which keys a row sees, and the words that say it. -/

@[expose] public section

noncomputable section

namespace Cert.Attn

open Idealize.ShloMosaic

/-- Row `i` sees key `j`. -/
def vis (i j : ℕ) : Prop := ((i ≤ j + 128 ∧ j ≤ i + 128) ∨ j < 32) ∨ i < 32

instance (i j : ℕ) : Decidable (vis i j) := by unfold vis; infer_instance

/-- A row and a key are within 128 of each other. -/
theorem near_word (i j : ℕ) (hi : i < 8192) (hj : j < 8192) :
    IntOp.cmpi .sle (IntOp.absi (IntOp.subi (BitVec.ofNat 32 i) (BitVec.ofNat 32 j))) 128#32
      = BitVec.ofBool (decide (i ≤ j + 128 ∧ j ≤ i + 128)) := by
  have h1 : (BitVec.ofNat 32 i).toNat = i := by rw [BitVec.toNat_ofNat]; exact Nat.mod_eq_of_lt (by omega)
  have h2 : (BitVec.ofNat 32 j).toNat = j := by rw [BitVec.toNat_ofNat]; exact Nat.mod_eq_of_lt (by omega)
  refine congrArg BitVec.ofBool ?_
  show BitVec.sle (if (BitVec.ofNat 32 i - BitVec.ofNat 32 j).msb then -(BitVec.ofNat 32 i - BitVec.ofNat 32 j) else BitVec.ofNat 32 i - BitVec.ofNat 32 j) 128#32 = _
  rw [Bool.eq_iff_iff, BitVec.sle_iff_toInt_le, decide_eq_true_iff]
  split <;> rename_i h <;> rw [BitVec.msb_eq_decide, decide_eq_true_iff] at h <;> rw [BitVec.toInt_eq_toNat_cond] <;> simp only [BitVec.toNat_neg, BitVec.toNat_sub, h1, h2] at h ⊢ <;>
    simp only [show BitVec.toInt 128#32 = 128 from rfl] <;> omega

theorem lt_word (j : ℕ) (hj : j < 8192) : IntOp.cmpi .slt (BitVec.ofNat 32 j) 32#32 = BitVec.ofBool (decide (j < 32)) := by
  refine congrArg BitVec.ofBool ?_
  show BitVec.slt (BitVec.ofNat 32 j) 32#32 = _
  rw [Bool.eq_iff_iff, BitVec.slt_iff_toInt_lt, decide_eq_true_iff, BitVec.toInt_eq_toNat_cond, BitVec.toNat_ofNat, Nat.mod_eq_of_lt (by omega),
    show BitVec.toInt 32#32 = 32 from rfl]
  omega

theorem pos_word (j : ℕ) (hj : j < 8192) : IntOp.cmpi .sgt (BitVec.ofNat 32 j) 0#32 = BitVec.ofBool (decide (0 < j)) := by
  refine congrArg BitVec.ofBool ?_
  show BitVec.slt 0#32 (BitVec.ofNat 32 j) = _
  rw [Bool.eq_iff_iff, BitVec.slt_iff_toInt_lt, decide_eq_true_iff, BitVec.toInt_eq_toNat_cond (BitVec.ofNat 32 j), BitVec.toNat_ofNat,
    Nat.mod_eq_of_lt (by omega), show BitVec.toInt 0#32 = 0 from rfl]
  omega

/-- The disjunction of two bits. -/
theorem ori_ofBool (p q : Prop) [Decidable p] [Decidable q] :
    IntOp.ori (BitVec.ofBool (decide p)) (BitVec.ofBool (decide q)) = BitVec.ofBool (decide (p ∨ q)) := by
  by_cases p <;> by_cases q <;> simp_all [IntOp.ori]

/-- The conjunction of two bits. -/
theorem andi_ofBool (p q : Prop) [Decidable p] [Decidable q] :
    IntOp.andi (BitVec.ofBool (decide p)) (BitVec.ofBool (decide q)) = BitVec.ofBool (decide (p ∧ q)) := by
  by_cases p <;> by_cases q <;> simp_all [IntOp.andi]

theorem select_ofBool {α : Type} (p : Prop) [Decidable p] (x y : α) : Scalar.select (BitVec.ofBool (decide p)) x y = if p then x else y := by
  by_cases h : p <;> simp [Scalar.select, h]

end Cert.Attn
-- ==== Proof.V.Half.lean ====
module

public import proofs.«01_k».proof.Proof.KI.Vals
public import proofs.«01_k».proof.Proof.V.Math
public import proofs.«01_k».proof.Proof.V.Mask

/-! A device's share of a half block's output, entry by entry: over its window, and over every key, it is the
same sum. -/

@[expose] public section

noncomputable section

namespace Cert.Attn

open Idealize.ShloMosaic Cert.KernelIdeal Cert.KernelIdeal.Ring

set_option maxRecDepth 16384

/-! ### The pieces at an entry -/

theorem qmOf_apply (x : FVec Ideal S128x1024 .bf16) (wq : Vec Ideal S1024x1024 .bf16) (r : Fin 128) (c : Fin 1024) :
    qmOf (F := Ideal) x wq (ix2 r c)
      = ∑ k : Fin 1024, x (ix2 r k) * (wq (ix2 k c) * Ideal.ofBits .f32 0x3DB504F3#32) := by
  pointwise [qmOf]

theorem mask_apply (B st : ℕ) (r : Fin 128) (k : Fin 512) (hB : B ≤ 2048) (hst : st ≤ 4096) :
    maskOf (BitVec.ofNat 32 B) (BitVec.ofNat 32 st) (ix2 r k)
      = if k.val < 384 then BitVec.ofBool (decide ((B + r.val ≤ st + k.val + 128 ∧ st + k.val ≤ B + r.val + 128) ∨ st + k.val < 32))
        else BitVec.ofBool (decide (k.val - 384 < 32 ∧ 0 < st)) := by
  pointwise [maskOf]
  have hr := r.isLt
  have hk := k.isLt
  have e1 : IntOp.addi (BitVec.ofNat 32 B) (BitVec.ofNat 32 r.val) = BitVec.ofNat 32 (B + r.val) := (BitVec.ofNat_add B r.val).symm
  have e2 : IntOp.addi (BitVec.ofNat 32 st) (BitVec.ofNat 32 k.val) = BitVec.ofNat 32 (st + k.val) := (BitVec.ofNat_add st k.val).symm
  by_cases h : k.val < 384
  · rw [dif_pos h, if_pos h, e1, e2, near_word _ _ (by omega) (by omega), lt_word _ (by omega), ori_ofBool]
  · rw [dif_neg h, if_neg h, lt_word _ (by omega)]
    refine (congrArg _ (pos_word st (by omega))).trans ?_
    rw [andi_ofBool]

theorem expOf_apply (qm : FVec Ideal S128x1024 .bf16) (mask : IVec S128x512 1) (h : Fin 8) (kw : Vec Ideal S1x384x128 .f32)
    (kg : Vec Ideal S1x128x128 .f32) (r : Fin 128) (k : Fin 512) :
    expOf (F := Ideal) qm mask h kw kg (ix2 r k)
      = Ideal.exp (Scalar.select (mask (ix2 r k))
          (∑ x : Fin 128, qm (ix2 r ⟨128 * h.val + x.val, by omega⟩)
            * if h : k.val < 384 then kw (ix3 0 ⟨k.val, h⟩ x) else kg (ix3 0 ⟨k.val - 384, by omega⟩ x))
          (Named.named κ "mask" 0xCE6E6B28#32 : Ideal .f32)) := by
  pointwise [expOf, catOf, negC]

theorem headOut_apply (qm : FVec Ideal S128x1024 .bf16) (mask : IVec S128x512 1) (h : Fin 8) (kw : Vec Ideal S1x384x128 .f32)
    (kg : Vec Ideal S1x128x128 .f32) (vw : Vec Ideal S1x384x128 .f32) (vg : Vec Ideal S1x128x128 .f32) (r d : Fin 128) :
    headOut (F := Ideal) qm mask h kw kg vw vg (ix2 r d)
      = (∑ x : Fin 384, expOf (F := Ideal) qm mask h kw kg (ix2 r ⟨x.val, by omega⟩) * vw (ix3 0 x d)
          + ∑ x : Fin 128, expOf (F := Ideal) qm mask h kw kg (ix2 r ⟨384 + x.val, by omega⟩) * vg (ix3 0 x d))
        * Ideal.div 1 (∑ x : Fin 512, expOf (F := Ideal) qm mask h kw kg (ix2 r x)) := by
  pointwise [headOut, catOf]

theorem expAll_apply (qm : FVec Ideal S128x1024 .bf16) (h : Fin 8) (k : Vec Ideal S1x4096x128 .f32) (r : Fin 32) (j : Fin 4096) :
    expAll (F := Ideal) qm h k (ix2 r j)
      = Ideal.exp (∑ x : Fin 128, qm (ix2 ⟨r.val, by omega⟩ ⟨128 * h.val + x.val, by omega⟩) * k (ix3 0 j x)) := by
  pointwise [expAll]

theorem headAll_apply (qm : FVec Ideal S128x1024 .bf16) (h : Fin 8) (k v : Vec Ideal S1x4096x128 .f32) (r : Fin 32) (d : Fin 128) :
    headAll (F := Ideal) qm h k v (ix2 r d)
      = (∑ x : Fin 4096, expAll (F := Ideal) qm h k (ix2 r x) * v (ix3 0 x d)) * Ideal.div 1 (∑ x : Fin 4096, expAll (F := Ideal) qm h k (ix2 r x)) := by
  pointwise [headAll]

/-- Eight pieces of 128 columns side by side. -/
theorem pieces (p : Fin 8 → Fin 128 → EReal) (x : Fin 1024) :
    (if h : x.val < 128 then p 0 ⟨x.val, h⟩ else if h : x.val - 128 < 128 then p 1 ⟨x.val - 128, h⟩
      else if h : x.val - 128 - 128 < 128 then p 2 ⟨x.val - 128 - 128, h⟩
      else if h : x.val - 128 - 128 - 128 < 128 then p 3 ⟨x.val - 128 - 128 - 128, h⟩
      else if h : x.val - 128 - 128 - 128 - 128 < 128 then p 4 ⟨x.val - 128 - 128 - 128 - 128, h⟩
      else if h : x.val - 128 - 128 - 128 - 128 - 128 < 128 then p 5 ⟨x.val - 128 - 128 - 128 - 128 - 128, h⟩
      else if h : x.val - 128 - 128 - 128 - 128 - 128 - 128 < 128 then p 6 ⟨x.val - 128 - 128 - 128 - 128 - 128 - 128, h⟩
      else p 7 ⟨x.val - 128 - 128 - 128 - 128 - 128 - 128 - 128, by omega⟩)
      = p ⟨x.val / 128, by omega⟩ ⟨x.val % 128, by omega⟩ := by
  have hx := x.isLt
  split_ifs <;> exact congrArg₂ p (Fin.ext (by simp; omega)) (Fin.ext (by simp; omega))

theorem outOf_apply (p : Fin 8 → FVec Ideal S128x128 .f32) (wo : Vec Ideal S1024x1024 .bf16) (r : Fin 128) (n : Fin 1024) :
    outOf (F := Ideal) p wo (ix2 r n)
      = ∑ x : Fin 1024, p ⟨x.val / 128, by omega⟩ (ix2 r ⟨x.val % 128, by omega⟩) * wo (ix2 x n) := by
  pointwise [outOf]
  exact Finset.sum_congr rfl fun x _ => congrArg (· * _) (pieces (fun h d => p h (ix2 r d)) x)

theorem outAll_apply (p : Fin 8 → FVec Ideal S32x128 .f32) (wo : Vec Ideal S1024x1024 .bf16) (r : Fin 32) (n : Fin 1024) :
    outAll (F := Ideal) p wo (ix2 r n)
      = ∑ x : Fin 1024, p ⟨x.val / 128, by omega⟩ (ix2 r ⟨x.val % 128, by omega⟩) * wo (ix2 x n) := by
  pointwise [outAll]
  exact Finset.sum_congr rfl fun x _ => congrArg (· * _) (pieces (fun h d => p h (ix2 r d)) x)

theorem winOf_apply (X : Vec Ideal S8x4096x128 .f32) (off : Fin 8 → Fin 3 → ℕ) (hoff : ∀ h a, off h a + S1x384x128.size a ≤ S8x4096x128.size a)
    (h : Fin 8) (st : ℕ) (hst : st + 384 ≤ 4096) (e : off h = ![h.val, st, 0]) (x : Fin 384) (d : Fin 128) :
    winOf (F := Ideal) X off hoff h (ix3 0 x d) = X (ix3 h ⟨st + x.val, by omega⟩ d) := by
  unfold winOf
  refine congrArg X (funext fun a => Fin.ext ?_)
  rw [Idealize.ShloMosaic.ValueKit.rect_emb_unit_val]
  refine (congrArg (· + _) (congrFun e a)).trans ?_
  fin_cases a <;> simp

theorem firstOf_apply (X : Vec Ideal S8x4096x128 .f32) (h : Fin 8) (x d : Fin 128) :
    firstOf (F := Ideal) X h (ix3 0 x d) = X (ix3 h ⟨x.val, by omega⟩ d) := by
  unfold firstOf
  refine congrArg X (funext fun a => Fin.ext ?_)
  rw [Idealize.ShloMosaic.ValueKit.rect_emb_unit_val]
  fin_cases a <;> simp

theorem everyOf_apply (X : Vec Ideal S8x4096x128 .f32) (h : Fin 8) (x : Fin 4096) (d : Fin 128) :
    everyOf (F := Ideal) X h (ix3 0 x d) = X (ix3 h x d) := by
  unfold everyOf
  refine congrArg X (funext fun a => Fin.ext ?_)
  rw [Idealize.ShloMosaic.ValueKit.rect_emb_unit_val]
  fin_cases a <;> simp

/-! ### A half block -/

/-- The weight of key `j` in head `h` of row `r` of the half block whose first row is `B`. -/
def wt (qm : FVec Ideal S128x1024 .bf16) (k : Vec Ideal S8x4096x128 .f32) (B : ℕ) (r : Fin 128) (h : Fin 8) (j : Fin 4096) : EReal :=
  Ideal.exp (if vis (B + r.val) j.val then ∑ x : Fin 128, (qm (ix2 r ⟨128 * h.val + x.val, by omega⟩) * k (ix3 h j x) : EReal) else ⊥)

/-- An entry of what a device adds to the output of that half block. -/
def share (qm : FVec Ideal S128x1024 .bf16) (k v : Vec Ideal S8x4096x128 .f32) (wo : Vec Ideal S1024x1024 .bf16) (B : ℕ) (r : Fin 128)
    (n : Fin 1024) : EReal :=
  ∑ x : Fin 1024, attn (wt qm k B r ⟨x.val / 128, by omega⟩) (fun j => v (ix3 ⟨x.val / 128, by omega⟩ j ⟨x.val % 128, by omega⟩)) * wo (ix2 x n)

theorem named_mask : (Named.named κ "mask" 0xCE6E6B28#32 : Ideal .f32) = (⊥ : EReal) := rfl

theorem exp_bot : Ideal.exp (⊥ : EReal) = 0 := rfl

theorem wt_hidden (qm : FVec Ideal S128x1024 .bf16) (k : Vec Ideal S8x4096x128 .f32) (B : ℕ) (r : Fin 128) (h : Fin 8) (j : Fin 4096)
    (hv : ¬ vis (B + r.val) j.val) : wt qm k B r h j = 0 := by
  unfold wt; rw [if_neg hv]; rfl

section Window

variable (qm : FVec Ideal S128x1024 .bf16) (k v : Vec Ideal S8x4096x128 .f32) (off : Fin 8 → Fin 3 → ℕ)
  (hoff : ∀ h a, off h a + S1x384x128.size a ≤ S8x4096x128.size a) (B st : ℕ) (hst : st = B - 128) (hB : B = 0 ∨ B = 128 ∨ 256 ≤ B) (hB' : B ≤ 896)
  (hso : ∀ h, off h = ![h.val, st, 0]) (h : Fin 8) (r : Fin 128) (hr : 32 ≤ B + r.val)

include hst hB hB' hso hr

theorem expOf_window (x : Fin 384) :
    expOf (F := Ideal) qm (maskOf (BitVec.ofNat 32 B) (BitVec.ofNat 32 st)) h (winOf k off hoff h) (firstOf k h) (ix2 r ⟨x.val, by omega⟩)
      = wt qm k B r h ⟨st + x.val, by omega⟩ := by
  have hx := x.isLt
  rw [expOf_apply, mask_apply B st r _ (by omega) (by omega), if_pos x.isLt, select_ofBool, named_mask]
  unfold wt
  refine congrArg Ideal.exp (if_congr (by unfold vis; dsimp only; omega) ?_ rfl)
  refine Finset.sum_congr rfl fun d _ => ?_
  rw [dif_pos x.isLt, winOf_apply k off hoff h st (by omega) (hso h)]

theorem expOf_first (x : Fin 128) :
    expOf (F := Ideal) qm (maskOf (BitVec.ofNat 32 B) (BitVec.ofNat 32 st)) h (winOf k off hoff h) (firstOf k h) (ix2 r ⟨384 + x.val, by omega⟩)
      = if x.val < 32 ∧ 0 < st then wt qm k B r h ⟨x.val, by omega⟩ else 0 := by
  have hx := x.isLt
  rw [expOf_apply, mask_apply B st r _ (by omega) (by omega), if_neg (by simp), select_ofBool, named_mask]
  have e : 384 + x.val - 384 = x.val := by omega
  simp only [e]
  by_cases hc : x.val < 32 ∧ 0 < st
  · rw [if_pos hc, if_pos hc]
    unfold wt
    rw [if_pos (by unfold vis; dsimp only; omega)]
    refine congrArg Ideal.exp (Finset.sum_congr rfl fun d _ => ?_)
    rw [dif_neg (by simp), firstOf_apply]
  · rw [if_neg hc, if_neg hc]; rfl

theorem headOut_eq (d : Fin 128) :
    headOut (F := Ideal) qm (maskOf (BitVec.ofNat 32 B) (BitVec.ofNat 32 st)) h (winOf k off hoff h) (firstOf k h) (winOf v off hoff h) (firstOf v h)
        (ix2 r d)
      = attn (wt qm k B r h) (fun j => v (ix3 h j d)) := by
  have hh : ∀ j : Fin 4096, 32 ≤ j.val → (j.val < st ∨ st + 384 ≤ j.val) → wt qm k B r h j = 0 := fun j hj hj' =>
    wt_hidden qm k B r h j (by unfold vis; have := r.isLt; omega)
  rw [headOut_apply]
  unfold attn
  have h512 : ∀ f : Fin 512 → EReal, ∑ x, f x = ∑ x : Fin 384, f ⟨x.val, by omega⟩ + ∑ x : Fin 128, f ⟨384 + x.val, by omega⟩ := fun f => by
    exact Fin.sum_univ_add (a := 384) (b := 128) f
  rw [h512, sum_window_fin _ st (by omega) (by omega) hh,
    sum_window_fin (fun j => wt qm k B r h j * v (ix3 h j d)) st (by omega) (by omega) (fun j hj hj' => by rw [hh j hj hj', zero_mul])]
  simp only [expOf_window qm k off hoff B st hst hB hB' hso h r hr, expOf_first qm k off hoff B st hst hB hB' hso h r hr,
    winOf_apply v off hoff h st (show st + 384 ≤ 4096 by omega) (hso h), firstOf_apply, ite_mul, zero_mul]

theorem halfV_eq (wo : Vec Ideal S1024x1024 .bf16) (n : Fin 1024) :
    halfV (F := Ideal) qm (maskOf (BitVec.ofNat 32 B) (BitVec.ofNat 32 st)) off hoff k v wo (ix2 r n) = share qm k v wo B r n := by
  unfold halfV share
  rw [outOf_apply]
  refine Finset.sum_congr rfl fun x _ => congrArg (· * _) ?_
  exact headOut_eq qm k v off hoff B st hst hB hB' hso _ r hr _

end Window

/-- The first 32 rows, over every key. -/
theorem fullV_eq (qm : FVec Ideal S128x1024 .bf16) (k v : Vec Ideal S8x4096x128 .f32) (wo : Vec Ideal S1024x1024 .bf16) (r : Fin 32)
    (n : Fin 1024) : fullV (F := Ideal) qm k v wo (ix2 r n) = share qm k v wo 0 ⟨r.val, by omega⟩ n := by
  unfold fullV share
  rw [outAll_apply]
  refine Finset.sum_congr rfl fun x _ => congrArg (· * _) ?_
  have e : ∀ j, expAll (F := Ideal) qm ⟨x.val / 128, by omega⟩ (everyOf k ⟨x.val / 128, by omega⟩) (ix2 r j)
      = wt qm k 0 ⟨r.val, by omega⟩ ⟨x.val / 128, by omega⟩ j := fun j => by
    rw [expAll_apply]
    unfold wt
    rw [if_pos (by unfold vis; have := r.isLt; dsimp only; omega)]
    refine congrArg Ideal.exp (Finset.sum_congr rfl fun d _ => ?_)
    rw [everyOf_apply]
  rw [headAll_apply]
  simp only [e, everyOf_apply]
  rfl

/-- A half block whose first 32 rows, in the first block, go over every key. -/
theorem fullIfV_eq (q : BitVec 32) (qm : FVec Ideal S128x1024 .bf16) (k v : Vec Ideal S8x4096x128 .f32) (wo : Vec Ideal S1024x1024 .bf16)
    (off : Fin 8 → Fin 3 → ℕ) (hoff : ∀ h a, off h a + S1x384x128.size a ≤ S8x4096x128.size a) (b : Fin 4) (hq : q = BitVec.ofNat 32 b.val)
    (st : ℕ) (hst : st = 256 * b.val - 128) (hso : ∀ h, off h = ![h.val, st, 0]) (r : Fin 128) (n : Fin 1024) :
    fullIfV (F := Ideal) q qm k v wo (halfV qm (maskOf (BitVec.ofNat 32 (256 * b.val)) (BitVec.ofNat 32 st)) off hoff k v wo) (ix2 r n)
      = share qm k v wo (256 * b.val) r n := by
  have hb := b.isLt
  have hc : ∀ b : Fin 4, (Scalar.cmpi .ne (Scalar.extui (Scalar.cmpi .eq (BitVec.ofNat 32 b.val) 0#32) : BitVec 32) 0#32 = 1#1) ↔ b.val = 0 := by decide
  unfold fullIfV
  rw [hq]
  by_cases h0 : b.val = 0
  · rw [if_pos ((hc b).mpr h0)]
    unfold over32
    by_cases hr : r.val < 32
    · rw [dif_pos (show (ix2 r n 0).val < 32 from hr)]
      refine Eq.trans (congrArg _ ?_) ((fullV_eq qm k v wo ⟨r.val, hr⟩ n).trans (by simp only [h0]))
      funext a; fin_cases a <;> rfl
    · rw [dif_neg (show ¬ (ix2 r n 0).val < 32 from hr)]
      exact halfV_eq qm k v off hoff _ st hst (by omega) (by omega) hso r (by omega) wo n
  · rw [if_neg (fun h => h0 ((hc b).mp h))]
    exact halfV_eq qm k v off hoff _ st hst (by omega) (by omega) hso r (by omega) wo n

end Cert.Attn
-- ==== Proof.V.Ref.lean ====
module

public import proofs.«01_k».proof.Proof.Gen.ReferenceIdeal.Run
public import proofs.«01_k».proof.Proof.V.Math
public import proofs.«01_k».proof.Proof.V.Mask
public import Idealize.ShloMosaic.Lib.Tactic.CleanTypes
public import Idealize.ShloMosaic.Lib.Routing.OpsOrder

/-! The reference's result, entry by entry, when the rows, the query weights and the keys are finite. -/

@[expose] public section

noncomputable section

namespace Cert.Attn

open Idealize.ShloMosaic

/-- What scales the queries. -/
def scl : EReal := Ideal.ofBits .f32 0x3DB504F3#32

abbrev Rows : Shape := ⟨2, ![1024, 1024]⟩
abbrev Qws : Shape := ⟨2, ![1024, 4096]⟩
abbrev Kvs : Shape := ⟨4, ![1, 4096, 32, 128]⟩
abbrev Ows : Shape := ⟨2, ![4096, 1024]⟩

section Whole

variable (A0 : Rows.Idx → EReal) (A1 : Qws.Idx → EReal) (A2 A3 : Kvs.Idx → EReal) (A4 : Ows.Idx → EReal)

/-- The score of key `j` for row `i` in head `h`, with the query weights scaled. -/
def score (i : Fin 1024) (h : Fin 32) (j : Fin 4096) : EReal :=
  ∑ d : Fin 128, (∑ k : Fin 1024, A0 (ix2 i k) * (A1 (ix2 k ⟨128 * h.val + d.val, by omega⟩) * scl)) * A2 (ix4 0 j h d)

/-- The weight of that key. -/
def wtR (i : Fin 1024) (h : Fin 32) (j : Fin 4096) : EReal := Ideal.exp (if vis i.val j.val then score A0 A1 A2 i h j else ⊥)

/-- The result. -/
def result (i n : Fin 1024) : EReal :=
  ∑ x : Fin 4096, attn (wtR A0 A1 A2 i ⟨x.val / 128, by omega⟩) (fun j => A3 (ix4 0 j ⟨x.val / 128, by omega⟩ ⟨x.val % 128, by omega⟩)) * A4 (ix2 x n)

/-- The score with the products scaled instead. -/
def scoreR (i : Fin 1024) (h : Fin 32) (j : Fin 4096) : EReal :=
  (∑ d : Fin 128, (∑ k : Fin 1024, A0 (ix2 i k) * A1 (ix2 k ⟨128 * h.val + d.val, by omega⟩)) * A2 (ix4 0 j h d)) * scl

end Whole

theorem scl_real : ∃ r : ℝ, scl = (r : EReal) := by
  unfold scl
  show ∃ r : ℝ, Ideal.ieee 8 23 0x3DB504F3#32 = (r : EReal)
  unfold Ideal.ieee
  dsimp only
  rw [if_neg (by decide), if_neg (by decide)]
  exact ⟨_, rfl⟩

theorem bot_word : Ideal.ofBits .f32 0xFF800000#32 = (⊥ : EReal) := by
  show Ideal.ieee 8 23 0xFF800000#32 = (⊥ : EReal)
  unfold Ideal.ieee
  dsimp only
  rw [if_pos (by decide), if_pos (by decide), if_pos (by decide)]

/-- Of finite rows, weights and keys the two scores are one real. -/
theorem score_real (a0 : Rows.Idx → ℝ) (a1 : Qws.Idx → ℝ) (a2 : Kvs.Idx → ℝ) (i : Fin 1024) (h : Fin 32) (j : Fin 4096) :
    ∃ s : ℝ, score (fun x => (a0 x : EReal)) (fun x => (a1 x : EReal)) (fun x => (a2 x : EReal)) i h j = s
      ∧ scoreR (fun x => (a0 x : EReal)) (fun x => (a1 x : EReal)) (fun x => (a2 x : EReal)) i h j = s := by
  obtain ⟨c, hc⟩ := scl_real
  unfold score scoreR
  simp only [hc, ← EReal.coe_mul, ← coe_sum]
  refine ⟨_, rfl, ?_⟩
  norm_cast
  rw [Finset.sum_mul]
  refine Finset.sum_congr rfl fun d _ => ?_
  rw [Finset.sum_mul, Finset.sum_mul, Finset.sum_mul]
  exact Finset.sum_congr rfl fun k _ => by ring

section Reference

open Cert.ReferenceIdeal Cert.ReferenceIdeal.Gen

set_option maxRecDepth 16384

/-! ### The stages of the reference -/

/-- Which row sees which key. -/
def maskR : IVec S1024x4096 1 :=
  ori (cmpi .sle (absi (subi (broadcastInDim S1024x4096 ![0, 1] bcast_S1024x1_S1024x4096_0_1 (broadcastInDim S1024x1 ![0] bcast_S1024_S1024x1_0 (iotaInDim S1024 32 0)))
      (broadcastInDim S1024x4096 ![0, 1] bcast_S1x4096_S1024x4096_0_1 (broadcastInDim S1x4096 ![1] bcast_S4096_S1x4096_1 (iotaInDim S4096 32 0)))))
    (broadcastInDim S1024x4096 ![] bcast_S_S1024x4096 (constantI S_ 32 128#32)))
    (ori (broadcastInDim S1024x4096 ![0, 1] bcast_S1x4096_S1024x4096_0_1 (cmpi .slt (broadcastInDim S1x4096 ![1] bcast_S4096_S1x4096_1 (iotaInDim S4096 32 0))
        (broadcastInDim S1x4096 ![] bcast_S_S1x4096 (constantI S_ 32 32#32))))
      (broadcastInDim S1024x4096 ![0, 1] bcast_S1024x1_S1024x4096_0_1 (cmpi .slt (broadcastInDim S1024x1 ![0] bcast_S1024_S1024x1_0 (iotaInDim S1024 32 0))
        (broadcastInDim S1024x1 ![] bcast_S_S1024x1 (constantI S_ 32 32#32)))))

/-- Which row sees some key. -/
def anyR : IVec S1024 1 := Host.reduce IntOp.ori maskR (constantI S_ 1 0#1) reducesTo_S1024x4096_S1024_d1 h_S_

variable (a0 : FVec Ideal S1024x1024 .bf16) (a1 : FVec Ideal S1024x4096 .bf16) (a2 a3 : FVec Ideal S1x4096x32x128 .f32) (a4 : FVec Ideal S4096x1024 .bf16)

/-- The masked scores. -/
def maskedR : FVec Ideal S1x32x1024x4096 .f32 :=
  select (broadcastInDim S1x32x1024x4096 ![0, 1, 2, 3] bcast_S1x1x1024x4096_S1x32x1024x4096_0_1_2_3 (broadcastInDim S1x1x1024x4096 ![2, 3] bcast_S1024x4096_S1x1x1024x4096_2_3 maskR))
    (mulf (Host.dotGeneral dot_S1x1024x32x128_S1x4096x32x128_S1x32x1024x4096_3_3_1_1_02_02 none
        (shapeCast _ (Host.dotGeneral dot_S1024x1024_S1024x4096_S1024x4096_1_0_0_1_n_n none (extf .f32 a0 bitsLt_bf16_f32) (extf .f32 a1 bitsLt_bf16_f32)) shapeCasts_S1024x4096_S1x1024x32x128) a2)
      (broadcastInDim S1x32x1024x4096 ![] bcast_S_S1x32x1024x4096 (constant S_ .f32 0x3DB504F3#32)))
    (broadcastInDim S1x32x1024x4096 ![] bcast_S_S1x32x1024x4096 (id (constant S_ .f32 0xFF800000#32)))

/-- The weights before they are divided. -/
def expsR (t : FVec Ideal S1x32x1024x4096 .f32) : FVec Ideal S1x32x1024x4096 .f32 :=
  Host.exp (subf t (broadcastInDim S1x32x1024x4096 ![0, 1, 2, 3] bcast_S1x32x1024x1_S1x32x1024x4096_0_1_2_3
    (broadcastInDim S1x32x1024x1 ![0, 1, 2] bcast_S1x32x1024_S1x32x1024x1_0_1_2
      (Host.reduce FloatOps.maximumf t (constant S_ .f32 0xFF800000#32) reducesTo_S1x32x1024x4096_S1x32x1024_d3 h_S_))))

/-- Their sums. -/
def sumsR (e : FVec Ideal S1x32x1024x4096 .f32) : FVec Ideal S1x32x1024 .f32 :=
  Host.reduceAdd e (constant S_ .f32 0x00000000#32) reducesTo_S1x32x1024x4096_S1x32x1024_d3 h_S_

/-- What divides them. -/
def densR (z : FVec Ideal S1x32x1024 .f32) : FVec Ideal S1x32x1024x1 .f32 :=
  select (broadcastInDim S1x32x1024x1 ![0, 1, 2, 3] bcast_S1x1x1024x1_S1x32x1024x1_0_1_2_3 (broadcastInDim S1x1x1024x1 ![2] bcast_S1024_S1x1x1024x1_2 anyR))
    (broadcastInDim S1x32x1024x1 ![0, 1, 2] bcast_S1x32x1024_S1x32x1024x1_0_1_2 z)
    (broadcastInDim S1x32x1024x1 ![] bcast_S_S1x32x1024x1 (id (constant S_ .f32 0x3F800000#32)))

/-- The weights. -/
def weightsR (e : FVec Ideal S1x32x1024x4096 .f32) (z : FVec Ideal S1x32x1024x1 .f32) : FVec Ideal S1x32x1024x4096 .f32 :=
  select (broadcastInDim S1x32x1024x4096 ![0, 1, 2, 3] bcast_S1x1x1024x1_S1x32x1024x4096_0_1_2_3 (broadcastInDim S1x1x1024x1 ![2] bcast_S1024_S1x1x1024x1_2 anyR))
    (Host.divf e (broadcastInDim S1x32x1024x4096 ![0, 1, 2, 3] bcast_S1x32x1024x1_S1x32x1024x4096_0_1_2_3 z))
    (broadcastInDim S1x32x1024x4096 ![] bcast_S_S1x32x1024x4096 (id (constant S_ .f32 0x00000000#32)))

/-- The values weighed, head by head, for every row. -/
def ctxR (w : FVec Ideal S1x32x1024x4096 .f32) : FVec Ideal S1x32x128x1024 .f32 :=
  Host.dotGeneral dot_S1x4096x32x128_S1x32x1024x4096_S1x32x128x1024_1_3_3_2_02_01 none a3 w

/-- The heads side by side, times the output weights. -/
def lastR (c : FVec Ideal S1x32x128x1024 .f32) : FVec Ideal S1024x1024 .f32 :=
  Host.dotGeneral dot_S1024x4096_S4096x1024_S1024x1024_1_0_0_1_n_n none
    (shapeCast _ (transpose S1x1024x32x128 [0, 3, 1, 2] c transposes_S1x32x128x1024_S1x1024x32x128_0_3_1_2) shapeCasts_S1x1024x32x128_S1024x4096)
    (extf .f32 a4 bitsLt_bf16_f32)

/-! ### The stages at an entry -/

theorem select_one {α : Type} (x y : α) : Scalar.select 1#1 x y = x := if_pos rfl

theorem maskR_apply (i : Fin 1024) (j : Fin 4096) : maskR (ix2 i j) = BitVec.ofBool (decide (vis i.val j.val)) := by
  have hi := i.isLt
  have hj := j.isLt
  pointwise [maskR]
  rw [near_word _ _ (by omega) (by omega), lt_word _ (by omega), lt_word _ (by omega), ori_ofBool, ori_ofBool]
  exact congrArg BitVec.ofBool (decide_eq_decide.mpr (by unfold vis; omega))

theorem anyR_apply (i : Fin 1024) : anyR (ix1 i) = 1#1 := by
  pointwise [anyR]
  refine (Idealize.ShloMosaic.Routing.fold_ori _ _).mpr ⟨⟨i.val, by omega⟩, Finset.mem_univ _, ?_⟩
  rw [maskR_apply]
  simp [vis]

theorem maskedR_apply (h : Fin 32) (i : Fin 1024) (j : Fin 4096) :
    maskedR a0 a1 a2 (ix4 0 h i j) = if vis i.val j.val then scoreR a0 a1 a2 i h j else (⊥ : EReal) := by
  pointwise [maskedR]
  rw [maskR_apply, select_ofBool]
  refine if_congr Iff.rfl ?_ bot_word
  simp only [Nat.mul_comm h.val 128]
  rfl

theorem expsR_apply (t : FVec Ideal S1x32x1024x4096 .f32) (h : Fin 32) (i : Fin 1024) (j : Fin 4096) :
    expsR t (ix4 0 h i j)
      = Ideal.exp (t (ix4 0 h i j) - Finset.fold max (⊥ : EReal) (fun j : Fin 4096 => t (ix4 0 h i j)) Finset.univ) := by
  pointwise [expsR]
  rw [bot_word]

theorem sumsR_apply (e : FVec Ideal S1x32x1024x4096 .f32) (h : Fin 32) (i : Fin 1024) :
    sumsR e (ix3 0 h i) = ∑ j : Fin 4096, e (ix4 0 h i j) := by
  pointwise [sumsR]

theorem densR_apply (z : FVec Ideal S1x32x1024 .f32) (h : Fin 32) (i : Fin 1024) : densR z (ix4 0 h i 0) = z (ix3 0 h i) := by
  pointwise [densR]
  rw [anyR_apply, select_one]

theorem weightsR_apply (e : FVec Ideal S1x32x1024x4096 .f32) (z : FVec Ideal S1x32x1024x1 .f32) (h : Fin 32) (i : Fin 1024) (j : Fin 4096) :
    weightsR e z (ix4 0 h i j) = Ideal.div (e (ix4 0 h i j)) (z (ix4 0 h i 0)) := by
  pointwise [weightsR]
  rw [anyR_apply, select_one]

theorem ctxR_apply (w : FVec Ideal S1x32x1024x4096 .f32) (h : Fin 32) (d : Fin 128) (i : Fin 1024) :
    ctxR a3 w (ix4 0 h d i) = ∑ j : Fin 4096, a3 (ix4 0 j h d) * w (ix4 0 h i j) := by
  pointwise [ctxR]

theorem lastR_apply (c : FVec Ideal S1x32x128x1024 .f32) (i n : Fin 1024) :
    lastR a4 c (ix2 i n) = ∑ x : Fin 4096, c (ix4 0 ⟨x.val / 128, by omega⟩ ⟨x.val % 128, by omega⟩ i) * a4 (ix2 x n) := by
  pointwise [lastR]

/-- The reference, stage by stage. -/
def wholeR : FVec Ideal S1024x1024 .f32 :=
  lastR a4 (ctxR a3 (weightsR (expsR (maskedR a0 a1 a2)) (densR (sumsR (expsR (maskedR a0 a1 a2))))))

theorem res_eq (m : (ℓ : Loc nD τ sig) → Buf (Elt Ideal) ℓ) :
    Cert.ReferenceIdeal.Value.res_main_v45 m 0
      = wholeR (m (((0 : Dev nD).tc : Thread nD τ).loc main_arg0)) (m (((0 : Dev nD).tc : Thread nD τ).loc main_arg1))
          (m (((0 : Dev nD).tc : Thread nD τ).loc main_arg2)) (m (((0 : Dev nD).tc : Thread nD τ).loc main_arg3)) (m (((0 : Dev nD).tc : Thread nD τ).loc main_arg4)) := by
  unfold Cert.ReferenceIdeal.Value.res_main_v45 wholeR lastR ctxR weightsR densR sumsR expsR maskedR anyR maskR
  rfl

/-- Of finite rows, weights and keys the reference's result is `result`. -/
theorem whole_eq (b0 : Rows.Idx → ℝ) (b1 : Qws.Idx → ℝ) (b2 : Kvs.Idx → ℝ) (h0 : a0 = fun x => (b0 x : EReal)) (h1 : a1 = fun x => (b1 x : EReal))
    (h2 : a2 = fun x => (b2 x : EReal)) (i n : Fin 1024) : wholeR a0 a1 a2 a3 a4 (ix2 i n) = result a0 a1 a2 a3 a4 i n := by
  have hi := i.isLt
  unfold wholeR result
  rw [lastR_apply]
  refine Finset.sum_congr rfl fun x _ => congrArg (· * _) ?_
  rw [ctxR_apply]
  simp only [weightsR_apply, densR_apply, sumsR_apply, expsR_apply, maskedR_apply]
  choose s hs hs' using fun j => score_real b0 b1 b2 i ⟨x.val / 128, by omega⟩ j
  unfold attn wtR
  simp only [h0, h1, h2, hs, hs']
  exact softmax_eq (fun j : Fin 4096 => vis i.val j.val) s _ ⟨⟨i.val, by omega⟩, by unfold vis; dsimp only; omega⟩

end Reference

end Cert.Attn
-- ==== Proof.V.Dev.lean ====
module

public import proofs.«01_k».proof.Proof.V.Half
public import proofs.«01_k».proof.Proof.V.Ref
public import proofs.«01_k».proof.Proof.KI.Launch

/-! A device's rows of the kernel's result are those of the reference. -/

@[expose] public section

noncomputable section

namespace Cert.Attn

open Idealize.ShloMosaic Cert.KernelIdeal Cert.KernelIdeal.Gen Cert.KernelIdeal.Ring

set_option maxRecDepth 16384

/-! ### Words -/

theorem word_my : ∀ c : Dev nD, myW c = BitVec.ofNat 32 c.val := by decide +kernel

theorem word_far : ∀ (c : Dev nD) (k : Fin 3), qW c (BitVec.ofNat 32 (1 + k.val)) = BitVec.ofNat 32 ((c.val + 1 + k.val) % 4) := by decide +kernel

theorem word_base : ∀ (q : Fin 4) (b : Fin 2), baseW (BitVec.ofNat 32 q.val) (BitVec.ofNat 32 (128 * b.val)) = BitVec.ofNat 32 (256 * q.val + 128 * b.val) := by
  decide +kernel

theorem word_start : ∀ (q : Fin 4) (b : Fin 2),
    startW (BitVec.ofNat 32 q.val) (BitVec.ofNat 32 (128 * b.val)) = BitVec.ofNat 32 (256 * q.val + 128 * b.val - 128) := by decide +kernel

theorem off_own : ∀ (c : Dev nD) (b : Fin 2) (h : Fin 8),
    offOwn c (BitVec.ofNat 32 (128 * b.val)) h = ![h.val, 256 * c.val + 128 * b.val - 128, 0] := by decide +kernel

theorem off_far : ∀ (c : Dev nD) (k : Fin 3) (b : Fin 2) (h : Fin 8),
    offFar c (BitVec.ofNat 32 (1 + k.val)) (BitVec.ofNat 32 (128 * b.val)) h = ![h.val, 256 * ((c.val + 1 + k.val) % 4) + 128 * b.val - 128, 0] := by
  decide +kernel

/-! ### What the buffers hold, entry by entry -/

variable (m : (ℓ : Loc nD τ sig) → Buf (Elt Ideal) ℓ)

theorem dev_lt (c : Dev nD) : c.val < 4 := c.isLt

theorem xstg_eq (c : Dev nD) : xstg m c = m ((c.tc : Thread nD τ).loc main_arg0) := by
  unfold xstg
  funext j
  refine congrArg (m _) (funext fun a => Fin.ext ?_)
  fin_cases a <;> simp <;> decide

theorem wqV_eq (c : Dev nD) : wqV m c = m ((c.tc : Thread nD τ).loc main_arg1) := by
  unfold wqV
  funext j
  refine congrArg (m _) (funext fun a => Fin.ext ?_)
  fin_cases a <;> simp <;> decide

theorem woV_eq (c : Dev nD) : woV m c = m ((c.tc : Thread nD τ).loc main_arg4) := by
  unfold woV
  funext j
  refine congrArg (m _) (funext fun a => Fin.ext ?_)
  fin_cases a <;> simp <;> decide

theorem kvOf_apply (X : Vec Ideal S1x4096x32x128 .f32) (c : Dev nD) (h : Fin 8) (j : Fin 4096) (d : Fin 128) :
    kvOf (F := Ideal) X c h (ix2 j d) = X (ix4 0 j ⟨8 * c.val + h.val, by have := dev_lt c; omega⟩ d) := by
  pointwise [kvOf]
  refine congrArg X (funext fun a => Fin.ext ?_)
  rw [Idealize.ShloMosaic.ValueKit.rect_emb_unit_val]
  refine (congrArg (· + _) (congrFun (k0_off1_eq c h) a)).trans ?_
  fin_cases a <;> simp

theorem kAll_apply (c : Dev nD) (h : Fin 8) (j : Fin 4096) (d : Fin 128) :
    kAll m c (ix3 h j d) = kaV m c (ix4 0 j ⟨8 * c.val + h.val, by have := dev_lt c; omega⟩ d) := kvOf_apply _ c h j d

theorem vAll_apply (c : Dev nD) (h : Fin 8) (j : Fin 4096) (d : Fin 128) :
    vAll m c (ix3 h j d) = vaV m c (ix4 0 j ⟨8 * c.val + h.val, by have := dev_lt c; omega⟩ d) := kvOf_apply _ c h j d

theorem xH_apply (c : Dev nD) (b : Fin 2) (r : Fin 128) (k : Fin 1024) :
    xH m c b (ix2 r k) = xstg m c (ix2 ⟨128 * b.val + r.val, by omega⟩ k) := by
  unfold xH rect2
  refine congrArg (xstg m c) (funext fun a => Fin.ext ?_)
  rw [Idealize.ShloMosaic.ValueKit.rect_emb_unit_val]
  fin_cases a <;> simp

theorem around (f : Fin 4 → EReal) : ∀ c : Fin 4, f c + (f (prv c) + (f (prv (prv c)) + f (prv (prv (prv c))))) = ∑ d, f d := by
  intro c
  rw [Fin.sum_univ_four]
  fin_cases c
  · show f 0 + (f 3 + (f 2 + f 1)) = _; ac_rfl
  · show f 1 + (f 0 + (f 3 + f 2)) = _; ac_rfl
  · show f 2 + (f 1 + (f 0 + f 3)) = _; ac_rfl
  · show f 3 + (f 2 + (f 1 + f 0)) = _; ac_rfl

theorem around' (f : Fin 4 → EReal) : ∀ c : Fin 4, f c + (f (nxt c) + (f (nxt (nxt c)) + f (nxt (nxt (nxt c))))) = ∑ d, f d := by
  intro c
  rw [Fin.sum_univ_four]
  fin_cases c
  · show f 0 + (f 1 + (f 2 + f 3)) = _; ac_rfl
  · show f 1 + (f 2 + (f 3 + f 0)) = _; ac_rfl
  · show f 2 + (f 3 + (f 0 + f 1)) = _; ac_rfl
  · show f 3 + (f 0 + (f 1 + f 2)) = _; ac_rfl

/-! ### A device's shares -/

/-- What device `c` adds to row `r` of the half block `b` of device `q`. -/
def shareOf (c q : Dev nD) (b : Fin 2) (r : Fin 128) (n : Fin 1024) : EReal :=
  share (qmOf (F := Ideal) (xH m q b) (wqV m c)) (kAll m c) (vAll m c) (woV m c) (256 * q.val + 128 * b.val) r n

theorem one_val : (1 : Fin 2).val = 1 := rfl

theorem ownTV_eq (c : Dev nD) (r : Fin 128) (n : Fin 1024) : ownTV m c (ix2 r n) = shareOf m c c 0 r n := by
  have e1 : baseW (BitVec.ofNat 32 c.val) 0#32 = BitVec.ofNat 32 (256 * c.val + 0) := word_base c 0
  have e2 : startW (BitVec.ofNat 32 c.val) 0#32 = BitVec.ofNat 32 (256 * c.val + 0 - 128) := word_start c 0
  unfold ownTV shareOf
  rw [word_my]
  rw [e1, e2]
  refine fullIfV_eq _ _ _ _ _ _ _ c rfl _ rfl (off_own c 0) r n

theorem ownBV_eq (c : Dev nD) (r : Fin 128) (n : Fin 1024) : ownBV m c (ix2 r n) = shareOf m c c 1 r n := by
  have hc := dev_lt c
  have e1 : baseW (BitVec.ofNat 32 c.val) 128#32 = BitVec.ofNat 32 (256 * c.val + 128) := word_base c 1
  have e2 : startW (BitVec.ofNat 32 c.val) 128#32 = BitVec.ofNat 32 (256 * c.val + 128 - 128) := word_start c 1
  unfold ownBV shareOf
  rw [word_my]
  rw [e1, e2]
  refine halfV_eq _ _ _ _ _ _ _ rfl (by rw [one_val]; omega) (by rw [one_val]; omega) (off_own c 1) r (by rw [one_val]; omega) _ n

theorem farTV_eq (c q : Dev nD) (k : Fin 3) (hq : q.val = (c.val + 1 + k.val) % 4) (r : Fin 128) (n : Fin 1024) :
    farTV m c k (xH m q 0) (ix2 r n) = shareOf m c q 0 r n := by
  have e1 : baseW (BitVec.ofNat 32 q.val) 0#32 = BitVec.ofNat 32 (256 * q.val + 0) := word_base q 0
  have e2 : startW (BitVec.ofNat 32 q.val) 0#32 = BitVec.ofNat 32 (256 * q.val + 0 - 128) := word_start q 0
  unfold farTV shareOf
  rw [word_far, ← hq]
  rw [e1, e2]
  refine fullIfV_eq _ _ _ _ _ _ _ q rfl _ rfl (fun h => by rw [hq]; exact off_far c k 0 h) r n

theorem farBV_eq (c q : Dev nD) (k : Fin 3) (hq : q.val = (c.val + 1 + k.val) % 4) (r : Fin 128) (n : Fin 1024) :
    farBV m c k (xH m q 1) (ix2 r n) = shareOf m c q 1 r n := by
  have hc := dev_lt q
  have e1 : baseW (BitVec.ofNat 32 q.val) 128#32 = BitVec.ofNat 32 (256 * q.val + 128) := word_base q 1
  have e2 : startW (BitVec.ofNat 32 q.val) 128#32 = BitVec.ofNat 32 (256 * q.val + 128 - 128) := word_start q 1
  unfold farBV shareOf
  rw [word_far, ← hq]
  rw [e1, e2]
  refine halfV_eq _ _ _ _ _ _ _ rfl (by omega) (by omega) (fun h => by rw [hq]; exact off_far c k 1 h) r (by omega) _ n

/-- An upper half block of the result is the sum of the devices' shares. -/
theorem outH_0 (c : Dev nD) (r : Fin 128) (n : Fin 1024) : outH m c 0 (ix2 r n) = ∑ d : Fin 4, shareOf m d c 0 r n := by
  have h0 : ∀ c : Dev nD, prv (prv (prv (prv c))) = c := by decide
  have h1 : ∀ c : Dev nD, c.val = ((prv c).val + 1 + (0 : Fin 3).val) % 4 := by decide
  have h2 : ∀ c : Dev nD, c.val = ((prv (prv c)).val + 1 + (1 : Fin 3).val) % 4 := by decide
  have h3 : ∀ c : Dev nD, c.val = ((prv (prv (prv c))).val + 1 + (2 : Fin 3).val) % 4 := by decide
  rw [← around (fun d => shareOf m d c 0 r n) c]
  show ownTV m c (ix2 r n) + (farTV m (prv c) 0 (xH m (prv (prv (prv (prv c)))) 0) (ix2 r n)
    + (farTV m (prv (prv c)) 1 (xH m (prv (prv (prv (prv c)))) 0) (ix2 r n)
      + farTV m (prv (prv (prv c))) 2 (xH m (prv (prv (prv (prv c)))) 0) (ix2 r n))) = _
  rw [h0, ownTV_eq, farTV_eq m (prv c) c 0 (h1 c), farTV_eq m (prv (prv c)) c 1 (h2 c), farTV_eq m (prv (prv (prv c))) c 2 (h3 c)]

/-- So is a lower one. -/
theorem outH_1 (c : Dev nD) (r : Fin 128) (n : Fin 1024) : outH m c 1 (ix2 r n) = ∑ d : Fin 4, shareOf m d c 1 r n := by
  have h0 : ∀ c : Dev nD, nxt (nxt (nxt (nxt c))) = c := by decide
  have h1 : ∀ c : Dev nD, c.val = ((nxt c).val + 1 + (2 : Fin 3).val) % 4 := by decide
  have h2 : ∀ c : Dev nD, c.val = ((nxt (nxt c)).val + 1 + (1 : Fin 3).val) % 4 := by decide
  have h3 : ∀ c : Dev nD, c.val = ((nxt (nxt (nxt c))).val + 1 + (0 : Fin 3).val) % 4 := by decide
  rw [← around' (fun d => shareOf m d c 1 r n) c]
  show ownBV m c (ix2 r n) + (farBV m (nxt c) 2 (xH m (nxt (nxt (nxt (nxt c)))) 1) (ix2 r n)
    + (farBV m (nxt (nxt c)) 1 (xH m (nxt (nxt (nxt (nxt c)))) 1) (ix2 r n)
      + farBV m (nxt (nxt (nxt c))) 0 (xH m (nxt (nxt (nxt (nxt c)))) 1) (ix2 r n))) = _
  rw [h0, ownBV_eq, farBV_eq m (nxt c) c 2 (h1 c), farBV_eq m (nxt (nxt c)) c 1 (h2 c), farBV_eq m (nxt (nxt (nxt c))) c 0 (h3 c)]

/-! ### The whole arrays -/

section Whole

variable (A0 : Rows.Idx → EReal) (A1 : Qws.Idx → EReal) (A2 A3 : Kvs.Idx → EReal) (A4 : Ows.Idx → EReal)

/-- The devices hold the blocks of these arrays. -/
structure Holds : Prop where
  x : ∀ (c : Dev nD) (r : Fin 256) (k : Fin 1024), xstg m c (ix2 r k) = A0 (ix2 ⟨256 * c.val + r.val, by have := dev_lt c; omega⟩ k)
  wq : ∀ (c : Dev nD) (k n : Fin 1024), wqV m c (ix2 k n) = A1 (ix2 k ⟨1024 * c.val + n.val, by have := dev_lt c; omega⟩)
  k : ∀ c : Dev nD, kaV m c = A2
  v : ∀ c : Dev nD, vaV m c = A3
  wo : ∀ (c : Dev nD) (k n : Fin 1024), woV m c (ix2 k n) = A4 (ix2 ⟨1024 * c.val + k.val, by have := dev_lt c; omega⟩ n)

/-- A term of the result: column `x` of the heads' outputs. -/
def term (i n : Fin 1024) (x : Fin 4096) : EReal :=
  attn (wtR A0 A1 A2 i ⟨x.val / 128, by omega⟩) (fun j => A3 (ix4 0 j ⟨x.val / 128, by omega⟩ ⟨x.val % 128, by omega⟩)) * A4 (ix2 x n)

theorem row_lt (q : Dev nD) (b : Fin 2) (r : Fin 128) : 256 * q.val + 128 * b.val + r.val < 1024 := by have := dev_lt q; omega

theorem shareOf_eq (H : Holds m A0 A1 A2 A3 A4) (c q : Dev nD) (b : Fin 2) (r : Fin 128) (n : Fin 1024) :
    shareOf m c q b r n
      = ∑ y : Fin 1024, term A0 A1 A2 A3 A4 ⟨256 * q.val + 128 * b.val + r.val, row_lt q b r⟩ n ⟨1024 * c.val + y.val, by have := dev_lt c; omega⟩ := by
  have hc := dev_lt c
  unfold shareOf share term
  refine Finset.sum_congr rfl fun y _ => ?_
  have hy := y.isLt
  have ed : (1024 * c.val + y.val) / 128 = 8 * c.val + y.val / 128 := by omega
  have em : (1024 * c.val + y.val) % 128 = y.val % 128 := by omega
  simp only [ed, em]
  rw [H.wo]
  refine congrArg (· * _) (congrArg₂ attn (funext fun j => ?_) (funext fun j => ?_))
  · unfold wt wtR score
    refine congrArg Ideal.exp (if_congr Iff.rfl (Finset.sum_congr rfl fun d _ => ?_) rfl)
    rw [kAll_apply, H.k, qmOf_apply]
    refine congrArg (· * _) (Finset.sum_congr rfl fun k _ => ?_)
    rw [xH_apply, H.x, H.wq]
    unfold scl
    refine congrArg₂ (fun p q => A0 p * (A1 q * _)) ?_ ?_
    · exact congrArg (fun z => ix2 z k) (Fin.ext (by simp; omega))
    · exact congrArg (fun z => ix2 k z) (Fin.ext (by simp; omega))
  · rw [vAll_apply, H.v]

theorem sum_shares (H : Holds m A0 A1 A2 A3 A4) (q : Dev nD) (b : Fin 2) (r : Fin 128) (n : Fin 1024) :
    ∑ d : Fin 4, shareOf m d q b r n = result A0 A1 A2 A3 A4 ⟨256 * q.val + 128 * b.val + r.val, row_lt q b r⟩ n := by
  have e : ∀ f : Fin 4096 → EReal, ∑ x, f x = ∑ d : Fin 4, ∑ y : Fin 1024, f ⟨1024 * d.val + y.val, by omega⟩ := fun f => by
    rw [← Finset.sum_product', Finset.univ_product_univ, ← Equiv.sum_comp (finProdFinEquiv (m := 4) (n := 1024)) f]
    exact Finset.sum_congr rfl fun p _ => congrArg f (Fin.ext (by simp [finProdFinEquiv]; omega))
  unfold result
  rw [e]
  exact Finset.sum_congr rfl fun d _ => shareOf_eq m A0 A1 A2 A3 A4 H d q b r n

/-- A device's rows of the kernel's result. -/
theorem outV_eq (H : Holds m A0 A1 A2 A3 A4) (c : Dev nD) (r : Fin 256) (n : Fin 1024) :
    outV m c (ix2 r n) = result A0 A1 A2 A3 A4 ⟨256 * c.val + r.val, by have := dev_lt c; omega⟩ n := by
  have hr := r.isLt
  have hc := dev_lt c
  have e : ∀ b : Fin 2, outV m c (ix2 r n) = outH m c (if r.val < 128 then 0 else 1) (ix2 ⟨r.val % 128, Nat.mod_lt _ (by decide)⟩ n) := fun _ => by
    unfold outV
    refine congrArg (outH m c _) (funext fun a => ?_)
    fin_cases a <;> rfl
  rw [e 0]
  by_cases h : r.val < 128
  · rw [if_pos h, outH_0, sum_shares m A0 A1 A2 A3 A4 H]
    exact congrArg (fun z => result A0 A1 A2 A3 A4 z n) (Fin.ext (by simp; omega))
  · rw [if_neg h, outH_1, sum_shares m A0 A1 A2 A3 A4 H]
    exact congrArg (fun z => result A0 A1 A2 A3 A4 z n) (Fin.ext (by simp; omega))

end Whole

/-- The kernel's result on a device. -/
theorem arrAt_3 (ρ : Dev nD → PrngReg) (c : Dev nD) : (dats m ρ 0 c).arrAt (3 : Fin 4) cfg0.N = outV m c := by
  refine Pipeline.Dat.arrAt_eq_of_after_last (dats m ρ 0 c) (3 : Fin 4) t0_0 (by decide +kernel) (outV m c) fun j => ?_
  rfl

end Cert.Attn
-- ==== Proof.V.Pre.lean ====
module

public import proofs.«01_k».proof.Proof.Gen.Pre_finite_KernelIdeal
public import Idealize.ShloMosaic.Lib.ReduceAll
public import proofs.«01_k».proof.Proof.V.Math

/-! What the precondition says of a device's arguments: rows, query weights and keys have no infinite entry. -/

@[expose] public section

noncomputable section

namespace Cert.Attn

open Idealize.ShloMosaic Cert.Pre_finite_KernelIdeal

theorem top_word : Ideal.ofBits .f32 0x7F800000#32 = (⊤ : EReal) := by
  show Ideal.ieee 8 23 0x7F800000#32 = (⊤ : EReal)
  unfold Ideal.ieee
  dsimp only
  rw [if_pos (by decide), if_pos (by decide), if_neg (by decide)]

/-- An entry whose absolute value compares below +∞ is finite. -/
theorem finite_of_cmp (x : EReal) (h : Ideal.cmp .olt (max x (-x)) (Ideal.ofBits .f32 0x7F800000#32) = 1#1) : x ≠ ⊤ ∧ x ≠ ⊥ := by
  rw [top_word] at h
  have h' : max x (-x) < ⊤ := by
    by_contra hn
    have e : Ideal.cmp .olt (max x (-x)) ⊤ = BitVec.ofBool (decide (max x (-x) < ⊤)) := rfl
    rw [e, decide_eq_false hn] at h
    exact absurd h (by decide)
  refine ⟨?_, ?_⟩
  · rintro rfl; simp at h'
  · rintro rfl; simp at h'

instance : Subsingleton S_.Idx := ⟨fun _ _ => funext fun a => a.elim0⟩

variable (a0 : FVec Ideal S256x1024 .bf16) (a1 : FVec Ideal S1024x1024 .bf16) (a2 a3 : FVec Ideal S1x4096x32x128 .f32)
  (a4 : FVec Ideal S1024x1024 .bf16)

theorem finite_args (h : fn (F := Ideal) a0 a1 a2 a3 a4 = fun _ => 1#1) :
    (∀ i, a0 i ≠ (⊤ : EReal) ∧ a0 i ≠ (⊥ : EReal)) ∧ (∀ i, a1 i ≠ (⊤ : EReal) ∧ a1 i ≠ (⊥ : EReal))
      ∧ ∀ i, a2 i ≠ (⊤ : EReal) ∧ a2 i ≠ (⊥ : EReal) := by
  have h' := congrFun h (fun a => a.elim0)
  dsimp only [fn] at h'
  obtain ⟨h01, h2⟩ := IntOp.andi_eq_one.1 h'
  obtain ⟨h0, h1⟩ := IntOp.andi_eq_one.1 h01
  exact ⟨fun i => finite_of_cmp _ (Host.reduce_andi_all _ _ _ _ _ h0 i), fun i => finite_of_cmp _ (Host.reduce_andi_all _ _ _ _ _ h1 i),
    fun i => finite_of_cmp _ (Host.reduce_andi_all _ _ _ _ _ h2 i)⟩

end Cert.Attn
-- ==== Proof.V.Value.lean ====
module

public import proofs.«01_k».proof.Proof.V.Dev
public import proofs.«01_k».proof.Proof.V.Pre

/-! The reference's whole result, cut over the devices, is what the devices end with. -/

@[expose] public section

noncomputable section

namespace Cert.Attn

open Idealize.ShloMosaic Cert.KernelIdeal Cert.KernelIdeal.Gen Cert.KernelIdeal.Ring

set_option maxRecDepth 16384

/-- An index of two axes is the pair of its coordinates. -/
theorem ix2_surj {a b : ℕ} (i : (⟨2, ![a, b]⟩ : Shape).Idx) : ∃ (r : Fin a) (c : Fin b), i = ix2 r c := by
  refine ⟨i 0, i 1, funext fun d => ?_⟩
  fin_cases d <;> rfl

variable (m : (ℓ : Loc nD τ sig) → Buf (Elt Ideal) ℓ)
  (A0 : Rows.Idx → EReal) (A1 : Qws.Idx → EReal) (A2 A3 : Kvs.Idx → EReal) (A4 : Ows.Idx → EReal)

/-- The devices' arguments are the blocks of the whole arrays. -/
structure Blocks : Prop where
  x : ∀ c : Dev nD, m ((c.tc : Thread nD τ).loc main_arg0) = Layout.block ⟨2, ![256, 1024]⟩ ⟨2, ![1024, 1024]⟩ 0 4 c A0
  wq : ∀ c : Dev nD, m ((c.tc : Thread nD τ).loc main_arg1) = Layout.block ⟨2, ![1024, 1024]⟩ ⟨2, ![1024, 4096]⟩ 1 4 c A1
  k : ∀ c : Dev nD, m ((c.tc : Thread nD τ).loc main_arg2) = A2
  v : ∀ c : Dev nD, m ((c.tc : Thread nD τ).loc main_arg3) = A3
  wo : ∀ c : Dev nD, m ((c.tc : Thread nD τ).loc main_arg4) = Layout.block ⟨2, ![1024, 1024]⟩ ⟨2, ![4096, 1024]⟩ 0 4 c A4

theorem holds_of (B : Blocks m A0 A1 A2 A3 A4) : Holds m A0 A1 A2 A3 A4 where
  x c r k := by
    rw [xstg_eq, B.x]
    refine congrArg A0 (funext fun a => Fin.ext ?_)
    fin_cases a
    · show c.val * 256 + r.val = 256 * c.val + r.val; omega
    · rfl
  wq c k n := by
    rw [wqV_eq, B.wq]
    refine congrArg A1 (funext fun a => Fin.ext ?_)
    fin_cases a
    · rfl
    · show c.val * 1024 + n.val = 1024 * c.val + n.val; omega
  k c := B.k c
  v c := B.v c
  wo c k n := by
    rw [woV_eq, B.wo]
    refine congrArg A4 (funext fun a => Fin.ext ?_)
    fin_cases a
    · show c.val * 1024 + k.val = 1024 * c.val + k.val; omega
    · rfl

theorem real_of {s : Shape} (A : s.Idx → EReal) (h : ∀ i, A i ≠ ⊤ ∧ A i ≠ ⊥) : A = fun i => (((A i).toReal : ℝ) : EReal) :=
  funext fun i => (EReal.coe_toReal (h i).1 (h i).2).symm

/-- A device ends with its rows of the reference's result. -/
theorem outV_block (B : Blocks m A0 A1 A2 A3 A4)
    (hpre : ∀ c : Dev nD, Cert.Pre_finite_KernelIdeal.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (c : Dev nD) : outV m c = Layout.block ⟨2, ![256, 1024]⟩ ⟨2, ![1024, 1024]⟩ 0 4 c (wholeR A0 A1 A2 A3 A4) := by
  have hc := dev_lt c
  have H := holds_of m A0 A1 A2 A3 A4 B
  have hf := fun c => finite_args _ _ _ _ _ (hpre c)
  have f0 : ∀ i, A0 i ≠ ⊤ ∧ A0 i ≠ ⊥ := fun i => by
    obtain ⟨r, k, rfl⟩ := ix2_surj i
    have hr := r.isLt
    have e := H.x ⟨r.val / 256, by show _ < 4; omega⟩ ⟨r.val % 256, Nat.mod_lt _ (by decide)⟩ k
    have er : (⟨256 * (r.val / 256) + r.val % 256, by omega⟩ : Fin 1024) = r := Fin.ext (Nat.div_add_mod _ _)
    have e' := e.trans (congrArg (fun z => A0 (ix2 z k)) er)
    rw [← e', xstg_eq]
    exact (hf _).1 _
  have f1 : ∀ i, A1 i ≠ ⊤ ∧ A1 i ≠ ⊥ := fun i => by
    obtain ⟨k, n, rfl⟩ := ix2_surj i
    have hn := n.isLt
    have e := H.wq ⟨n.val / 1024, by show _ < 4; omega⟩ k ⟨n.val % 1024, Nat.mod_lt _ (by decide)⟩
    have en : (⟨1024 * (n.val / 1024) + n.val % 1024, by omega⟩ : Fin 4096) = n := Fin.ext (Nat.div_add_mod _ _)
    have e' := e.trans (congrArg (fun z => A1 (ix2 k z)) en)
    rw [← e', wqV_eq]
    exact (hf _).2.1 _
  have f2 : ∀ i, A2 i ≠ ⊤ ∧ A2 i ≠ ⊥ := fun i => by
    rw [← B.k c]
    exact (hf c).2.2 i
  funext j
  obtain ⟨r, n, rfl⟩ := ix2_surj j
  rw [outV_eq m A0 A1 A2 A3 A4 H c r n, ← whole_eq A0 A1 A2 A3 A4 _ _ _ (real_of A0 f0) (real_of A1 f1) (real_of A2 f2)]
  refine congrArg (wholeR A0 A1 A2 A3 A4) (funext fun a => Fin.ext ?_)
  fin_cases a
  · show 256 * c.val + r.val = c.val * 256 + r.val; omega
  · rfl

end Cert.Attn
-- ==== Proof.lean ====
module

public import proofs.«01_k».proof.Defs
public import proofs.«01_k».proof.Proof.K.Frame
public import proofs.«01_k».proof.Proof.KI.Frame
public import proofs.«01_k».proof.Proof.V.Value
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal

@[expose] public section

noncomputable section

namespace Cert.Proof

open Idealize.ShloMosaic Idealize.SL.Sem

/-- The kernel as printed ends, its arguments unchanged and its counters at zero. -/
theorem frame_kernel : Cert.quiescent_Kernel := fun m ρ _ => Cert.Kernel.Ring.frame_run (F := Bits) m ρ

/-- So does the kernel over the extended reals. -/
theorem frame_kernelIdeal : Cert.quiescent_KernelIdeal := fun m ρ _ => Cert.KernelIdeal.Ring.frame_run (F := Ideal) m ρ

/-- So does the reference, which has no counters. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The mask's constant is named −∞. -/
theorem preserves_mask : Cert.preserves_Kernel_KernelIdeal :=
  IdealRules.named_const.statement Cert.KernelIdeal.κ "mask" .f32 0xCE6E6B28#32 ⊥ rfl

/-- The two runs, from memories that hold the same arrays, end with the same result. -/
theorem algebraic : Cert.algebraic_KernelIdeal_ReferenceIdeal_pre_finite_KernelIdeal := fun m g m' g' hpre hargs => by
  have B : Cert.Attn.Blocks m _ _ _ _ _ := ⟨fun c => (hargs c).1, fun c => (hargs c).2.1, fun c => (hargs c).2.2.1,
    fun c => (hargs c).2.2.2.1, fun c => (hargs c).2.2.2.2⟩
  refine ⟨Cert.ReferenceIdeal.Value.res_main_v45 m' 0, ?_, ?_⟩
  · refine (θ_run Cert.KernelIdeal.defs _ _).mono (fun r h c => ⟨?_, Cert.KernelIdeal.Ring.args_of m g h c⟩) (Cert.KernelIdeal.Ring.run_main m g)
    exact (((h.1 c).1 (3 : Fin 4)).trans (Cert.Attn.arrAt_3 m g c)).trans
      ((Cert.Attn.outV_block m _ _ _ _ _ B hpre c).trans
        (congrArg (fun v => Layout.block ⟨2, ![256, 1024]⟩ ⟨2, ![1024, 1024]⟩ 0 4 c v) (Cert.Attn.res_eq m').symm))
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_kernelIdeal, fun m g _ => frame_kernelIdeal m g trivial, frame_referenceIdeal,
    fun m g _ => frame_referenceIdeal m g trivial, preserves_mask, algebraic⟩

end Cert.Proof

end
